-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_affine [hPre_finite_affine : Cert.Pre_finite_affine.Facts] (m : (ℓ : Loc Cert.KernelIdeal.nD Cert.KernelIdeal.τ Cert.KernelIdeal.sig) → Buf (Elt Ideal) ℓ) : Prop :=
  ∀ c : Dev Cert.KernelIdeal.nD,
    (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_affine [hPre_finite_affine : Cert.Pre_finite_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_affine [hKernelIdeal : Cert.KernelIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_affine [hReferenceIdeal : Cert.ReferenceIdeal.Facts] [hPre_finite_affine : Cert.Pre_finite_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_affine [hKernelIdeal : Cert.KernelIdeal.Facts] [hReferenceIdeal : Cert.ReferenceIdeal.Facts] [hPre_finite_affine : Cert.Pre_finite_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_v3_5) = v5 c
          ∧ r.2.mem ((c.tc : Thread Cert.ReferenceIdeal.nD Cert.ReferenceIdeal.τ).loc Cert.ReferenceIdeal.main_v3_6) = v6 c
          ∧ r.2.mem ((c.tc : Thread Cert.ReferenceIdeal.nD Cert.ReferenceIdeal.τ).loc Cert.ReferenceIdeal.main_v3_7) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_affine : Cert.Pre_finite_affine.Facts),
    quiescent_Kernel (hKernel := hKernel)
    ∧ quiescent_KernelIdeal (hKernelIdeal := hKernelIdeal)
    ∧ quiescent_KernelIdeal_pre_finite_affine (hKernelIdeal := hKernelIdeal) (hPre_finite_affine := hPre_finite_affine)
    ∧ quiescent_ReferenceIdeal (hReferenceIdeal := hReferenceIdeal)
    ∧ quiescent_ReferenceIdeal_pre_finite_affine (hReferenceIdeal := hReferenceIdeal) (hPre_finite_affine := hPre_finite_affine)
    ∧ preserves_Kernel_KernelIdeal
    ∧ algebraic_KernelIdeal_ReferenceIdeal_pre_finite_affine (hKernelIdeal := hKernelIdeal) (hReferenceIdeal := hReferenceIdeal) (hPre_finite_affine := hPre_finite_affine)
-- ==== Pre_finite_affine.lean ====
abbrev S2x1024x4096 : Shape := ⟨3, ![2, 1024, 4096]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S2x1024x4096 .bf16) (main_arg1 : FVec F S2x1024x4096 .bf16) (main_arg2 : FVec F S4096 .f32) (main_arg3 : IVec S2x1024x4096 32) (main_arg4 : FVec F S4096 .f32) (main_arg5 : FVec F S4096 .f32) : IVec S4096 1 × IVec S4096 1 :=
  let main_v0 : FVec F S4096 .f32 := Host.absf main_arg4
  let main_cst : FVec F S_ .f32 := constant S_ .f32 0x7F7FFFFF#32
  let main_v1 : FVec F S4096 .f32 := broadcastInDim S4096 ![] bcast_S_S4096 main_cst
  let main_v2 : IVec S4096 1 := cmpf .ole main_v0 main_v1
  let main_v3 : FVec F S4096 .f32 := Host.absf main_arg5
  let main_cst_0 : FVec F S_ .f32 := constant S_ .f32 0x7F7FFFFF#32
  let main_v4 : FVec F S4096 .f32 := broadcastInDim S4096 ![] bcast_S_S4096 main_cst_0
  let main_v5 : IVec S4096 1 := cmpf .ole main_v3 main_v4
  (main_v2, main_v5)
-- ==== Kernel.lean ====
abbrev S2x1024x4096 : Shape := ⟨3, ![2, 1024, 4096]⟩
abbrev S4096 : Shape := ⟨1, ![4096]⟩
abbrev S1x4096 : Shape := ⟨2, ![1, 4096]⟩
abbrev S2x1024x128 : Shape := ⟨3, ![2, 1024, 128]⟩
abbrev S2x32x4096 : Shape := ⟨3, ![2, 32, 4096]⟩
abbrev S2x1024x512 : Shape := ⟨3, ![2, 1024, 512]⟩
abbrev S2x1024 : Shape := ⟨2, ![2, 1024]⟩
abbrev S1x128x4096 : Shape := ⟨3, ![1, 128, 4096]⟩
abbrev S1x128x128 : Shape := ⟨3, ![1, 128, 128]⟩
abbrev S1x32x4096 : Shape := ⟨3, ![1, 32, 4096]⟩
abbrev S1x128x512 : Shape := ⟨3, ![1, 128, 512]⟩
abbrev S1024x128 : Shape := ⟨2, ![1024, 128]⟩
abbrev S128x4096 : Shape := ⟨2, ![128, 4096]⟩
abbrev S128x128 : Shape := ⟨2, ![128, 128]⟩
abbrev S32x128 : Shape := ⟨2, ![32, 128]⟩
abbrev S1x128x256 : Shape := ⟨3, ![1, 128, 256]⟩
abbrev S128x256 : Shape := ⟨2, ![128, 256]⟩
abbrev S1x256 : Shape := ⟨2, ![1, 256]⟩
abbrev S256x128 : Shape := ⟨2, ![256, 128]⟩
abbrev S128 : Shape := ⟨1, ![128]⟩
abbrev S128x1 : Shape := ⟨2, ![128, 1]⟩
abbrev S1x128 : Shape := ⟨2, ![1, 128]⟩
abbrev S8x128 : Shape := ⟨2, ![8, 128]⟩
abbrev S1x32x128 : Shape := ⟨3, ![1, 32, 128]⟩

abbrev nBuf : Space → Nat
  | .hbm => 17
  | .vmem => 31
  | .smem => 0
  | _ => 0

abbrev bufTy : (tb : Table) → Fin (tcTables nBuf tb) → BufTy
  | .hbm, ⟨0, _⟩ => ⟨S2x1024x4096, .bf16⟩
  | .hbm, ⟨1, _⟩ => ⟨S2x1024x4096, .bf16⟩
  | .hbm, ⟨2, _⟩ => ⟨S4096, .f32⟩
  | .hbm, ⟨3, _⟩ => ⟨S2x1024x4096, .i32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S1x4096, .f32⟩
  | .hbm, ⟨9, _⟩ => ⟨S2x1024x4096, .fp8e4m3⟩
  | .hbm, ⟨10, _⟩ => ⟨S2x1024x128, .i8⟩
  | .hbm, ⟨11, _⟩ => ⟨S2x1024x4096, .fp8e4m3⟩
  | .hbm, ⟨12, _⟩ => ⟨S2x32x4096, .i8⟩
  | .hbm, ⟨13, _⟩ => ⟨S2x1024x512, .i8⟩
  | .hbm, ⟨14, _⟩ => ⟨S2x1024, .f32⟩
  | .hbm, ⟨15, _⟩ => ⟨S2x1024, .f32⟩
  | .hbm, ⟨16, _⟩ => ⟨S2x1024x4096, .bf16⟩
  | .local _ .vmem, ⟨0, _⟩ => ⟨S1x128x4096, .bf16⟩
  | .local _ .vmem, ⟨1, _⟩ => ⟨S1x128x4096, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x4096, .f32⟩
  | .local _ .vmem, ⟨5, _⟩ => ⟨S1x128x4096, .i32⟩
  | .local _ .vmem, ⟨6, _⟩ => ⟨S1x128x4096, .i32⟩
  | .local _ .vmem, ⟨7, _⟩ => ⟨S1x4096, .f32⟩
  | .local _ .vmem, ⟨8, _⟩ => ⟨S1x4096, .f32⟩
  | .local _ .vmem, ⟨9, _⟩ => ⟨S1x128x4096, .fp8e4m3⟩
  | .local _ .vmem, ⟨10, _⟩ => ⟨S1x128x4096, .fp8e4m3⟩
  | .local _ .vmem, ⟨11, _⟩ => ⟨S1x128x128, .i8⟩
  | .local _ .vmem, ⟨12, _⟩ => ⟨S1x128x128, .i8⟩
  | .local _ .vmem, ⟨13, _⟩ => ⟨S1x128x4096, .fp8e4m3⟩
  | .local _ .vmem, ⟨14, _⟩ => ⟨S1x128x4096, .fp8e4m3⟩
  | .local _ .vmem, ⟨15, _⟩ => ⟨S1x32x4096, .i8⟩
  | .local _ .vmem, ⟨16, _⟩ => ⟨S1x32x4096, .i8⟩
  | .local _ .vmem, ⟨17, _⟩ => ⟨S1x128x512, .i8⟩
  | .local _ .vmem, ⟨18, _⟩ => ⟨S1x128x512, .i8⟩
  | .local _ .vmem, ⟨19, _⟩ => ⟨S2x1024, .f32⟩
  | .local _ .vmem, ⟨20, _⟩ => ⟨S2x1024, .f32⟩
  | .local _ .vmem, ⟨21, _⟩ => ⟨S1x128x4096, .bf16⟩
  | .local _ .vmem, ⟨22, _⟩ => ⟨S1x128x4096, .bf16⟩
  | .local _ .vmem, ⟨23, _⟩ => ⟨S1024x128, .bf16⟩
  | .local _ .vmem, ⟨24, _⟩ => ⟨S128x4096, .bf16⟩
  | .local _ .vmem, ⟨25, _⟩ => ⟨S128x4096, .f32⟩
  | .local _ .vmem, ⟨26, _⟩ => ⟨S1024x128, .f32⟩
  | .local _ .vmem, ⟨27, _⟩ => ⟨S1024x128, .f32⟩
  | .local _ .vmem, ⟨28, _⟩ => ⟨S128x128, .f32⟩
  | .local _ .vmem, ⟨29, _⟩ => ⟨S1024x128, .i32⟩
  | .local _ .vmem, ⟨30, _⟩ => ⟨S32x128, .f32⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![2, 8], ![false, false]⟩

def k0_off1 (i : grid0.Coords) : Fin 2 → Nat :=
  let arg0 : BitVec 32 := BitVec.ofNat 32 (i 0).val
  let c8_i32 : BitVec 32 := 8#32
  let v802 : BitVec 32 := Scalar.muli arg0 c8_i32
  let arg1 : BitVec 32 := BitVec.ofNat 32 (i 1).val
  let v803 : BitVec 32 := Scalar.addi v802 arg1
  let v809 : Index := Scalar.indexCast v803
  let c0_433 : Index := 0#32
  ![v809.toNat, 0]
def k0_off2 (i : grid0.Coords) : Fin 2 → Nat :=
  let c16_i32 : BitVec 32 := 16#32
  let arg0 : BitVec 32 := BitVec.ofNat 32 (i 0).val
  let c8_i32 : BitVec 32 := 8#32
  let v802 : BitVec 32 := Scalar.muli arg0 c8_i32
  let arg1 : BitVec 32 := BitVec.ofNat 32 (i 1).val
  let v803 : BitVec 32 := Scalar.addi v802 arg1
  let v804 : BitVec 32 := Scalar.addi c16_i32 v803
  let v817 : Index := Scalar.indexCast v804
  let c0_434 : Index := 0#32
  ![v817.toNat, 0]
def k0_off3 (i : grid0.Coords) (c0_i32_1726 : BitVec 32) (c0_i32_1724 : BitVec 32) : Fin 2 → Nat :=
  let arg1 : BitVec 32 := BitVec.ofNat 32 (i 1).val
  let c4_i32_1723 : BitVec 32 := 4#32
  let v5823 : BitVec 32 := Scalar.muli arg1 c4_i32_1723
  let v5824 : BitVec 32 := Scalar.addi v5823 c0_i32_1724
  let v5827 : BitVec 32 := Scalar.addi c0_i32_1726 v5824
  let v5828 : Index := Scalar.indexCast v5827
  let c0_1727 : Index := 0#32
  ![v5828.toNat, 0]
def k0_cond3 (i : grid0.Coords) : BitVec 1 :=
  let arg1 : BitVec 32 := BitVec.ofNat 32 (i 1).val
  let c7_i32 : BitVec 32 := 7#32
  let v9270 : BitVec 1 := Scalar.cmpi .eq arg1 c7_i32
  let v9271 : BitVec 32 := Scalar.extui v9270
  let c0_i32_3748 : BitVec 32 := 0#32
  let v9272 : BitVec 1 := Scalar.cmpi .ne v9271 c0_i32_3748
  v9272

def k0_cond2 (i : grid0.Coords) : BitVec 1 :=
  let arg0 : BitVec 32 := BitVec.ofNat 32 (i 0).val
  let c8_i32 : BitVec 32 := 8#32
  let v802 : BitVec 32 := Scalar.muli arg0 c8_i32
  let arg1 : BitVec 32 := BitVec.ofNat 32 (i 1).val
  let v803 : BitVec 32 := Scalar.addi v802 arg1
  let c15_i32 : BitVec 32 := 15#32
  let v821 : BitVec 1 := Scalar.cmpi .eq v803 c15_i32
  let v822 : BitVec 32 := Scalar.extui v821
  let c0_i32_435 : BitVec 32 := 0#32
  let v823 : BitVec 1 := Scalar.cmpi .ne v822 c0_i32_435
  v823

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x4096 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x4096 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x4096 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x512 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x128x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S2x1024x4096 : Shape := ⟨3, ![2, 1024, 4096]⟩
abbrev S4096 : Shape := ⟨1, ![4096]⟩
abbrev S1x1x4096 : Shape := ⟨3, ![1, 1, 4096]⟩
abbrev S2x1024x128 : Shape := ⟨3, ![2, 1024, 128]⟩
abbrev S2x32x4096 : Shape := ⟨3, ![2, 32, 4096]⟩
abbrev S2x1024x512 : Shape := ⟨3, ![2, 1024, 512]⟩
abbrev S2x1024 : Shape := ⟨2, ![2, 1024]⟩
abbrev S2x1024x1 : Shape := ⟨3, ![2, 1024, 1]⟩
abbrev S2x1024x128x32 : Shape := ⟨4, ![2, 1024, 128, 32]⟩
abbrev S2x1024x128x1 : Shape := ⟨4, ![2, 1024, 128, 1]⟩
abbrev S2x32x32x4096 : Shape := ⟨4, ![2, 32, 32, 4096]⟩
abbrev S2x32x1x4096 : Shape := ⟨4, ![2, 32, 1, 4096]⟩
abbrev S2x1024x512x8 : Shape := ⟨4, ![2, 1024, 512, 8]⟩

abbrev nBuf : Space → Nat
  | .hbm => 17
  | .vmem => 14
  | .smem => 0
  | _ => 0

abbrev bufTy : (tb : Table) → Fin (tcTables nBuf tb) → BufTy
  | .hbm, ⟨0, _⟩ => ⟨S2x1024x4096, .bf16⟩
  | .hbm, ⟨1, _⟩ => ⟨S2x1024x4096, .bf16⟩
  | .hbm, ⟨2, _⟩ => ⟨S4096, .f32⟩
  | .hbm, ⟨3, _⟩ => ⟨S2x1024x4096, .i32⟩
  | .hbm, ⟨4, _⟩ => ⟨S4096, .f32⟩
  | .hbm, ⟨5, _⟩ => ⟨S4096, .f32⟩
  | .hbm, ⟨6, _⟩ => ⟨S1x1x4096, .f32⟩
  | .hbm, ⟨7, _⟩ => ⟨S1x1x4096, .f32⟩
  | .hbm, ⟨8, _⟩ => ⟨S1x1x4096, .f32⟩
  | .hbm, ⟨9, _⟩ => ⟨S2x1024x4096, .fp8e4m3⟩
  | .hbm, ⟨10, _⟩ => ⟨S2x1024x128, .i8⟩
  | .hbm, ⟨11, _⟩ => ⟨S2x1024x4096, .fp8e4m3⟩
  | .hbm, ⟨12, _⟩ => ⟨S2x32x4096, .i8⟩
  | .hbm, ⟨13, _⟩ => ⟨S2x1024x512, .i8⟩
  | .hbm, ⟨14, _⟩ => ⟨S2x1024, .f32⟩
  | .hbm, ⟨15, _⟩ => ⟨S2x1024, .f32⟩
  | .hbm, ⟨16, _⟩ => ⟨S2x1024x4096, .bf16⟩
  | .local _ .vmem, ⟨0, _⟩ => ⟨S2x1024x4096, .bf16⟩
  | .local _ .vmem, ⟨1, _⟩ => ⟨S2x1024x4096, .bf16⟩
  | .local _ .vmem, ⟨2, _⟩ => ⟨S1x1x4096, .f32⟩
  | .local _ .vmem, ⟨3, _⟩ => ⟨S2x1024x4096, .i32⟩
  | .local _ .vmem, ⟨4, _⟩ => ⟨S1x1x4096, .f32⟩
  | .local _ .vmem, ⟨5, _⟩ => ⟨S1x1x4096, .f32⟩
  | .local _ .vmem, ⟨6, _⟩ => ⟨S2x1024x4096, .fp8e4m3⟩
  | .local _ .vmem, ⟨7, _⟩ => ⟨S2x1024x128, .i8⟩
  | .local _ .vmem, ⟨8, _⟩ => ⟨S2x1024x4096, .fp8e4m3⟩
  | .local _ .vmem, ⟨9, _⟩ => ⟨S2x32x4096, .i8⟩
  | .local _ .vmem, ⟨10, _⟩ => ⟨S2x1024x512, .i8⟩
  | .local _ .vmem, ⟨11, _⟩ => ⟨S2x1024, .f32⟩
  | .local _ .vmem, ⟨12, _⟩ => ⟨S2x1024, .f32⟩
  | .local _ .vmem, ⟨13, _⟩ => ⟨S2x1024x4096, .bf16⟩
  | _, _ => ⟨S2x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_v3_6 : Ref sig .tc := ⟨.hbm, 15, rfl⟩
abbrev main_v3_7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S2x1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x4096 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x32x4096 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x512 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Tpl.lean ====
/-
  A small language of straight-line kernel bodies over a fixed family of whole memrefs. A term `Tpl α` carries the program
  it stands for, what that program does to the memrefs' contents as a function (`run`), and the proof that the one does
  the other. Loops of a body are recursion over `Tpl`, so a body written out chunk after chunk is proved chunk by chunk.
-/
module

public import Idealize.ShloMosaic.Lib.Memref
public import Idealize.ShloMosaic.Rules.Step
public import Idealize.ShloMosaic.Lib.Pipeline.FrameBody
public import Idealize.ShloMosaic.Lib.Tactic

@[expose] public section

set_option maxRecDepth 16384

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

noncomputable section

namespace Cert.Tpl

variable {nD : Nat} {τ : Topo} {sig : RefSig} {Val : EltTy → Type} {Λ : Labels}
variable {Ix : Type} [DecidableEq Ix] {U : Type} [URA U]

local notation "𝕄" => MT nD τ sig Ix Val ℕ U ℕ

section Owns
variable {defs : Defs nD τ sig Val Λ} (𝒱 : Variants) (c : Thread nD τ) (bd : Option 𝒱.V) {Γ : PendingWaitsCtx sig Ix} (E : Set ℕ)
  {α : Type} {s : Shape} {e : EltTy}

/-- A load of a memref held at `X` continues at the part of `X` it reads. -/
theorem owns_load {m : Memref sig c.2.kind .vmem s e} {r : LoadRect s} {hl : m.view.LoadsAt r} {Q : α → sProp 𝕄}
    {k : (r.shape.Idx → Val e) → Prog (TpuEff nD τ sig Val Λ c.2) α} (X : s.Idx → Val e) :
    (owns c m fullShare X : sProp 𝕄)
      ⊢ iprop((owns c m fullShare X -∗ wp frame (wpE' defs 𝒱 c bd Γ) E (k (fun x => X (r.idx x))) Q)
        -∗ wp frame (wpE' defs 𝒱 c bd Γ) E (.op (.load m r hl) k) Q) := by
  iintro H Hk
  ihave H' := (show owns c m fullShare X ⊢ iprop(∃ g, ⌜m.view.read Val g = X⌝ ∗ m.view.loc c ↦[m.view.set]{fullShare} g) from .rfl) $$ H
  icases H' with ⟨%g, %hg, H⟩
  have hw := wp_load (Q := Q) 𝒱 c bd E (hl := hl) (k := k) (q := fullShare) (f := g) (m.view.setOn_subset_set r.set) (Γ := Γ) (defs := defs)
  iapply hw $$ H
  iintro H
  subst hg
  iapply Hk
  iapply (owns_intro c m fullShare g); iexact H

/-- An unmasked store into a memref held at `X` leaves it at `X` with the stored part replaced. -/
theorem owns_store {m : Memref sig c.2.kind .vmem s e} {r : Rect s} {w : r.shape.Idx → Val e} {Q : α → sProp 𝕄}
    {hx : (m.access r).Stores Finset.univ} {hm : Finset.univ = Finset.univ ∨ ∀ a, r.stride a = 1}
    {k : PUnit → Prog (TpuEff nD τ sig Val Λ c.2) α} (X : s.Idx → Val e) :
    (owns c m fullShare X : sProp 𝕄)
      ⊢ iprop((owns c m fullShare (r.overlay X w) -∗ wp frame (wpE' defs 𝒱 c bd Γ) E (k ⟨⟩) Q)
        -∗ wp frame (wpE' defs 𝒱 c bd Γ) E (.op (.store m r w Finset.univ hx hm) k) Q) := by
  iintro H Hk
  ihave H' := (show owns c m fullShare X ⊢ iprop(∃ g, ⌜m.view.read Val g = X⌝ ∗ m.view.loc c ↦[m.view.set]{fullShare} g) from .rfl) $$ H
  icases H' with ⟨%g, %hg, H⟩
  have hS : (m.access r).setOn Finset.univ ⊆ m.view.set := m.view.set_slice_subset r
  have hw := wp_store (Q := Q) 𝒱 c bd E (w := w) (hx := hx) (hm := hm) (k := k) (S := m.view.set) (f := g) hS (Γ := Γ) (defs := defs)
  iapply hw $$ [H]
  · iexact H
  iintro H
  iapply Hk
  have hread : m.view.read Val ((m.access r).write Val g w Finset.univ) = r.overlay X w := by
    subst hg
    funext j
    by_cases hj : j ∈ r.set
    · obtain ⟨i, rfl⟩ := r.exists_idx_of_mem hj
      rw [show m.view.read Val ((m.access r).write Val g w Finset.univ) (r.idx i)
          = (m.access r).read Val ((m.access r).write Val g w Finset.univ) i from rfl, View.read_write_univ]
      exact (Rect.overlay_emb r _ w i).symm
    · refine Eq.trans ?_ (Rect.overlay_of_not_mem r _ w hj).symm
      have hn : m.view.emb j ∉ (m.access r).setOn Finset.univ := by
        show m.view.emb j ∉ (m.view.slice r).set
        rw [View.set_slice, Finset.mem_map' m.view.emb]; exact hj
      rw [View.read_apply, View.read_apply]
      exact congrArg _ (View.write_of_not_mem (v := m.access r) g w Finset.univ hn)
  rw [← hread]
  iapply (owns_intro c m fullShare); iexact H

end Owns

variable {B : Type} [DecidableEq B] [Fintype B]

/-- The memrefs a body works on, all of vector memory and each whole. -/
structure Mems (sig : RefSig) (B : Type) where
  /-- Their shapes, -/
  shp : B → Shape
  /-- element types, -/
  elt : B → EltTy
  /-- and the memrefs. -/
  mem : (b : B) → Memref sig .tc .vmem (shp b) (elt b)

/-- The contents of every memref. -/
abbrev Mems.St (M : Mems sig B) (Val : EltTy → Type) : Type := (b : B) → (M.shp b).Idx → Val (M.elt b)

/-- Device `d` holds every memref, at the contents `σ`. -/
def Mems.held (M : Mems sig B) (d : Dev nD) (σ : M.St Val) : sProp 𝕄 :=
  bigSep Finset.univ fun b => owns (d : Thread nD τ) (M.mem b) fullShare (σ b)

theorem Mems.held_focus (M : Mems sig B) (d : Dev nD) (σ : M.St Val) (b : B) :
    (M.held d σ : sProp 𝕄) ⊢ iprop(owns (d : Thread nD τ) (M.mem b) fullShare (σ b)
      ∗ ∀ X, (owns (d : Thread nD τ) (M.mem b) fullShare X -∗ M.held d (Function.update σ b X))) := by
  unfold Mems.held
  rw [bigSep_univ_split b]
  refine (show iprop(owns (d : Thread nD τ) (M.mem b) fullShare (σ b)
    ∗ bigSep (Finset.univ.erase b) (fun b' => (owns (d : Thread nD τ) (M.mem b') fullShare (σ b') : sProp 𝕄))) ⊢ _ from ?_)
  iintro ⟨H, HR⟩
  isplitl [H]; · iexact H
  iintro %X HX
  have h : bigSep (Finset.univ.erase b) (fun b' => (owns (d : Thread nD τ) (M.mem b') fullShare (σ b') : sProp 𝕄))
      = bigSep (Finset.univ.erase b) (fun b' => owns (d : Thread nD τ) (M.mem b') fullShare (Function.update σ b X b')) :=
    bigSep_congr fun b' hb' => by rw [Function.update_of_ne (Finset.ne_of_mem_erase hb')]
  have h' : iprop(owns (d : Thread nD τ) (M.mem b) fullShare X
      ∗ bigSep (Finset.univ.erase b) (fun b' => (owns (d : Thread nD τ) (M.mem b') fullShare (σ b') : sProp 𝕄)))
      ⊢ bigSep Finset.univ (fun b' => owns (d : Thread nD τ) (M.mem b') fullShare (Function.update σ b X b')) := by
    rw [bigSep_univ_split b, ← h, Function.update_self]; exact .rfl
  iapply h'
  isplitl [HX]; · iexact HX
  iexact HR

/-- A program over the memrefs, what it does to their contents, and the proof that it does. -/
structure Tpl (nD : Nat) (τ : Topo) (Val : EltTy → Type) (Λ : Labels) (M : Mems sig B) (α : Type) where
  /-- The program. -/
  prog : Prog (TpuEff nD τ sig Val Λ .tc) α
  /-- Its result and the contents it leaves. -/
  run : M.St Val → α × M.St Val
  /-- Run from memrefs held at `σ`, the program ends at `run σ`. -/
  sim : ∀ {Ix : Type} [DecidableEq Ix] {U : Type} [URA U] (defs : Defs nD τ sig Val Λ) (𝒱 : Variants) (d : Dev nD) (bd : Option 𝒱.V)
    (Γ : PendingWaitsCtx sig Ix) (E : Set ℕ) (Q : α → sProp (MT nD τ sig Ix Val ℕ U ℕ)) (σ : M.St Val),
    iprop(M.held d σ ∗ (M.held d (run σ).2 -∗ Q (run σ).1)) ⊢ wp frame (wpE' defs 𝒱 (d : Thread nD τ) bd Γ) E prog Q

variable {M : Mems sig B} {α β : Type}

/-- A value. -/
def Tpl.pure (a : α) : Tpl nD τ Val Λ M α where
  prog := .ret a
  run σ := (a, σ)
  sim defs 𝒱 d bd Γ E Q σ := by
    refine BIBase.Entails.trans ?_ (le_wp_ret _ _ _ a Q)
    iintro ⟨H, Hk⟩; iapply Hk; iexact H

/-- One program after another. -/
def Tpl.bind (t : Tpl nD τ Val Λ M α) (f : α → Tpl nD τ Val Λ M β) : Tpl nD τ Val Λ M β where
  prog := t.prog >>= fun a => (f a).prog
  run σ := (f (t.run σ).1).run (t.run σ).2
  sim defs 𝒱 d bd Γ E Q σ := by
    rw [wp_bind]
    refine BIBase.Entails.trans ?_ (t.sim defs 𝒱 d bd Γ E _ σ)
    iintro ⟨H, Hk⟩
    isplitl [H]; · iexact H
    iintro H
    iapply ((f (t.run σ).1).sim defs 𝒱 d bd Γ E Q (t.run σ).2)
    isplitl [H]; · iexact H
    iexact Hk

instance : Monad (Tpl nD τ Val Λ M) where
  pure := Tpl.pure
  bind := Tpl.bind

/-- Load memref `b` through `r`. -/
def Tpl.load (b : B) (r : LoadRect (M.shp b)) (h : 0 < r.shape.numel) : Tpl nD τ Val Λ M (r.shape.Idx → Val (M.elt b)) where
  prog := Prog.lift (.load (M.mem b) r (View.loadsAt_vmem h))
  run σ := (fun x => σ b (r.idx x), σ)
  sim defs 𝒱 d bd Γ E Q σ := by
    iintro ⟨H, Hk⟩
    ihave H' := M.held_focus d σ b $$ H
    icases H' with ⟨H, HR⟩
    have hw := owns_load (Q := Q) (defs := defs) (Γ := Γ) 𝒱 (d : Thread nD τ) bd E (m := M.mem b) (r := r) (hl := View.loadsAt_vmem h) (k := .ret) (σ b)
    iapply hw $$ H
    iintro H
    ihave H' := HR $$ %(σ b) H
    rw [Function.update_eq_self]
    iapply (le_wp_ret _ _ _ _ Q)
    iapply Hk; iexact H'

/-- Store `w` into memref `b` through `r`. -/
def Tpl.store (b : B) (r : Rect (M.shp b)) (w : r.shape.Idx → Val (M.elt b)) (hx : ((M.mem b).access r).Stores Finset.univ) :
    Tpl nD τ Val Λ M PUnit where
  prog := Prog.lift (.store (M.mem b) r w Finset.univ hx (.inl rfl))
  run σ := (⟨⟩, Function.update σ b (r.overlay (σ b) w))
  sim defs 𝒱 d bd Γ E Q σ := by
    iintro ⟨H, Hk⟩
    ihave H' := M.held_focus d σ b $$ H
    icases H' with ⟨H, HR⟩
    have hw := owns_store (Q := Q) (defs := defs) (Γ := Γ) 𝒱 (d : Thread nD τ) bd E (m := M.mem b) (r := r) (w := w) (hx := hx) (hm := .inl rfl) (k := .ret) (σ b)
    iapply hw $$ H
    iintro H
    ihave H' := HR $$ %(r.overlay (σ b) w) H
    iapply (le_wp_ret _ _ _ _ Q)
    iapply Hk; iexact H'

/-- A program under a condition. -/
def Tpl.when (p : Prop) [Decidable p] (t : Tpl nD τ Val Λ M PUnit) : Tpl nD τ Val Λ M PUnit where
  prog := if p then t.prog else .ret ⟨⟩
  run σ := if p then t.run σ else (⟨⟩, σ)
  sim defs 𝒱 d bd Γ E Q σ := by
    by_cases h : p
    · simp only [if_pos h]; exact t.sim defs 𝒱 d bd Γ E Q σ
    · simp only [if_neg h]; exact (Tpl.pure ⟨⟩).sim defs 𝒱 d bd Γ E Q σ

/-- `t 0`, `t 1`, …, `t (n - 1)` in turn, each handed what the one before it left. -/
def Tpl.loop {γ : Type} : (n : ℕ) → ((i : ℕ) → i < n → γ → Tpl nD τ Val Λ M γ) → γ → Tpl nD τ Val Λ M γ
  | 0, _, g => Tpl.pure g
  | n + 1, t, g => Tpl.bind (Tpl.loop n (fun i h => t i (Nat.lt_succ_of_lt h)) g) fun g' => t n (Nat.lt_succ_self n) g'

end Cert.Tpl
-- ==== Proof.Body.lean ====
/-
  The kernel's body as a `Tpl`, chunk loops and all: what `cc0_ln_mxfp8` writes out op by op (`BodyEqKernel.lean` says that it
  is the same program). Generic in the number format, the signature and the labels.
-/
module

public import proofs.«01_k».proof.Proof.Tpl
public import Idealize.ShloMosaic.Lib.Pipeline
public import Idealize.ShloMosaic.PureOps

@[expose] public section

set_option maxRecDepth 16384

open Idealize.ShloMosaic Idealize.SL.Sem

noncomputable section

namespace Cert.Body

open Cert.Tpl

abbrev S1x128x4096 : Shape := ⟨3, ![1, 128, 4096]⟩
abbrev S1x4096 : Shape := ⟨2, ![1, 4096]⟩
abbrev S1x128x128 : Shape := ⟨3, ![1, 128, 128]⟩
abbrev S1x32x4096 : Shape := ⟨3, ![1, 32, 4096]⟩
abbrev S1x128x512 : Shape := ⟨3, ![1, 128, 512]⟩
abbrev S2x1024 : Shape := ⟨2, ![2, 1024]⟩
abbrev S1024x128 : Shape := ⟨2, ![1024, 128]⟩
abbrev S128x4096 : Shape := ⟨2, ![128, 4096]⟩
abbrev S128x128 : Shape := ⟨2, ![128, 128]⟩
abbrev S32x128 : Shape := ⟨2, ![32, 128]⟩
abbrev S8x128 : Shape := ⟨2, ![8, 128]⟩
abbrev S1x128 : Shape := ⟨2, ![1, 128]⟩
abbrev S128x1 : Shape := ⟨2, ![128, 1]⟩
abbrev S128 : Shape := ⟨1, ![128]⟩
abbrev S128x256 : Shape := ⟨2, ![128, 256]⟩
abbrev S256x128 : Shape := ⟨2, ![256, 128]⟩
abbrev S1x256 : Shape := ⟨2, ![1, 256]⟩
abbrev S1x128x256 : Shape := ⟨3, ![1, 128, 256]⟩
abbrev S1x32x128 : Shape := ⟨3, ![1, 32, 128]⟩

/-- The body's memrefs: the windows' blocks, then the scratch. -/
inductive B
  | x | a | bias | rand | gamma | beta
  | cr | er | cc | ec | mask | mean | rstd | h
  | pack | expand | y | row | col | cs | ce | stat
  deriving DecidableEq

instance : Fintype B :=
  ⟨{.x, .a, .bias, .rand, .gamma, .beta, .cr, .er, .cc, .ec, .mask, .mean, .rstd, .h, .pack, .expand, .y, .row, .col, .cs, .ce, .stat},
    fun b => by cases b <;> decide⟩

/-- Their shapes. -/
abbrev B.shp : B → Shape
  | .x | .a | .rand | .cr | .cc | .h => S1x128x4096
  | .bias | .gamma | .beta => S1x4096
  | .er => S1x128x128
  | .ec => S1x32x4096
  | .mask => S1x128x512
  | .mean | .rstd => S2x1024
  | .pack | .row | .col | .ce => S1024x128
  | .expand | .y => S128x4096
  | .cs => S128x128
  | .stat => S32x128

/-- Their element types. -/
abbrev B.elt : B → EltTy
  | .x | .a | .h | .pack | .expand => .bf16
  | .rand | .ce => .i32
  | .cr | .cc => .fp8e4m3
  | .er | .ec | .mask => .i8
  | .bias | .gamma | .beta | .mean | .rstd | .y | .row | .col | .cs | .stat => .f32

variable {nD : Nat} {τ : Topo} {sig : RefSig} {F : FTy → Type} [FloatOps F] {Λ : Labels}

/-- The family of memrefs, and that each is whole. -/
structure Args (sig : RefSig) where
  /-- The memref of each. -/
  mem : (b : B) → Memref sig .tc .vmem b.shp b.elt
  /-- Each is a whole buffer. -/
  whole : (b : B) → (mem b).IsWhole

/-- The family as the template's. -/
abbrev Args.mems (A : Args sig) : Mems sig B := ⟨B.shp, B.elt, A.mem⟩

/-- Contents of all of them. -/
abbrev St (F : FTy → Type) : Type := (b : B) → b.shp.Idx → Elt F b.elt

theorem inb2 {n0 n1 s0 s1 o0 o1 : ℕ} (h0 : o0 + s0 ≤ n0) (h1 : o1 + s1 ≤ n1) :
    ∀ a : Fin 2, (![o0, o1] : Fin 2 → ℕ) a + (![s0, s1] : Fin 2 → ℕ) a ≤ (![n0, n1] : Fin 2 → ℕ) a
  | 0 => h0
  | 1 => h1

theorem inb3 {n0 n1 n2 s0 s1 s2 o0 o1 o2 : ℕ} (h0 : o0 + s0 ≤ n0) (h1 : o1 + s1 ≤ n1) (h2 : o2 + s2 ≤ n2) :
    ∀ a : Fin 3, (![o0, o1, o2] : Fin 3 → ℕ) a + (![s0, s1, s2] : Fin 3 → ℕ) a ≤ (![n0, n1, n2] : Fin 3 → ℕ) a
  | 0 => h0
  | 1 => h1
  | 2 => h2

theorem inbS {n0 n1 s0 s1 o0 o1 t0 t1 : ℕ} (h0 : o0 + t0 * (s0 - 1) < n0) (h1 : o1 + t1 * (s1 - 1) < n1) :
    ∀ a : Fin 2, (![s0, s1] : Fin 2 → ℕ) a = 0 ∨ (![o0, o1] : Fin 2 → ℕ) a + (![t0, t1] : Fin 2 → ℕ) a * ((![s0, s1] : Fin 2 → ℕ) a - 1) < (![n0, n1] : Fin 2 → ℕ) a
  | 0 => .inr h0
  | 1 => .inr h1

theorem pos2 {n0 n1 : ℕ} (h0 : 0 < n0) (h1 : 0 < n1) : 0 < (⟨2, ![n0, n1]⟩ : Shape).numel := by
  simp [Shape.numel, Fin.prod_univ_two, h0, h1]

theorem pos3 {n0 n1 n2 : ℕ} (h0 : 0 < n0) (h1 : 0 < n1) (h2 : 0 < n2) : 0 < (⟨3, ![n0, n1, n2]⟩ : Shape).numel := by
  simp [Shape.numel, Fin.prod_univ_three, h0, h1, h2]

theorem p8x128 : 0 < S8x128.numel := pos2 (by omega) (by omega)
theorem p1x128 : 0 < S1x128.numel := pos2 (by omega) (by omega)
theorem p32x128 : 0 < S32x128.numel := pos2 (by omega) (by omega)
theorem p128x128 : 0 < S128x128.numel := pos2 (by omega) (by omega)
theorem p128x256 : 0 < S128x256.numel := pos2 (by omega) (by omega)
theorem p256x128 : 0 < S256x128.numel := pos2 (by omega) (by omega)
theorem p1x256 : 0 < S1x256.numel := pos2 (by omega) (by omega)
theorem p1024x128 : 0 < S1024x128.numel := pos2 (by omega) (by omega)
theorem p128x4096 : 0 < S128x4096.numel := pos2 (by omega) (by omega)
theorem p1x128x256 : 0 < S1x128x256.numel := pos3 (by omega) (by omega) (by omega)
theorem p1x128x128 : 0 < S1x128x128.numel := pos3 (by omega) (by omega) (by omega)
theorem p1x32x128 : 0 < S1x32x128.numel := pos3 (by omega) (by omega) (by omega)

theorem spos : ∀ a, 0 < (![32, 1] : Fin 2 → ℕ) a := by decide

/-! ## The rectangles -/

/-- Columns `256 k …` of a block of 128 rows, -/
abbrev rX (k : ℕ) (hk : k < 16) : Rect S1x128x4096 := .unit ![0, 0, 256 * k] S1x128x256.size (inb3 (by omega) (by omega) (by omega))
/-- of a vector of 4096, -/
abbrev rV (k : ℕ) (hk : k < 16) : Rect S1x4096 := .unit ![0, 256 * k] S1x256.size (inb2 (by omega) (by omega))
/-- of the 128 by 4096 scratch. -/
abbrev rY (k : ℕ) (hk : k < 16) : Rect S128x4096 := .unit ![0, 256 * k] S128x256.size (inb2 (by omega) (by omega))
/-- Rows `256 k …` of the packing weights. -/
abbrev rW (k : ℕ) (hk : k < 4) : Rect S1024x128 := .unit ![256 * k, 0] S256x128.size (inb2 (by omega) (by omega))
/-- Columns `128 o …` of the packed mask. -/
abbrev rM (o : ℕ) (ho : o < 4) : Rect S1x128x512 := .unit ![0, 0, 128 * o] S1x128x128.size (inb3 (by omega) (by omega) (by omega))
/-- Columns `128 j …` of the 128 by 4096 scratch, -/
abbrev rT (j : ℕ) (hj : j < 32) : Rect S128x4096 := .unit ![0, 128 * j] S128x128.size (inb2 (by omega) (by omega))
/-- of a vector of 4096. -/
abbrev rU (j : ℕ) (hj : j < 32) : Rect S1x4096 := .unit ![0, 128 * j] S1x128.size (inb2 (by omega) (by omega))
/-- Rows `8 g …` of the maxima. -/
abbrev rG (g : ℕ) (hg : g < 128) : Rect S1024x128 := .unit ![8 * g, 0] S8x128.size (inb2 (by omega) (by omega))
/-- Every eighth row from row `64 t + s` of the maxima. -/
abbrev rL (t s : ℕ) (ht : t < 16) (hs : s < 8) : LoadRect S1024x128 :=
  ⟨![64 * t + s, 0], S8x128.size, ![8, 1], inbS (by omega) (by omega)⟩
/-- Rows `8 t …` of the column scales. -/
abbrev rC (t : ℕ) (ht : t < 16) : Rect S128x128 := .unit ![8 * t, 0] S8x128.size (inb2 (by omega) (by omega))
/-- Row `r` of the column scales. -/
abbrev rD (r : ℕ) (hr : r < 128) : Rect S128x128 := .unit ![r, 0] S1x128.size (inb2 (by omega) (by omega))
/-- Every 32nd row from row `256 t + b` of the exponents kept. -/
abbrev rE (t b : ℕ) (ht : t < 4) (hb : b < 32) : Rect S1024x128 :=
  ⟨⟨![256 * t + b, 0], S8x128.size, ![32, 1], inbS (by omega) (by omega)⟩, spos⟩
/-- Rows `32 q …`, columns `128 j …` of the 128 by 4096 scratch, -/
abbrev rQ (q j : ℕ) (hq : q < 4) (hj : j < 32) : Rect S128x4096 := .unit ![32 * q, 128 * j] S32x128.size (inb2 (by omega) (by omega))
/-- of a block. -/
abbrev rO (q j : ℕ) (hq : q < 4) (hj : j < 32) : Rect S1x128x4096 :=
  .unit ![0, 32 * q, 128 * j] S1x32x128.size (inb3 (by omega) (by omega) (by omega))
/-- Row `r` of the kept statistics. -/
abbrev rS (r : ℕ) (hr : r < 32) : Rect S32x128 := .unit ![r, 0] S1x128.size (inb2 (by omega) (by omega))
/-- Columns `128 s …` of row `b` of a statistic. -/
abbrev rR (b s : ℕ) (hb : b < 2) (hs : s < 8) : Rect S2x1024 := .unit ![b, 128 * s] S1x128.size (inb2 (by omega) (by omega))
/-- Rows `32 j …` of the exponents kept. -/
abbrev rK (j : ℕ) (hj : j < 32) : Rect S1024x128 := .unit ![32 * j, 0] S32x128.size (inb2 (by omega) (by omega))
/-- Columns `128 j …` of the column exponents. -/
abbrev rZ (j : ℕ) (hj : j < 32) : Rect S1x32x4096 := .unit ![0, 0, 128 * j] S1x32x128.size (inb3 (by omega) (by omega) (by omega))
/-- The packing weights whole, -/
abbrev rPack : Rect S1024x128 := .unit ![0, 0] S1024x128.size (by decide)
/-- the expansion whole, -/
abbrev rExpand : Rect S128x4096 := .unit ![0, 0] S128x4096.size (by decide)
/-- a block of row exponents whole. -/
abbrev rEr : Rect S1x128x128 := .unit ![0, 0, 0] S1x128x128.size (by decide)

/-! ## The pure parts -/

/-- The packing weights. -/
def packInit : FVec F S1024x128 .bf16 :=
  truncf .bf16 (sitofp .f32 (select (cmpi .eq (shrsi (iota .tc S1024x128 32 [0] (by decide)) (broadcast S1024x128 3#32)) (iota .tc S1024x128 32 [1] (by decide)))
    (shli (broadcast S1024x128 1#32) (andi (iota .tc S1024x128 32 [0] (by decide)) (broadcast S1024x128 7#32))) (broadcast S1024x128 0#32))) (by decide)

/-- The expansion of group scales to columns. -/
def expandInit : FVec F S128x4096 .bf16 :=
  truncf .bf16 (select (cmpi .eq (shrsi (iota .tc S128x4096 32 [1] (by decide)) (broadcast S128x4096 5#32)) (iota .tc S128x4096 32 [0] (by decide)))
    (broadcast S128x4096 (Scalar.ofBits .f32 0x3F800000#32)) (broadcast S128x4096 (Scalar.ofBits .f32 0x00000000#32))) (by decide)

/-- Which elements are kept. -/
def keepOf (rand : IVec S1x128x256 32) : IVec S128x256 1 :=
  cmpi .uge (shapeCast S128x256 rand (by decide)) (broadcast S128x256 429496730#32)

/-- A chunk of `h`. -/
def hOf (keep : IVec S128x256 1) (a x : FVec F S1x128x256 .bf16) (bias : FVec F S1x256 .f32) : FVec F S128x256 .bf16 :=
  truncf .bf16 (addf (extf .f32 (shapeCast S128x256 x (by decide)) (by decide))
    (select keep (mulf (addf (extf .f32 (shapeCast S128x256 a (by decide)) (by decide)) (broadcastTo S128x256 (shapeCast S1x256 bias (by decide)) (by decide)))
      (broadcast S128x256 (Scalar.ofBits .f32 0x3F8E38E4#32))) (broadcast S128x256 (Scalar.ofBits .f32 0x00000000#32)))) (by decide)

/-- A chunk's two halves added to the running sums. -/
def addHalves (acc : FVec F S128x128 .f32) (v : FVec F S128x256 .f32) : FVec F S128x128 .f32 :=
  addf acc (addf (extractStridedSlice S128x128 ![0, 0] v (by decide)) (extractStridedSlice S128x128 ![0, 128] v (by decide)))

/-- The packing product's dimensions, -/
def dotPack : DotDims S128x256 S256x128 S128x128 where
  lhsContracting := [1]
  rhsContracting := [0]
  lhsNonContracting := [0]
  rhsNonContracting := [1]
  lhsBatch := []
  rhsBatch := []
  wf := by decide

/-- and the expansion's. -/
def dotExpand : DotDims S128x128 S128x256 S128x256 where
  lhsContracting := [1]
  rhsContracting := [0]
  lhsNonContracting := [0]
  rhsNonContracting := [1]
  lhsBatch := []
  rhsBatch := []
  wf := by decide

/-- A chunk's share of the packed mask. -/
def partOf (keep : IVec S128x256 1) (w : FVec F S256x128 .bf16) : FVec F S128x128 .f32 :=
  matmul dotPack none (truncf .bf16 (select keep (broadcast S128x256 (Scalar.ofBits .f32 0x3F800000#32)) (broadcast S128x256 (Scalar.ofBits .f32 0x00000000#32))) (by decide))
    w (constant S128x128 .f32 0x00000000#32)

/-- The running sums at zero. -/
def zeroAcc : FVec F S128x128 .f32 := broadcast S128x128 (Scalar.ofBits .f32 0x00000000#32)

/-- The mean over the 4096 channels of which `acc` holds the partial sums. -/
def meanOf (acc : FVec F S128x128 .f32) : FVec F S128x1 .f32 :=
  mulf (shapeCast S128x1 (multiReduction .add [1] S128 acc 0x00000000#32 (by decide) (.inl rfl) rfl) (by decide)) (broadcast S128x1 (Scalar.ofBits .f32 0x39800000#32))

/-- The reciprocal of the deviation. -/
def rstdOf (acc : FVec F S128x128 .f32) : FVec F S128x1 .f32 :=
  rsqrt (addf (meanOf acc) (broadcast S128x1 (Scalar.ofBits .f32 0x3727C5AC#32)))

/-- A chunk of `h` less the mean. -/
def centred (mean : FVec F S128x1 .f32) (h : FVec F S1x128x256 .bf16) : FVec F S128x256 .f32 :=
  subf (extf .f32 (shapeCast S128x256 h (by decide)) (by decide)) (broadcastTo S128x256 mean (by decide))

/-- A statistic of 128 rows as one row. -/
def statRow (v : FVec F S128x1 .f32) : FVec F S1x128 .f32 :=
  extractStridedSlice S1x128 ![0, 0] (transpose S128x128 [1, 0] (broadcastTo S128x128 (shapeCast S128x1 v (by decide)) (by decide)) (by decide)) (by decide)

/-- A tile of the normalised rows. -/
def yOf (rstd : FVec F S128x1 .f32) (c : FVec F S128x128 .f32) (gamma beta : FVec F S1x128 .f32) : FVec F S128x128 .f32 :=
  addf (mulf (mulf c (broadcastTo S128x128 rstd (by decide))) (broadcastTo S128x128 (shapeCast S1x128 gamma (by decide)) (by decide)))
    (broadcastTo S128x128 (shapeCast S1x128 beta (by decide)) (by decide))

theorem slices32 (q : ℕ) (hq : q < 4) : S128x128.Slices ![32 * q, 0] S32x128 :=
  match q, hq with
  | 0, _ => by decide
  | 1, _ => by decide
  | 2, _ => by decide
  | 3, _ => by decide

/-- The maximum of four rows of eight, of the 32 rows from row `32 q`. -/
def maxVregs (v : FVec F S128x128 .f32) (q : ℕ) (hq : q < 4) : FVec F S8x128 .f32 :=
  let w := extractStridedSlice S32x128 ![32 * q, 0] v (slices32 q hq)
  maximumf
    (maximumf (extractStridedSlice S8x128 ![0, 0] w (by decide)) (extractStridedSlice S8x128 ![8, 0] w (by decide)))
    (maximumf (extractStridedSlice S8x128 ![16, 0] w (by decide)) (extractStridedSlice S8x128 ![24, 0] w (by decide)))

/-- One step of the search for the exponent field of `t`. -/
def expStep (t : FVec F S8x128 .f32) (b : IVec S8x128 32) (bit : BitVec 32) : IVec S8x128 32 :=
  select (cmpf .oge t (bitcastToFloat .f32 (shli (addi b (broadcast S8x128 bit)) (broadcast S8x128 23#32)))) (addi b (broadcast S8x128 bit)) b

/-- The exponent field of `amax / 448`, 126 for one that is not that of a normal number. -/
def expField (amax : FVec F S8x128 .f32) : IVec S8x128 32 :=
  let t := mulf amax (broadcast S8x128 (Scalar.ofBits .f32 0x3B124925#32))
  let b := expStep t (expStep t (expStep t (expStep t (expStep t (expStep t (expStep t (expStep t (broadcast S8x128 0#32) 128#32) 64#32) 32#32) 16#32) 8#32) 4#32) 2#32) 1#32
  select (ori (cmpi .eq b (broadcast S8x128 0#32)) (cmpi .eq b (broadcast S8x128 255#32))) (broadcast S8x128 126#32) b

/-- The scale of an exponent field. -/
def scaleOf {s : Shape} (b : IVec s 32) : FVec F s .f32 := bitcastToFloat .f32 (shli (subi (broadcast s 253#32) b) (broadcast s 23#32))

theorem concat16 : Shape.Concatenates [S8x128, S8x128, S8x128, S8x128, S8x128, S8x128, S8x128, S8x128, S8x128, S8x128, S8x128, S8x128, S8x128, S8x128, S8x128, S8x128]
    S128x128 0 := by decide

/-- The row exponent fields side by side, one column each. -/
def fieldsOf (f : ℕ → IVec S8x128 32) : IVec S128x128 32 :=
  transpose S128x128 [1, 0] (concatenate S128x128 0 [⟨S8x128, f 0⟩, ⟨S8x128, f 1⟩, ⟨S8x128, f 2⟩, ⟨S8x128, f 3⟩, ⟨S8x128, f 4⟩, ⟨S8x128, f 5⟩, ⟨S8x128, f 6⟩, ⟨S8x128, f 7⟩,
    ⟨S8x128, f 8⟩, ⟨S8x128, f 9⟩, ⟨S8x128, f 10⟩, ⟨S8x128, f 11⟩, ⟨S8x128, f 12⟩, ⟨S8x128, f 13⟩, ⟨S8x128, f 14⟩, ⟨S8x128, f 15⟩] concat16) (by decide)

/-- Clipped to the codes' range and cast. -/
def quant {s : Shape} (v : FVec F s .f32) : FVec F s .fp8e4m3 :=
  truncf .fp8e4m3 (minimumf (broadcast s (Scalar.ofBits .f32 0x43E00000#32)) (maximumf (broadcast s (Scalar.ofBits .f32 0xC3E00000#32)) v)) (by decide)

/-- A chunk of row codes. -/
def rowCodes (scale : FVec F S128x128 .bf16) (e : FVec F S128x256 .bf16) (y : FVec F S128x256 .f32) : FVec F S128x256 .fp8e4m3 :=
  quant (mulf y (matmul dotExpand none scale e (constant S128x256 .f32 0x00000000#32)))

/-- A tile of column codes. -/
def colCodes (s : FVec F S1x128 .f32) (y : FVec F S32x128 .f32) : FVec F S32x128 .fp8e4m3 :=
  quant (mulf y (broadcastTo S32x128 s (by decide)))

/-! ## The body -/

variable (A : Args sig)

/-- A packed store of whole sublane groups comes with its evidence. -/
theorem stores_packed (b : B) (r : Rect b.shp) (hr : 0 < r.shape.numel) (hp : r.PackedRows b.elt.packing) : ((A.mem b).access r).Stores Finset.univ :=
  View.stores_vmem hr ((A.whole b).storeExact_slice rfl _ hp) fun _ => rfl

/-- A store of words too. -/
theorem stores_word (b : B) (r : Rect b.shp) (hr : 0 < r.shape.numel) (hb : b.elt.bits = 32) : ((A.mem b).access r).Stores Finset.univ :=
  View.stores_vmem_bits_univ hr hb

theorem packed_rX {e : EltTy} (he : e.packing ∣ 128) (k : ℕ) (hk : k < 16) : (rX k hk).PackedRows e.packing :=
  .inr ⟨Nat.le_succ 2, rfl, .inl ⟨Nat.dvd_zero _, he⟩⟩

theorem packed_rM {e : EltTy} (he : e.packing ∣ 128) (k : ℕ) (hk : k < 4) : (rM k hk).PackedRows e.packing :=
  .inr ⟨Nat.le_succ 2, rfl, .inl ⟨Nat.dvd_zero _, he⟩⟩

theorem packed_rZ {e : EltTy} (he : e.packing ∣ 32) (k : ℕ) (hk : k < 32) : (rZ k hk).PackedRows e.packing :=
  .inr ⟨Nat.le_succ 2, rfl, .inl ⟨Nat.dvd_zero _, he⟩⟩

theorem packed_rO {e : EltTy} (he : e.packing ∣ 32) (q j : ℕ) (hq : q < 4) (hj : j < 32) : (rO q j hq hj).PackedRows e.packing :=
  .inr ⟨Nat.le_succ 2, rfl, .inl ⟨Dvd.dvd.mul_right he q, he⟩⟩

/-- Read what a store is about to replace, and store. -/
def put (b : B) (r : Rect b.shp) (hr : 0 < r.shape.numel) (w : r.shape.Idx → Elt F b.elt) (hx : ((A.mem b).access r).Stores Finset.univ) :
    Tpl nD τ (Elt F) Λ A.mems PUnit :=
  Tpl.bind (Tpl.load (M := A.mems) b r.toLoadRect hr) fun _ => Tpl.store (M := A.mems) b r w hx

/-- Step 0 writes the constants. -/
def setup : Tpl nD τ (Elt F) Λ A.mems PUnit :=
  Tpl.bind (put A .pack rPack p1024x128 (shapeCast S1024x128 packInit (by decide)) (stores_packed A .pack rPack p1024x128 (by decide))) fun _ =>
  put A .expand rExpand p128x4096 (shapeCast S128x4096 expandInit (by decide)) (stores_packed A .expand rExpand p128x4096 (by decide))

/-- One chunk of the first pass: `h` and the kept bits. -/
def chunk1 (k kk : ℕ) (hk : k < 16) (hkk : kk < 4) (acc : FVec F S128x128 .f32) : Tpl nD τ (Elt F) Λ A.mems (FVec F S128x128 .f32 × FVec F S128x128 .f32) :=
  Tpl.bind (Tpl.load (M := A.mems) .rand (rX k hk).toLoadRect p1x128x256) fun rand =>
  Tpl.bind (Tpl.load (M := A.mems) .a (rX k hk).toLoadRect p1x128x256) fun a =>
  Tpl.bind (Tpl.load (M := A.mems) .bias (rV k hk).toLoadRect p1x256) fun bias =>
  Tpl.bind (Tpl.load (M := A.mems) .x (rX k hk).toLoadRect p1x128x256) fun x =>
  Tpl.bind (put A .h (rX k hk) p1x128x256 (shapeCast S1x128x256 (hOf (keepOf rand) a x bias) (by decide))
    (stores_packed A .h (rX k hk) p1x128x256 (packed_rX (by decide) k hk))) fun _ =>
  Tpl.bind (Tpl.load (M := A.mems) .pack (rW kk hkk).toLoadRect p256x128) fun w =>
  Tpl.pure (addHalves acc (extf .f32 (hOf (keepOf rand) a x bias) (by decide)), partOf (keepOf rand) w)

/-- Four chunks, whose kept bits fill 128 bytes a row. -/
def group1 (o : ℕ) (ho : o < 4) (acc : FVec F S128x128 .f32) : Tpl nD τ (Elt F) Λ A.mems (FVec F S128x128 .f32) :=
  Tpl.bind (chunk1 A (4 * o) 0 (by omega) (by omega) acc) fun p0 =>
  Tpl.bind (chunk1 A (4 * o + 1) 1 (by omega) (by omega) p0.1) fun p1 =>
  Tpl.bind (chunk1 A (4 * o + 2) 2 (by omega) (by omega) p1.1) fun p2 =>
  Tpl.bind (chunk1 A (4 * o + 3) 3 (by omega) (by omega) p2.1) fun p3 =>
  Tpl.bind (put A .mask (rM o ho) p1x128x128 (shapeCast S1x128x128 (trunci 8 (fptosi 32 (addf (addf (addf p0.2 p1.2) p2.2) p3.2)) (by decide)) (by decide))
    (stores_packed A .mask (rM o ho) p1x128x128 (packed_rM (by decide) o ho))) fun _ =>
  Tpl.pure p3.1

/-- One chunk of the second pass: `h` less the mean. -/
def chunk2 (mean : FVec F S128x1 .f32) (k : ℕ) (hk : k < 16) (acc : FVec F S128x128 .f32) : Tpl nD τ (Elt F) Λ A.mems (FVec F S128x128 .f32) :=
  Tpl.bind (Tpl.load (M := A.mems) .h (rX k hk).toLoadRect p1x128x256) fun h =>
  Tpl.bind (put A .y (rY k hk) p128x256 (shapeCast S128x256 (centred mean h) (by decide)) (stores_word A .y _ p128x256 rfl)) fun _ =>
  Tpl.pure (addHalves acc (mulf (centred mean h) (centred mean h)))

/-- The statistics of a step kept as two rows. -/
def stats (r : ℕ) (hr : r < 16) (mean rstd : FVec F S128x1 .f32) : Tpl nD τ (Elt F) Λ A.mems PUnit :=
  Tpl.bind (put A .stat (rS r (by omega)) p1x128 (shapeCast S1x128 (statRow mean) (by decide)) (stores_word A .stat _ p1x128 rfl)) fun _ =>
  put A .stat (rS (16 + r) (by omega)) p1x128 (shapeCast S1x128 (statRow rstd) (by decide)) (stores_word A .stat _ p1x128 rfl)

/-- One step's statistics copied out. -/
def statOut (r : ℕ) (hr : r < 16) (_ : PUnit) : Tpl nD τ (Elt F) Λ A.mems PUnit :=
  Tpl.bind (Tpl.load (M := A.mems) .stat (rS r (by omega)).toLoadRect p1x128) fun v =>
  Tpl.bind (put A .mean (rR (r / 8) (r % 8) (by omega) (by omega)) p1x128 v (stores_word A .mean _ p1x128 rfl)) fun _ =>
  Tpl.bind (Tpl.load (M := A.mems) .stat (rS (16 + r) (by omega)).toLoadRect p1x128) fun v =>
  put A .rstd (rR (r / 8) (r % 8) (by omega) (by omega)) p1x128 v (stores_word A .rstd _ p1x128 rfl)

/-- One tile's maxima over a group of 32 tokens, and over one of 32 channels. -/
def maxima (ay : FVec F S128x128 .f32) (j : ℕ) (hj : j < 32) (q : ℕ) (hq : q < 4) (_ : PUnit) : Tpl nD τ (Elt F) Λ A.mems PUnit :=
  Tpl.bind (put A .col (rG (q * 32 + j) (by omega)) p8x128 (shapeCast S8x128 (maxVregs ay q hq) (by decide)) (stores_word A .col _ p8x128 rfl)) fun _ =>
  put A .row (rG (j * 4 + q) (by omega)) p8x128 (shapeCast S8x128 (maxVregs (transpose S128x128 [1, 0] ay (by decide)) q hq) (by decide)) (stores_word A .row _ p8x128 rfl)

/-- One tile of the normalised rows. -/
def tile (rstd : FVec F S128x1 .f32) (j : ℕ) (hj : j < 32) (_ : PUnit) : Tpl nD τ (Elt F) Λ A.mems PUnit :=
  Tpl.bind (Tpl.load (M := A.mems) .y (rT j hj).toLoadRect p128x128) fun c =>
  Tpl.bind (Tpl.load (M := A.mems) .gamma (rU j hj).toLoadRect p1x128) fun gamma =>
  Tpl.bind (Tpl.load (M := A.mems) .beta (rU j hj).toLoadRect p1x128) fun beta =>
  Tpl.bind (put A .y (rT j hj) p128x128 (shapeCast S128x128 (yOf rstd c gamma beta) (by decide)) (stores_word A .y _ p128x128 rfl)) fun _ =>
  Tpl.loop 4 (fun q hq u => maxima A (absf (yOf rstd c gamma beta)) j hj q hq u) ⟨⟩

/-- The maximum of eight vectors loaded one after another. -/
def maxEight (ld : (s : ℕ) → s < 8 → Tpl nD τ (Elt F) Λ A.mems (FVec F S8x128 .f32)) : Tpl nD τ (Elt F) Λ A.mems (FVec F S8x128 .f32) :=
  Tpl.bind (ld 0 (by omega)) fun m0 => Tpl.bind (ld 1 (by omega)) fun m1 => Tpl.bind (ld 2 (by omega)) fun m2 => Tpl.bind (ld 3 (by omega)) fun m3 =>
  Tpl.bind (ld 4 (by omega)) fun m4 => Tpl.bind (ld 5 (by omega)) fun m5 => Tpl.bind (ld 6 (by omega)) fun m6 => Tpl.bind (ld 7 (by omega)) fun m7 =>
  Tpl.pure (maximumf (maximumf (maximumf m0 m1) (maximumf m2 m3)) (maximumf (maximumf m4 m5) (maximumf m6 m7)))

/-- Eight row exponent fields a lane. -/
def rowField (t : ℕ) (ht : t < 16) (f : ℕ → IVec S8x128 32) : Tpl nD τ (Elt F) Λ A.mems (ℕ → IVec S8x128 32) :=
  Tpl.bind (maxEight A fun s hs => Tpl.load (M := A.mems) .row (rL t s ht hs) p8x128) fun m =>
  Tpl.pure fun n => if n = t then expField m else f n

/-- The row exponents stored, and the row scales. -/
def rowScale (f : ℕ → IVec S8x128 32) : Tpl nD τ (Elt F) Λ A.mems (FVec F S128x128 .bf16) :=
  Tpl.bind (put A .er rEr p1x128x128 (shapeCast S1x128x128 (trunci 8 (addi (fieldsOf f) (broadcast S128x128 1#32)) (by decide)) (by decide))
    (stores_packed A .er rEr p1x128x128 (by decide))) fun _ =>
  Tpl.pure (truncf .bf16 (scaleOf (fieldsOf f)) (by decide))

/-- Eight column exponent fields a lane: their scales, and the exponents kept for the batch's last step. -/
def colField (i1 : ℕ) (h1 : i1 < 8) (q : ℕ) (hq : q < 4) (t : ℕ) (ht : t < 4) (_ : PUnit) : Tpl nD τ (Elt F) Λ A.mems PUnit :=
  Tpl.bind (maxEight A fun s hs => Tpl.load (M := A.mems) .col (rL (4 * q + t) s (by omega) hs) p8x128) fun m =>
  Tpl.bind (put A .cs (rC (4 * q + t) (by omega)) p8x128 (shapeCast S8x128 (scaleOf (expField m)) (by decide)) (stores_word A .cs _ p8x128 rfl)) fun _ =>
  put A .ce (rE t (4 * i1 + q) ht (by omega)) p8x128 (shapeCast S8x128 (addi (expField m) (broadcast S8x128 1#32)) (by decide)) (stores_word A .ce _ p8x128 rfl)

/-- One tile of column codes. -/
def colTile (j : ℕ) (hj : j < 32) (q : ℕ) (hq : q < 4) (_ : PUnit) : Tpl nD τ (Elt F) Λ A.mems PUnit :=
  Tpl.bind (Tpl.load (M := A.mems) .cs (rD (32 * q + j) (by omega)).toLoadRect p1x128) fun s =>
  Tpl.bind (Tpl.load (M := A.mems) .y (rQ q j hq hj).toLoadRect p32x128) fun y =>
  put A .cc (rO q j hq hj) p1x32x128 (shapeCast S1x32x128 (colCodes s y) (by decide)) (stores_packed A .cc _ p1x32x128 (packed_rO (by decide) q j hq hj))

/-- One chunk of codes. -/
def codes (scale : FVec F S128x128 .bf16) (k : ℕ) (hk : k < 16) (_ : PUnit) : Tpl nD τ (Elt F) Λ A.mems PUnit :=
  Tpl.bind (Tpl.load (M := A.mems) .expand (rY k hk).toLoadRect p128x256) fun e =>
  Tpl.bind (Tpl.load (M := A.mems) .y (rY k hk).toLoadRect p128x256) fun y =>
  Tpl.bind (put A .cr (rX k hk) p1x128x256 (shapeCast S1x128x256 (rowCodes scale e y) (by decide))
    (stores_packed A .cr (rX k hk) p1x128x256 (packed_rX (by decide) k hk))) fun _ =>
  Tpl.bind (Tpl.loop 4 (fun q hq u => colTile A (2 * k) (by omega) q hq u) ⟨⟩) fun _ =>
  Tpl.loop 4 (fun q hq u => colTile A (2 * k + 1) (by omega) q hq u) ⟨⟩

/-- One tile of the column exponents copied out. -/
def colOut (j : ℕ) (hj : j < 32) (_ : PUnit) : Tpl nD τ (Elt F) Λ A.mems PUnit :=
  Tpl.bind (Tpl.load (M := A.mems) .ce (rK j hj).toLoadRect p32x128) fun (e : IVec S32x128 32) =>
  put A .ec (rZ j hj) p1x32x128 (shapeCast S1x32x128 (trunci 8 e (by decide)) (by decide)) (stores_packed A .ec _ p1x32x128 (packed_rZ (by decide) j hj))

/-- The first pass, -/
def pass1 : Tpl nD τ (Elt F) Λ A.mems (FVec F S128x1 .f32) :=
  Tpl.bind (Tpl.loop 4 (group1 A) zeroAcc) fun acc => Tpl.pure (meanOf acc)

/-- the second, -/
def pass2 (mean : FVec F S128x1 .f32) : Tpl nD τ (Elt F) Λ A.mems (FVec F S128x1 .f32) :=
  Tpl.bind (Tpl.loop 16 (chunk2 A mean) zeroAcc) fun acc => Tpl.pure (rstdOf acc)

/-- the exponents, -/
def expPass (i1 : ℕ) (h1 : i1 < 8) : Tpl nD τ (Elt F) Λ A.mems (FVec F S128x128 .bf16) :=
  Tpl.bind (Tpl.loop 16 (rowField A) fun _ => broadcast S8x128 0#32) fun f =>
  Tpl.bind (rowScale A f) fun scale =>
  Tpl.bind (Tpl.loop 4 (fun q hq u => Tpl.loop 4 (fun t ht u => colField A i1 h1 q hq t ht u) u) ⟨⟩) fun _ =>
  Tpl.pure scale

/-- and the whole body at grid point `(i0, i1)`. -/
def body (i0 i1 : ℕ) (h0 : i0 < 2) (h1 : i1 < 8) : Tpl nD τ (Elt F) Λ A.mems PUnit :=
  Tpl.bind (Tpl.when (i0 = 0 ∧ i1 = 0) (setup A)) fun _ =>
  Tpl.bind (pass1 A) fun mean =>
  Tpl.bind (pass2 A mean) fun rstd =>
  Tpl.bind (stats A (8 * i0 + i1) (by omega) mean rstd) fun _ =>
  Tpl.bind (Tpl.when (8 * i0 + i1 = 15) (Tpl.loop 16 (statOut A) ⟨⟩)) fun _ =>
  Tpl.bind (Tpl.loop 32 (tile A rstd) ⟨⟩) fun _ =>
  Tpl.bind (expPass A i1 h1) fun scale =>
  Tpl.bind (Tpl.loop 16 (codes A scale) ⟨⟩) fun _ =>
  Tpl.when (i1 = 7) (Tpl.loop 32 (colOut A) ⟨⟩)

end Cert.Body
-- ==== Proof.BodyEqKernel.lean ====
/-
  The printed kernel body at each of the sixteen grid points is the template's program there.
-/
module

public import proofs.«01_k».proof.Proof.Body
public import proofs.«01_k».proof.Kernel
public import proofs.«01_k».proof.Proof.Gen.Kernel
public import Idealize.ShloMosaic.Lib.Tactic

@[expose] public section

set_option maxRecDepth 100000
set_option maxHeartbeats 0

open Idealize.ShloMosaic Idealize.SL.Sem

noncomputable section

namespace Cert.Kernel.Hand

open Cert.Kernel Cert.Kernel.Gen Cert.Body

variable {F : FTy → Type} [FloatOps F]

/-- The printed body on a family of memrefs. -/
abbrev printed (A : Args sig) (i : grid0.Coords) : Prog (TpuEff nD τ sig (Elt F) Λ₀ .tc) PUnit :=
  cc0_ln_mxfp8 i (A.mem .x) (A.whole .x) (A.mem .a) (A.whole .a) (A.mem .bias) (A.whole .bias) (A.mem .rand) (A.whole .rand) (A.mem .gamma) (A.whole .gamma) (A.mem .beta) (A.whole .beta) (A.mem .cr) (A.whole .cr) (A.mem .er) (A.whole .er) (A.mem .cc) (A.whole .cc) (A.mem .ec) (A.whole .ec) (A.mem .mask) (A.whole .mask) (A.mem .mean) (A.whole .mean) (A.mem .rstd) (A.whole .rstd) (A.mem .h) (A.whole .h) (A.mem .pack) (A.whole .pack) (A.mem .expand) (A.whole .expand) (A.mem .y) (A.whole .y) (A.mem .row) (A.whole .row) (A.mem .col) (A.whole .col) (A.mem .cs) (A.whole .cs) (A.mem .ce) (A.whole .ce) (A.mem .stat) (A.whole .stat)

theorem printed_eq (A : Args sig) : ∀ t : Fin 16, printed (F := F) A (grid0.coords t)
    = (body A (t.val / 8) (t.val % 8) (by omega) (by omega)).prog
  | 0 | 1 | 2 | 3 | 4 | 5 | 6 | 7 | 8 | 9 | 10 | 11 | 12 | 13 | 14 | 15 => by sl_kernel_rfl
  | ⟨n + 16, h⟩ => absurd h (by omega)

end Cert.Kernel.Hand
-- ==== Proof.RunKernel.lean ====
/-
  The launch: from what one step of the kernel does to its blocks and scratch, as a function (`body …`.run), to what the
  whole run leaves in memory, for any relation `aft` on the blocks and any invariant `I` on the scratch.
-/
module

public import proofs.«01_k».proof.Proof.BodyEqKernel
public import proofs.«01_k».proof.Proof.Gen.Kernel.Frame
public import proofs.«01_k».proof.Proof.Gen.Kernel.Launch
public import proofs.«01_k».proof.Proof.Gen.Kernel.Points
public import Idealize.ShloMosaic.Lib.Pipeline.FrameBody
public import Idealize.ShloMosaic.Lib.Tactic

@[expose] public section

set_option maxRecDepth 16384

noncomputable section

namespace Cert.Kernel.Hand

open Cert.Kernel Cert.Kernel.Gen Cert.Body Cert.Tpl
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

/-- The memrefs the body is called with at a point. -/
def memAt (t : Fin cfg0.N) : (b : B) → Memref sig .tc .vmem b.shp b.elt
  | .x => win0_0.stage (cfg0.slots t 0)
  | .a => win0_1.stage (cfg0.slots t 1)
  | .bias => win0_2.stage (cfg0.slots t 2)
  | .rand => win0_3.stage (cfg0.slots t 3)
  | .gamma => win0_4.stage (cfg0.slots t 4)
  | .beta => win0_5.stage (cfg0.slots t 5)
  | .cr => win0_6.stage (cfg0.slots t 6)
  | .er => win0_7.stage (cfg0.slots t 7)
  | .cc => win0_8.stage (cfg0.slots t 8)
  | .ec => win0_9.stage (cfg0.slots t 9)
  | .mask => win0_10.stage (cfg0.slots t 10)
  | .mean => win0_11.stage (cfg0.slots t 11)
  | .rstd => win0_12.stage (cfg0.slots t 12)
  | .h => win0_13.stage (cfg0.slots t 13)
  | .pack => Memref.whole cc0_scratch0
  | .expand => Memref.whole cc0_scratch1
  | .y => Memref.whole cc0_scratch2
  | .row => Memref.whole cc0_scratch3
  | .col => Memref.whole cc0_scratch4
  | .cs => Memref.whole cc0_scratch5
  | .ce => Memref.whole cc0_scratch6
  | .stat => Memref.whole cc0_scratch7

theorem wholeAt (t : Fin cfg0.N) : (b : B) → (memAt t b).IsWhole
  | .x => hstage0_0 ((cfg0.slots t 0).cast nbuf0_0)
  | .a => hstage0_1 ((cfg0.slots t 1).cast nbuf0_1)
  | .bias => hstage0_2 ((cfg0.slots t 2).cast nbuf0_2)
  | .rand => hstage0_3 ((cfg0.slots t 3).cast nbuf0_3)
  | .gamma => hstage0_4 ((cfg0.slots t 4).cast nbuf0_4)
  | .beta => hstage0_5 ((cfg0.slots t 5).cast nbuf0_5)
  | .cr => hstage0_6 ((cfg0.slots t 6).cast nbuf0_6)
  | .er => hstage0_7 ((cfg0.slots t 7).cast nbuf0_7)
  | .cc => hstage0_8 ((cfg0.slots t 8).cast nbuf0_8)
  | .ec => hstage0_9 ((cfg0.slots t 9).cast nbuf0_9)
  | .mask => hstage0_10 ((cfg0.slots t 10).cast nbuf0_10)
  | .mean => hstage0_11 ((cfg0.slots t 11).cast nbuf0_11)
  | .rstd => hstage0_12 ((cfg0.slots t 12).cast nbuf0_12)
  | .h => hstage0_13 ((cfg0.slots t 13).cast nbuf0_13)
  | .pack => Memref.isWhole_whole _
  | .expand => Memref.isWhole_whole _
  | .y => Memref.isWhole_whole _
  | .row => Memref.isWhole_whole _
  | .col => Memref.isWhole_whole _
  | .cs => Memref.isWhole_whole _
  | .ce => Memref.isWhole_whole _
  | .stat => Memref.isWhole_whole _

/-- The same, with the evidence. -/
def argsAt (t : Fin cfg0.N) : Args sig := ⟨memAt t, wholeAt t⟩

/-- The step at a point, as the template. -/
def stepAt (t : Fin cfg0.N) : Tpl nD τ (Elt F) Λ₀ (argsAt t).mems PUnit :=
  body (argsAt t) (t.val / 8) (t.val % 8) (by have := t.isLt; have h : cfg0.N = 16 := N_0; omega) (by omega)

theorem step_prog (t : Fin cfg0.N) : (bodyAt0 t : Prog (TpuEff nD τ sig (Elt F) Λ₀ .tc) PUnit) = (stepAt t).prog :=
  printed_eq (argsAt t) t

/-- The blocks of a state. -/
def win (σ : St F) : (w : Fin 14) → (cfg0.win w).block.Idx → Elt F (cfg0.win w).elt
  | 0 => σ .x
  | 1 => σ .a
  | 2 => σ .bias
  | 3 => σ .rand
  | 4 => σ .gamma
  | 5 => σ .beta
  | 6 => σ .cr
  | 7 => σ .er
  | 8 => σ .cc
  | 9 => σ .ec
  | 10 => σ .mask
  | 11 => σ .mean
  | 12 => σ .rstd
  | 13 => σ .h

/-- The state of blocks and scratch. -/
def merge (Y : (w : Fin cfg0.W) → (cfg0.win w).block.Idx → Elt F (cfg0.win w).elt) (σ : St F) : St F
  | .x => Y 0
  | .a => Y 1
  | .bias => Y 2
  | .rand => Y 3
  | .gamma => Y 4
  | .beta => Y 5
  | .cr => Y 6
  | .er => Y 7
  | .cc => Y 8
  | .ec => Y 9
  | .mask => Y 10
  | .mean => Y 11
  | .rstd => Y 12
  | .h => Y 13
  | .pack => σ .pack
  | .expand => σ .expand
  | .y => σ .y
  | .row => σ .row
  | .col => σ .col
  | .cs => σ .cs
  | .ce => σ .ce
  | .stat => σ .stat

theorem bigSep_B {M : Type} [URA M] (Φ : B → sProp M) : bigSep Finset.univ Φ = iprop(Φ .x ∗ Φ .a ∗ Φ .bias ∗ Φ .rand ∗ Φ .gamma ∗ Φ .beta ∗ Φ .cr ∗ Φ .er ∗ Φ .cc ∗ Φ .ec ∗ Φ .mask ∗ Φ .mean ∗ Φ .rstd ∗ Φ .h ∗ Φ .pack ∗ Φ .expand ∗ Φ .y ∗ Φ .row ∗ Φ .col ∗ Φ .cs ∗ Φ .ce ∗ Φ .stat) :=
  bigSep_univ_eq_bigSepL ([B.x, B.a, B.bias, B.rand, B.gamma, B.beta, B.cr, B.er, B.cc, B.ec, B.mask, B.mean, B.rstd, B.h, B.pack, B.expand, B.y, B.row, B.col, B.cs, B.ce, B.stat] : List B) (by decide) (by decide) Φ

theorem defs₀_row (t : Fin cfg0.N) :
    defs₀ (F := F) .tc cfg0.body (cfg0.bodyArgs t (cfg0.slots t)) = bodyAt0 t := by
  unfold defs₀; rw [Defs.onTc_tc]

/-- The scratch held at a state's contents. -/
def scratchAt (c : Dev nD) (σ : St F) : sProp 𝕄 := iprop(owns (c : Thread nD τ) (Memref.whole cc0_scratch0) fullShare (σ .pack) ∗ owns (c : Thread nD τ) (Memref.whole cc0_scratch1) fullShare (σ .expand) ∗ owns (c : Thread nD τ) (Memref.whole cc0_scratch2) fullShare (σ .y) ∗ owns (c : Thread nD τ) (Memref.whole cc0_scratch3) fullShare (σ .row) ∗ owns (c : Thread nD τ) (Memref.whole cc0_scratch4) fullShare (σ .col) ∗ owns (c : Thread nD τ) (Memref.whole cc0_scratch5) fullShare (σ .cs) ∗ owns (c : Thread nD τ) (Memref.whole cc0_scratch6) fullShare (σ .ce) ∗ owns (c : Thread nD τ) (Memref.whole cc0_scratch7) fullShare (σ .stat))

/-- Blocks and scratch held at a state's contents. -/
def heldAll (c : Dev nD) (t : Fin cfg0.N) (σ : St F) : sProp 𝕄 := iprop(owns (c : Thread nD τ) (memAt t .x) fullShare (σ .x) ∗ owns (c : Thread nD τ) (memAt t .a) fullShare (σ .a) ∗ owns (c : Thread nD τ) (memAt t .bias) fullShare (σ .bias) ∗ owns (c : Thread nD τ) (memAt t .rand) fullShare (σ .rand) ∗ owns (c : Thread nD τ) (memAt t .gamma) fullShare (σ .gamma) ∗ owns (c : Thread nD τ) (memAt t .beta) fullShare (σ .beta) ∗ owns (c : Thread nD τ) (memAt t .cr) fullShare (σ .cr) ∗ owns (c : Thread nD τ) (memAt t .er) fullShare (σ .er) ∗ owns (c : Thread nD τ) (memAt t .cc) fullShare (σ .cc) ∗ owns (c : Thread nD τ) (memAt t .ec) fullShare (σ .ec) ∗ owns (c : Thread nD τ) (memAt t .mask) fullShare (σ .mask) ∗ owns (c : Thread nD τ) (memAt t .mean) fullShare (σ .mean) ∗ owns (c : Thread nD τ) (memAt t .rstd) fullShare (σ .rstd) ∗ owns (c : Thread nD τ) (memAt t .h) fullShare (σ .h) ∗ owns (c : Thread nD τ) (memAt t .pack) fullShare (σ .pack) ∗ owns (c : Thread nD τ) (memAt t .expand) fullShare (σ .expand) ∗ owns (c : Thread nD τ) (memAt t .y) fullShare (σ .y) ∗ owns (c : Thread nD τ) (memAt t .row) fullShare (σ .row) ∗ owns (c : Thread nD τ) (memAt t .col) fullShare (σ .col) ∗ owns (c : Thread nD τ) (memAt t .cs) fullShare (σ .cs) ∗ owns (c : Thread nD τ) (memAt t .ce) fullShare (σ .ce) ∗ owns (c : Thread nD τ) (memAt t .stat) fullShare (σ .stat))

theorem held_eq (c : Dev nD) (t : Fin cfg0.N) (σ : St F) : (Mems.held (argsAt t).mems c σ : sProp 𝕄) = heldAll c t σ := by
  unfold Mems.held heldAll
  rw [bigSep_B]
  rfl

/-- The region's invariant: the scratch at contents of which `I` holds. -/
def ΦI (I : St F → Prop) (c : Dev nD) : sProp 𝕄 := iprop((∃ σ : St F, ⌜I σ⌝ ∗ scratchAt c σ) ∗ ∃ r, prngReg c r)

variable (m : (ℓ : Loc nD τ sig) → Buf (Elt F) ℓ) (ρ : Dev nD → PrngReg)
variable (aft : (c : Dev nD) → (w : Fin cfg0.W) → Fin cfg0.N → (Y X : (cfg0.win w).block.Idx → Elt F (cfg0.win w).elt) → Prop)
variable (I : Dev nD → ℕ → St F → Prop)

/-- The proof data. -/
def rdat (c : Dev nD) : RDat τ (Elt F) Unit ℕ (UR sig nD τ) ℕ cfg0 c where
  A w := V m c (Pipeline.arrRef spec0 w)
  after := aft c
  Φ t := ΦI (I c t.val) c
  q _ := fullShare
  owed _ := 0

/-- What a step has to do. -/
def StepOK : Prop := ∀ (c : Dev nD) (t : Fin cfg0.N) (Y : (w : Fin cfg0.W) → (cfg0.win w).block.Idx → Elt F (cfg0.win w).elt) (σ : St F),
  (∀ w, (rdat m aft I c).Finds w t (Y w)) → I c t.val σ →
    (∀ w, aft c w t (Y w) (win ((stepAt t).run (merge Y σ)).2 w)) ∧ I c (t.val + 1) ((stepAt t).run (merge Y σ)).2

variable {aft I}

theorem body_obligation (h : StepOK m aft I) (c : Dev nD) : (rdat m aft I c).BodyObligation (defs₀ (F := F)) Variants.none () Set.univ := by
  intro t Y hY
  rw [bigSep_W0, bigSep_W0, defs₀_row, step_prog]
  show iprop(((∃ σ : St F, ⌜I c t.val σ⌝ ∗ scratchAt c σ) ∗ ∃ r, prngReg c r) ∗ _ ∗ _) ⊢ _
  iintro ⟨⟨⟨%σ, %hI, HS⟩, Hr⟩, Howe, W0, W1, W2, W3, W4, W5, W6, W7, W8, W9, W10, W11, W12, W13⟩
  ihave HS' := (show scratchAt c σ ⊢ iprop(owns (c : Thread nD τ) (Memref.whole cc0_scratch0) fullShare (σ .pack) ∗ owns (c : Thread nD τ) (Memref.whole cc0_scratch1) fullShare (σ .expand) ∗ owns (c : Thread nD τ) (Memref.whole cc0_scratch2) fullShare (σ .y) ∗ owns (c : Thread nD τ) (Memref.whole cc0_scratch3) fullShare (σ .row) ∗ owns (c : Thread nD τ) (Memref.whole cc0_scratch4) fullShare (σ .col) ∗ owns (c : Thread nD τ) (Memref.whole cc0_scratch5) fullShare (σ .cs) ∗ owns (c : Thread nD τ) (Memref.whole cc0_scratch6) fullShare (σ .ce) ∗ owns (c : Thread nD τ) (Memref.whole cc0_scratch7) fullShare (σ .stat)) from .rfl) $$ HS
  icases HS' with ⟨S0, S1, S2, S3, S4, S5, S6, S7⟩
  obtain ⟨hA, hI'⟩ := h c t Y σ hY hI
  have hs := (stepAt (F := F) t).sim (Ix := Unit) (U := UR sig nD τ) (defs₀ (F := F)) Variants.none c none .empty Set.univ
    (fun _ => iprop(ΦI (I c (t.val + 1)) c ∗ (rdat m aft I c).owesAt () t.succ
      ∗ bigSep Finset.univ fun w => iprop(∃ X, ⌜aft c w t (Y w) X⌝ ∗ owns (c : Thread nD τ) ((cfg0.win w).stage (cfg0.slots t w)) fullShare X))) (merge Y σ)
  rw [bigSep_W0] at hs
  iapply hs
  isplitl [W0 W1 W2 W3 W4 W5 W6 W7 W8 W9 W10 W11 W12 W13 S0 S1 S2 S3 S4 S5 S6 S7]
  · iapply (show heldAll c t (merge Y σ) ⊢ Mems.held (argsAt t).mems c (merge Y σ) from by rw [← held_eq])
    unfold heldAll
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · iintro H
    ihave H' := (show Mems.held (argsAt t).mems c ((stepAt t).run (merge Y σ)).2 ⊢ heldAll c t ((stepAt t).run (merge Y σ)).2 from by rw [← held_eq]) $$ H
    ihave H' := (show heldAll c t ((stepAt t).run (merge Y σ)).2 ⊢ iprop(owns (c : Thread nD τ) (memAt t .x) fullShare (((stepAt t).run (merge Y σ)).2 .x) ∗ owns (c : Thread nD τ) (memAt t .a) fullShare (((stepAt t).run (merge Y σ)).2 .a) ∗ owns (c : Thread nD τ) (memAt t .bias) fullShare (((stepAt t).run (merge Y σ)).2 .bias) ∗ owns (c : Thread nD τ) (memAt t .rand) fullShare (((stepAt t).run (merge Y σ)).2 .rand) ∗ owns (c : Thread nD τ) (memAt t .gamma) fullShare (((stepAt t).run (merge Y σ)).2 .gamma) ∗ owns (c : Thread nD τ) (memAt t .beta) fullShare (((stepAt t).run (merge Y σ)).2 .beta) ∗ owns (c : Thread nD τ) (memAt t .cr) fullShare (((stepAt t).run (merge Y σ)).2 .cr) ∗ owns (c : Thread nD τ) (memAt t .er) fullShare (((stepAt t).run (merge Y σ)).2 .er) ∗ owns (c : Thread nD τ) (memAt t .cc) fullShare (((stepAt t).run (merge Y σ)).2 .cc) ∗ owns (c : Thread nD τ) (memAt t .ec) fullShare (((stepAt t).run (merge Y σ)).2 .ec) ∗ owns (c : Thread nD τ) (memAt t .mask) fullShare (((stepAt t).run (merge Y σ)).2 .mask) ∗ owns (c : Thread nD τ) (memAt t .mean) fullShare (((stepAt t).run (merge Y σ)).2 .mean) ∗ owns (c : Thread nD τ) (memAt t .rstd) fullShare (((stepAt t).run (merge Y σ)).2 .rstd) ∗ owns (c : Thread nD τ) (memAt t .h) fullShare (((stepAt t).run (merge Y σ)).2 .h) ∗ owns (c : Thread nD τ) (memAt t .pack) fullShare (((stepAt t).run (merge Y σ)).2 .pack) ∗ owns (c : Thread nD τ) (memAt t .expand) fullShare (((stepAt t).run (merge Y σ)).2 .expand) ∗ owns (c : Thread nD τ) (memAt t .y) fullShare (((stepAt t).run (merge Y σ)).2 .y) ∗ owns (c : Thread nD τ) (memAt t .row) fullShare (((stepAt t).run (merge Y σ)).2 .row) ∗ owns (c : Thread nD τ) (memAt t .col) fullShare (((stepAt t).run (merge Y σ)).2 .col) ∗ owns (c : Thread nD τ) (memAt t .cs) fullShare (((stepAt t).run (merge Y σ)).2 .cs) ∗ owns (c : Thread nD τ) (memAt t .ce) fullShare (((stepAt t).run (merge Y σ)).2 .ce) ∗ owns (c : Thread nD τ) (memAt t .stat) fullShare (((stepAt t).run (merge Y σ)).2 .stat)) from .rfl) $$ H'
    icases H' with ⟨W0, W1, W2, W3, W4, W5, W6, W7, W8, W9, W10, W11, W12, W13, S0, S1, S2, S3, S4, S5, S6, S7⟩
    isplitl [Hr S0 S1 S2 S3 S4 S5 S6 S7]
    · unfold ΦI
      isplitr [Hr]
      · iexists ((stepAt t).run (merge Y σ)).2
        isplitr
        · ipureintro; exact hI'
        · unfold scratchAt
          isplitl [S0]; · iexact S0
          isplitl [S1]; · iexact S1
          isplitl [S2]; · iexact S2
          isplitl [S3]; · iexact S3
          isplitl [S4]; · iexact S4
          isplitl [S5]; · iexact S5
          isplitl [S6]; · iexact S6
          iexact S7
      · iexact Hr
    isplitl [Howe]; · iexact Howe
    isplitl [W0]; · iexists (((stepAt t).run (merge Y σ)).2 .x); isplitr; · ipureintro; exact hA 0
                    iexact W0
    isplitl [W1]; · iexists (((stepAt t).run (merge Y σ)).2 .a); isplitr; · ipureintro; exact hA 1
                    iexact W1
    isplitl [W2]; · iexists (((stepAt t).run (merge Y σ)).2 .bias); isplitr; · ipureintro; exact hA 2
                    iexact W2
    isplitl [W3]; · iexists (((stepAt t).run (merge Y σ)).2 .rand); isplitr; · ipureintro; exact hA 3
                    iexact W3
    isplitl [W4]; · iexists (((stepAt t).run (merge Y σ)).2 .gamma); isplitr; · ipureintro; exact hA 4
                    iexact W4
    isplitl [W5]; · iexists (((stepAt t).run (merge Y σ)).2 .beta); isplitr; · ipureintro; exact hA 5
                    iexact W5
    isplitl [W6]; · iexists (((stepAt t).run (merge Y σ)).2 .cr); isplitr; · ipureintro; exact hA 6
                    iexact W6
    isplitl [W7]; · iexists (((stepAt t).run (merge Y σ)).2 .er); isplitr; · ipureintro; exact hA 7
                    iexact W7
    isplitl [W8]; · iexists (((stepAt t).run (merge Y σ)).2 .cc); isplitr; · ipureintro; exact hA 8
                    iexact W8
    isplitl [W9]; · iexists (((stepAt t).run (merge Y σ)).2 .ec); isplitr; · ipureintro; exact hA 9
                    iexact W9
    isplitl [W10]; · iexists (((stepAt t).run (merge Y σ)).2 .mask); isplitr; · ipureintro; exact hA 10
                     iexact W10
    isplitl [W11]; · iexists (((stepAt t).run (merge Y σ)).2 .mean); isplitr; · ipureintro; exact hA 11
                     iexact W11
    isplitl [W12]; · iexists (((stepAt t).run (merge Y σ)).2 .rstd); isplitr; · ipureintro; exact hA 12
                     iexact W12
    iexists (((stepAt t).run (merge Y σ)).2 .h); isplitr; · ipureintro; exact hA 13
    iexact W13

/-- The run. -/
theorem run_main (h : StepOK m aft I) (h0 : ∀ c σ, I c 0 σ) :
    θ_run defs (onTc (τ := τ) (main (F := F))) (s₀ m ρ) (fun r => RDat.FramePost cfg0 (rdat m aft I) (V m) r ∧ r.2.sem = fun _ => 0) :=
  Pipeline.RDat.θ_run_frame_track (Q' := _) cfgs (0 : Fin 1) launch0 defs₀ Variants.none (rdat m aft I) m ρ main
    (hbody := fun c => body_obligation m h c) (hshare := fun c => (rdat m aft I c).share_full fun _ => rfl)
    (howed := fun _ _ => rfl) (V := V m) (hmain := hmain m Variants.none) (hA := fun _ _ => rfl)
    (hin := fun c => by
      show iprop(Pipeline.scopedRest spec0 c ∗ ∃ r, prngReg c r) ⊢ iprop((∃ σ : St F, ⌜I c 0 σ⌝ ∗ scratchAt c σ) ∗ ∃ r, prngReg c r)
      rw [scopedRest0_eq]
      iintro ⟨⟨⟨%s0, S0⟩, ⟨%s1, S1⟩, ⟨%s2, S2⟩, ⟨%s3, S3⟩, ⟨%s4, S4⟩, ⟨%s5, S5⟩, ⟨%s6, S6⟩, ⟨%s7, S7⟩⟩, Hr⟩
      isplitr [Hr]
      · let σ : St F := fun b => match b with  | .pack => s0 | .expand => s1 | .y => s2 | .row => s3 | .col => s4 | .cs => s5 | .ce => s6 | .stat => s7 | _ => fun _ => Classical.arbitrary _
        iexists σ
        isplitr
        · ipureintro; exact h0 c σ
        · unfold scratchAt
          simp only [owns_whole]
          isplitl [S0]; · iexact S0
          isplitl [S1]; · iexact S1
          isplitl [S2]; · iexact S2
          isplitl [S3]; · iexact S3
          isplitl [S4]; · iexact S4
          isplitl [S5]; · iexact S5
          isplitl [S6]; · iexact S6
          iexact S7
      · iexact Hr)
    (hout := fun c => by
      show iprop((∃ σ : St F, ⌜I c _ σ⌝ ∗ scratchAt c σ) ∗ ∃ r, prngReg c r) ⊢ iprop(Pipeline.scopedRest spec0 c ∗ ∃ r, prngReg c r)
      rw [scopedRest0_eq]
      unfold scratchAt
      simp only [owns_whole]
      iintro ⟨⟨%σ, -, S0, S1, S2, S3, S4, S5, S6, S7⟩, Hr⟩
      isplitr [Hr]
      · isplitl [S0]; · iexists (σ .pack); iexact S0
        isplitl [S1]; · iexists (σ .expand); iexact S1
        isplitl [S2]; · iexists (σ .y); iexact S2
        isplitl [S3]; · iexists (σ .row); iexact S3
        isplitl [S4]; · iexists (σ .col); iexact S4
        isplitl [S5]; · iexists (σ .cs); iexact S5
        isplitl [S6]; · iexists (σ .ce); iexact S6
        iexists (σ .stat); iexact S7
      · iexact Hr)
    (hQ' := fun _ h => h)

/-- A run leaves the arguments as they were. -/
theorem args_unchanged {r : PUnit × _} (h : RDat.FramePost cfg0 (rdat m aft I) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h.arr_in c 0 rfl).trans (V_main_arg0 m c), (h.arr_in c 1 rfl).trans (V_main_arg1 m c),
    ((h c).2 main_arg2 (Pipeline.mem_restRefs_of main_arg2 (by decide) (by decide))).trans (V_main_arg2 m c),
    (h.arr_in c 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The run ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_unchanged m h.1, h.2⟩)
    (run_main m ρ (aft := fun _ _ _ _ _ => True) (I := fun _ _ _ => True) (fun _ _ _ _ _ _ => ⟨fun _ => trivial, trivial⟩) (fun _ _ => trivial))

end Cert.Kernel.Hand
-- ==== Proof.BodyEqKernelIdeal.lean ====
/-
  The printed kernel body at each of the sixteen grid points is the template's program there.
-/
module

public import proofs.«01_k».proof.Proof.Body
public import proofs.«01_k».proof.KernelIdeal
public import proofs.«01_k».proof.Proof.Gen.KernelIdeal
public import Idealize.ShloMosaic.Lib.Tactic

@[expose] public section

set_option maxRecDepth 100000
set_option maxHeartbeats 0

open Idealize.ShloMosaic Idealize.SL.Sem

noncomputable section

namespace Cert.KernelIdeal.Hand

open Cert.KernelIdeal Cert.KernelIdeal.Gen Cert.Body

variable {F : FTy → Type} [FloatOps F]

/-- The printed body on a family of memrefs. -/
abbrev printed (A : Args sig) (i : grid0.Coords) : Prog (TpuEff nD τ sig (Elt F) Λ₀ .tc) PUnit :=
  cc0_ln_mxfp8 i (A.mem .x) (A.whole .x) (A.mem .a) (A.whole .a) (A.mem .bias) (A.whole .bias) (A.mem .rand) (A.whole .rand) (A.mem .gamma) (A.whole .gamma) (A.mem .beta) (A.whole .beta) (A.mem .cr) (A.whole .cr) (A.mem .er) (A.whole .er) (A.mem .cc) (A.whole .cc) (A.mem .ec) (A.whole .ec) (A.mem .mask) (A.whole .mask) (A.mem .mean) (A.whole .mean) (A.mem .rstd) (A.whole .rstd) (A.mem .h) (A.whole .h) (A.mem .pack) (A.whole .pack) (A.mem .expand) (A.whole .expand) (A.mem .y) (A.whole .y) (A.mem .row) (A.whole .row) (A.mem .col) (A.whole .col) (A.mem .cs) (A.whole .cs) (A.mem .ce) (A.whole .ce) (A.mem .stat) (A.whole .stat)

theorem printed_eq (A : Args sig) : ∀ t : Fin 16, printed (F := F) A (grid0.coords t)
    = (body A (t.val / 8) (t.val % 8) (by omega) (by omega)).prog
  | 0 | 1 | 2 | 3 | 4 | 5 | 6 | 7 | 8 | 9 | 10 | 11 | 12 | 13 | 14 | 15 => by sl_kernel_rfl
  | ⟨n + 16, h⟩ => absurd h (by omega)

end Cert.KernelIdeal.Hand
-- ==== Proof.RunKernelIdeal.lean ====
/-
  The launch: from what one step of the kernel does to its blocks and scratch, as a function (`body …`.run), to what the
  whole run leaves in memory, for any relation `aft` on the blocks and any invariant `I` on the scratch.
-/
module

public import proofs.«01_k».proof.Proof.BodyEqKernelIdeal
public import proofs.«01_k».proof.Proof.Gen.KernelIdeal.Frame
public import proofs.«01_k».proof.Proof.Gen.KernelIdeal.Launch
public import proofs.«01_k».proof.Proof.Gen.KernelIdeal.Points
public import Idealize.ShloMosaic.Lib.Pipeline.FrameBody
public import Idealize.ShloMosaic.Lib.Tactic

@[expose] public section

set_option maxRecDepth 16384

noncomputable section

namespace Cert.KernelIdeal.Hand

open Cert.KernelIdeal Cert.KernelIdeal.Gen Cert.Body Cert.Tpl
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation cellOf)

variable {F : FTy → Type} [FloatOps F]

local notation "𝕄" => MT nD τ sig Unit (Elt F) ℕ (UR sig nD τ) ℕ

/-- The memrefs the body is called with at a point. -/
def memAt (t : Fin cfg0.N) : (b : B) → Memref sig .tc .vmem b.shp b.elt
  | .x => win0_0.stage (cfg0.slots t 0)
  | .a => win0_1.stage (cfg0.slots t 1)
  | .bias => win0_2.stage (cfg0.slots t 2)
  | .rand => win0_3.stage (cfg0.slots t 3)
  | .gamma => win0_4.stage (cfg0.slots t 4)
  | .beta => win0_5.stage (cfg0.slots t 5)
  | .cr => win0_6.stage (cfg0.slots t 6)
  | .er => win0_7.stage (cfg0.slots t 7)
  | .cc => win0_8.stage (cfg0.slots t 8)
  | .ec => win0_9.stage (cfg0.slots t 9)
  | .mask => win0_10.stage (cfg0.slots t 10)
  | .mean => win0_11.stage (cfg0.slots t 11)
  | .rstd => win0_12.stage (cfg0.slots t 12)
  | .h => win0_13.stage (cfg0.slots t 13)
  | .pack => Memref.whole cc0_scratch0
  | .expand => Memref.whole cc0_scratch1
  | .y => Memref.whole cc0_scratch2
  | .row => Memref.whole cc0_scratch3
  | .col => Memref.whole cc0_scratch4
  | .cs => Memref.whole cc0_scratch5
  | .ce => Memref.whole cc0_scratch6
  | .stat => Memref.whole cc0_scratch7

theorem wholeAt (t : Fin cfg0.N) : (b : B) → (memAt t b).IsWhole
  | .x => hstage0_0 ((cfg0.slots t 0).cast nbuf0_0)
  | .a => hstage0_1 ((cfg0.slots t 1).cast nbuf0_1)
  | .bias => hstage0_2 ((cfg0.slots t 2).cast nbuf0_2)
  | .rand => hstage0_3 ((cfg0.slots t 3).cast nbuf0_3)
  | .gamma => hstage0_4 ((cfg0.slots t 4).cast nbuf0_4)
  | .beta => hstage0_5 ((cfg0.slots t 5).cast nbuf0_5)
  | .cr => hstage0_6 ((cfg0.slots t 6).cast nbuf0_6)
  | .er => hstage0_7 ((cfg0.slots t 7).cast nbuf0_7)
  | .cc => hstage0_8 ((cfg0.slots t 8).cast nbuf0_8)
  | .ec => hstage0_9 ((cfg0.slots t 9).cast nbuf0_9)
  | .mask => hstage0_10 ((cfg0.slots t 10).cast nbuf0_10)
  | .mean => hstage0_11 ((cfg0.slots t 11).cast nbuf0_11)
  | .rstd => hstage0_12 ((cfg0.slots t 12).cast nbuf0_12)
  | .h => hstage0_13 ((cfg0.slots t 13).cast nbuf0_13)
  | .pack => Memref.isWhole_whole _
  | .expand => Memref.isWhole_whole _
  | .y => Memref.isWhole_whole _
  | .row => Memref.isWhole_whole _
  | .col => Memref.isWhole_whole _
  | .cs => Memref.isWhole_whole _
  | .ce => Memref.isWhole_whole _
  | .stat => Memref.isWhole_whole _

/-- The same, with the evidence. -/
def argsAt (t : Fin cfg0.N) : Args sig := ⟨memAt t, wholeAt t⟩

/-- The step at a point, as the template. -/
def stepAt (t : Fin cfg0.N) : Tpl nD τ (Elt F) Λ₀ (argsAt t).mems PUnit :=
  body (argsAt t) (t.val / 8) (t.val % 8) (by have := t.isLt; have h : cfg0.N = 16 := N_0; omega) (by omega)

theorem step_prog (t : Fin cfg0.N) : (bodyAt0 t : Prog (TpuEff nD τ sig (Elt F) Λ₀ .tc) PUnit) = (stepAt t).prog :=
  printed_eq (argsAt t) t

/-- The blocks of a state. -/
def win (σ : St F) : (w : Fin 14) → (cfg0.win w).block.Idx → Elt F (cfg0.win w).elt
  | 0 => σ .x
  | 1 => σ .a
  | 2 => σ .bias
  | 3 => σ .rand
  | 4 => σ .gamma
  | 5 => σ .beta
  | 6 => σ .cr
  | 7 => σ .er
  | 8 => σ .cc
  | 9 => σ .ec
  | 10 => σ .mask
  | 11 => σ .mean
  | 12 => σ .rstd
  | 13 => σ .h

/-- The state of blocks and scratch. -/
def merge (Y : (w : Fin cfg0.W) → (cfg0.win w).block.Idx → Elt F (cfg0.win w).elt) (σ : St F) : St F
  | .x => Y 0
  | .a => Y 1
  | .bias => Y 2
  | .rand => Y 3
  | .gamma => Y 4
  | .beta => Y 5
  | .cr => Y 6
  | .er => Y 7
  | .cc => Y 8
  | .ec => Y 9
  | .mask => Y 10
  | .mean => Y 11
  | .rstd => Y 12
  | .h => Y 13
  | .pack => σ .pack
  | .expand => σ .expand
  | .y => σ .y
  | .row => σ .row
  | .col => σ .col
  | .cs => σ .cs
  | .ce => σ .ce
  | .stat => σ .stat

theorem bigSep_B {M : Type} [URA M] (Φ : B → sProp M) : bigSep Finset.univ Φ = iprop(Φ .x ∗ Φ .a ∗ Φ .bias ∗ Φ .rand ∗ Φ .gamma ∗ Φ .beta ∗ Φ .cr ∗ Φ .er ∗ Φ .cc ∗ Φ .ec ∗ Φ .mask ∗ Φ .mean ∗ Φ .rstd ∗ Φ .h ∗ Φ .pack ∗ Φ .expand ∗ Φ .y ∗ Φ .row ∗ Φ .col ∗ Φ .cs ∗ Φ .ce ∗ Φ .stat) :=
  bigSep_univ_eq_bigSepL ([B.x, B.a, B.bias, B.rand, B.gamma, B.beta, B.cr, B.er, B.cc, B.ec, B.mask, B.mean, B.rstd, B.h, B.pack, B.expand, B.y, B.row, B.col, B.cs, B.ce, B.stat] : List B) (by decide) (by decide) Φ

theorem defs₀_row (t : Fin cfg0.N) :
    defs₀ (F := F) .tc cfg0.body (cfg0.bodyArgs t (cfg0.slots t)) = bodyAt0 t := by
  unfold defs₀; rw [Defs.onTc_tc]

/-- The scratch held at a state's contents. -/
def scratchAt (c : Dev nD) (σ : St F) : sProp 𝕄 := iprop(owns (c : Thread nD τ) (Memref.whole cc0_scratch0) fullShare (σ .pack) ∗ owns (c : Thread nD τ) (Memref.whole cc0_scratch1) fullShare (σ .expand) ∗ owns (c : Thread nD τ) (Memref.whole cc0_scratch2) fullShare (σ .y) ∗ owns (c : Thread nD τ) (Memref.whole cc0_scratch3) fullShare (σ .row) ∗ owns (c : Thread nD τ) (Memref.whole cc0_scratch4) fullShare (σ .col) ∗ owns (c : Thread nD τ) (Memref.whole cc0_scratch5) fullShare (σ .cs) ∗ owns (c : Thread nD τ) (Memref.whole cc0_scratch6) fullShare (σ .ce) ∗ owns (c : Thread nD τ) (Memref.whole cc0_scratch7) fullShare (σ .stat))

/-- Blocks and scratch held at a state's contents. -/
def heldAll (c : Dev nD) (t : Fin cfg0.N) (σ : St F) : sProp 𝕄 := iprop(owns (c : Thread nD τ) (memAt t .x) fullShare (σ .x) ∗ owns (c : Thread nD τ) (memAt t .a) fullShare (σ .a) ∗ owns (c : Thread nD τ) (memAt t .bias) fullShare (σ .bias) ∗ owns (c : Thread nD τ) (memAt t .rand) fullShare (σ .rand) ∗ owns (c : Thread nD τ) (memAt t .gamma) fullShare (σ .gamma) ∗ owns (c : Thread nD τ) (memAt t .beta) fullShare (σ .beta) ∗ owns (c : Thread nD τ) (memAt t .cr) fullShare (σ .cr) ∗ owns (c : Thread nD τ) (memAt t .er) fullShare (σ .er) ∗ owns (c : Thread nD τ) (memAt t .cc) fullShare (σ .cc) ∗ owns (c : Thread nD τ) (memAt t .ec) fullShare (σ .ec) ∗ owns (c : Thread nD τ) (memAt t .mask) fullShare (σ .mask) ∗ owns (c : Thread nD τ) (memAt t .mean) fullShare (σ .mean) ∗ owns (c : Thread nD τ) (memAt t .rstd) fullShare (σ .rstd) ∗ owns (c : Thread nD τ) (memAt t .h) fullShare (σ .h) ∗ owns (c : Thread nD τ) (memAt t .pack) fullShare (σ .pack) ∗ owns (c : Thread nD τ) (memAt t .expand) fullShare (σ .expand) ∗ owns (c : Thread nD τ) (memAt t .y) fullShare (σ .y) ∗ owns (c : Thread nD τ) (memAt t .row) fullShare (σ .row) ∗ owns (c : Thread nD τ) (memAt t .col) fullShare (σ .col) ∗ owns (c : Thread nD τ) (memAt t .cs) fullShare (σ .cs) ∗ owns (c : Thread nD τ) (memAt t .ce) fullShare (σ .ce) ∗ owns (c : Thread nD τ) (memAt t .stat) fullShare (σ .stat))

theorem held_eq (c : Dev nD) (t : Fin cfg0.N) (σ : St F) : (Mems.held (argsAt t).mems c σ : sProp 𝕄) = heldAll c t σ := by
  unfold Mems.held heldAll
  rw [bigSep_B]
  rfl

/-- The region's invariant: the scratch at contents of which `I` holds. -/
def ΦI (I : St F → Prop) (c : Dev nD) : sProp 𝕄 := iprop((∃ σ : St F, ⌜I σ⌝ ∗ scratchAt c σ) ∗ ∃ r, prngReg c r)

variable (m : (ℓ : Loc nD τ sig) → Buf (Elt F) ℓ) (ρ : Dev nD → PrngReg)
variable (aft : (c : Dev nD) → (w : Fin cfg0.W) → Fin cfg0.N → (Y X : (cfg0.win w).block.Idx → Elt F (cfg0.win w).elt) → Prop)
variable (I : Dev nD → ℕ → St F → Prop)

/-- The proof data. -/
def rdat (c : Dev nD) : RDat τ (Elt F) Unit ℕ (UR sig nD τ) ℕ cfg0 c where
  A w := V m c (Pipeline.arrRef spec0 w)
  after := aft c
  Φ t := ΦI (I c t.val) c
  q _ := fullShare
  owed _ := 0

/-- What a step has to do. -/
def StepOK : Prop := ∀ (c : Dev nD) (t : Fin cfg0.N) (Y : (w : Fin cfg0.W) → (cfg0.win w).block.Idx → Elt F (cfg0.win w).elt) (σ : St F),
  (∀ w, (rdat m aft I c).Finds w t (Y w)) → I c t.val σ →
    (∀ w, aft c w t (Y w) (win ((stepAt t).run (merge Y σ)).2 w)) ∧ I c (t.val + 1) ((stepAt t).run (merge Y σ)).2

variable {aft I}

theorem body_obligation (h : StepOK m aft I) (c : Dev nD) : (rdat m aft I c).BodyObligation (defs₀ (F := F)) Variants.none () Set.univ := by
  intro t Y hY
  rw [bigSep_W0, bigSep_W0, defs₀_row, step_prog]
  show iprop(((∃ σ : St F, ⌜I c t.val σ⌝ ∗ scratchAt c σ) ∗ ∃ r, prngReg c r) ∗ _ ∗ _) ⊢ _
  iintro ⟨⟨⟨%σ, %hI, HS⟩, Hr⟩, Howe, W0, W1, W2, W3, W4, W5, W6, W7, W8, W9, W10, W11, W12, W13⟩
  ihave HS' := (show scratchAt c σ ⊢ iprop(owns (c : Thread nD τ) (Memref.whole cc0_scratch0) fullShare (σ .pack) ∗ owns (c : Thread nD τ) (Memref.whole cc0_scratch1) fullShare (σ .expand) ∗ owns (c : Thread nD τ) (Memref.whole cc0_scratch2) fullShare (σ .y) ∗ owns (c : Thread nD τ) (Memref.whole cc0_scratch3) fullShare (σ .row) ∗ owns (c : Thread nD τ) (Memref.whole cc0_scratch4) fullShare (σ .col) ∗ owns (c : Thread nD τ) (Memref.whole cc0_scratch5) fullShare (σ .cs) ∗ owns (c : Thread nD τ) (Memref.whole cc0_scratch6) fullShare (σ .ce) ∗ owns (c : Thread nD τ) (Memref.whole cc0_scratch7) fullShare (σ .stat)) from .rfl) $$ HS
  icases HS' with ⟨S0, S1, S2, S3, S4, S5, S6, S7⟩
  obtain ⟨hA, hI'⟩ := h c t Y σ hY hI
  have hs := (stepAt (F := F) t).sim (Ix := Unit) (U := UR sig nD τ) (defs₀ (F := F)) Variants.none c none .empty Set.univ
    (fun _ => iprop(ΦI (I c (t.val + 1)) c ∗ (rdat m aft I c).owesAt () t.succ
      ∗ bigSep Finset.univ fun w => iprop(∃ X, ⌜aft c w t (Y w) X⌝ ∗ owns (c : Thread nD τ) ((cfg0.win w).stage (cfg0.slots t w)) fullShare X))) (merge Y σ)
  rw [bigSep_W0] at hs
  iapply hs
  isplitl [W0 W1 W2 W3 W4 W5 W6 W7 W8 W9 W10 W11 W12 W13 S0 S1 S2 S3 S4 S5 S6 S7]
  · iapply (show heldAll c t (merge Y σ) ⊢ Mems.held (argsAt t).mems c (merge Y σ) from by rw [← held_eq])
    unfold heldAll
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    isplitl [W11]; · iexact W11
    isplitl [W12]; · iexact W12
    isplitl [W13]; · iexact W13
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  · iintro H
    ihave H' := (show Mems.held (argsAt t).mems c ((stepAt t).run (merge Y σ)).2 ⊢ heldAll c t ((stepAt t).run (merge Y σ)).2 from by rw [← held_eq]) $$ H
    ihave H' := (show heldAll c t ((stepAt t).run (merge Y σ)).2 ⊢ iprop(owns (c : Thread nD τ) (memAt t .x) fullShare (((stepAt t).run (merge Y σ)).2 .x) ∗ owns (c : Thread nD τ) (memAt t .a) fullShare (((stepAt t).run (merge Y σ)).2 .a) ∗ owns (c : Thread nD τ) (memAt t .bias) fullShare (((stepAt t).run (merge Y σ)).2 .bias) ∗ owns (c : Thread nD τ) (memAt t .rand) fullShare (((stepAt t).run (merge Y σ)).2 .rand) ∗ owns (c : Thread nD τ) (memAt t .gamma) fullShare (((stepAt t).run (merge Y σ)).2 .gamma) ∗ owns (c : Thread nD τ) (memAt t .beta) fullShare (((stepAt t).run (merge Y σ)).2 .beta) ∗ owns (c : Thread nD τ) (memAt t .cr) fullShare (((stepAt t).run (merge Y σ)).2 .cr) ∗ owns (c : Thread nD τ) (memAt t .er) fullShare (((stepAt t).run (merge Y σ)).2 .er) ∗ owns (c : Thread nD τ) (memAt t .cc) fullShare (((stepAt t).run (merge Y σ)).2 .cc) ∗ owns (c : Thread nD τ) (memAt t .ec) fullShare (((stepAt t).run (merge Y σ)).2 .ec) ∗ owns (c : Thread nD τ) (memAt t .mask) fullShare (((stepAt t).run (merge Y σ)).2 .mask) ∗ owns (c : Thread nD τ) (memAt t .mean) fullShare (((stepAt t).run (merge Y σ)).2 .mean) ∗ owns (c : Thread nD τ) (memAt t .rstd) fullShare (((stepAt t).run (merge Y σ)).2 .rstd) ∗ owns (c : Thread nD τ) (memAt t .h) fullShare (((stepAt t).run (merge Y σ)).2 .h) ∗ owns (c : Thread nD τ) (memAt t .pack) fullShare (((stepAt t).run (merge Y σ)).2 .pack) ∗ owns (c : Thread nD τ) (memAt t .expand) fullShare (((stepAt t).run (merge Y σ)).2 .expand) ∗ owns (c : Thread nD τ) (memAt t .y) fullShare (((stepAt t).run (merge Y σ)).2 .y) ∗ owns (c : Thread nD τ) (memAt t .row) fullShare (((stepAt t).run (merge Y σ)).2 .row) ∗ owns (c : Thread nD τ) (memAt t .col) fullShare (((stepAt t).run (merge Y σ)).2 .col) ∗ owns (c : Thread nD τ) (memAt t .cs) fullShare (((stepAt t).run (merge Y σ)).2 .cs) ∗ owns (c : Thread nD τ) (memAt t .ce) fullShare (((stepAt t).run (merge Y σ)).2 .ce) ∗ owns (c : Thread nD τ) (memAt t .stat) fullShare (((stepAt t).run (merge Y σ)).2 .stat)) from .rfl) $$ H'
    icases H' with ⟨W0, W1, W2, W3, W4, W5, W6, W7, W8, W9, W10, W11, W12, W13, S0, S1, S2, S3, S4, S5, S6, S7⟩
    isplitl [Hr S0 S1 S2 S3 S4 S5 S6 S7]
    · unfold ΦI
      isplitr [Hr]
      · iexists ((stepAt t).run (merge Y σ)).2
        isplitr
        · ipureintro; exact hI'
        · unfold scratchAt
          isplitl [S0]; · iexact S0
          isplitl [S1]; · iexact S1
          isplitl [S2]; · iexact S2
          isplitl [S3]; · iexact S3
          isplitl [S4]; · iexact S4
          isplitl [S5]; · iexact S5
          isplitl [S6]; · iexact S6
          iexact S7
      · iexact Hr
    isplitl [Howe]; · iexact Howe
    isplitl [W0]; · iexists (((stepAt t).run (merge Y σ)).2 .x); isplitr; · ipureintro; exact hA 0
                    iexact W0
    isplitl [W1]; · iexists (((stepAt t).run (merge Y σ)).2 .a); isplitr; · ipureintro; exact hA 1
                    iexact W1
    isplitl [W2]; · iexists (((stepAt t).run (merge Y σ)).2 .bias); isplitr; · ipureintro; exact hA 2
                    iexact W2
    isplitl [W3]; · iexists (((stepAt t).run (merge Y σ)).2 .rand); isplitr; · ipureintro; exact hA 3
                    iexact W3
    isplitl [W4]; · iexists (((stepAt t).run (merge Y σ)).2 .gamma); isplitr; · ipureintro; exact hA 4
                    iexact W4
    isplitl [W5]; · iexists (((stepAt t).run (merge Y σ)).2 .beta); isplitr; · ipureintro; exact hA 5
                    iexact W5
    isplitl [W6]; · iexists (((stepAt t).run (merge Y σ)).2 .cr); isplitr; · ipureintro; exact hA 6
                    iexact W6
    isplitl [W7]; · iexists (((stepAt t).run (merge Y σ)).2 .er); isplitr; · ipureintro; exact hA 7
                    iexact W7
    isplitl [W8]; · iexists (((stepAt t).run (merge Y σ)).2 .cc); isplitr; · ipureintro; exact hA 8
                    iexact W8
    isplitl [W9]; · iexists (((stepAt t).run (merge Y σ)).2 .ec); isplitr; · ipureintro; exact hA 9
                    iexact W9
    isplitl [W10]; · iexists (((stepAt t).run (merge Y σ)).2 .mask); isplitr; · ipureintro; exact hA 10
                     iexact W10
    isplitl [W11]; · iexists (((stepAt t).run (merge Y σ)).2 .mean); isplitr; · ipureintro; exact hA 11
                     iexact W11
    isplitl [W12]; · iexists (((stepAt t).run (merge Y σ)).2 .rstd); isplitr; · ipureintro; exact hA 12
                     iexact W12
    iexists (((stepAt t).run (merge Y σ)).2 .h); isplitr; · ipureintro; exact hA 13
    iexact W13

/-- The run. -/
theorem run_main (h : StepOK m aft I) (h0 : ∀ c σ, I c 0 σ) :
    θ_run defs (onTc (τ := τ) (main (F := F))) (s₀ m ρ) (fun r => RDat.FramePost cfg0 (rdat m aft I) (V m) r ∧ r.2.sem = fun _ => 0) :=
  Pipeline.RDat.θ_run_frame_track (Q' := _) cfgs (0 : Fin 1) launch0 defs₀ Variants.none (rdat m aft I) m ρ main
    (hbody := fun c => body_obligation m h c) (hshare := fun c => (rdat m aft I c).share_full fun _ => rfl)
    (howed := fun _ _ => rfl) (V := V m) (hmain := hmain m Variants.none) (hA := fun _ _ => rfl)
    (hin := fun c => by
      show iprop(Pipeline.scopedRest spec0 c ∗ ∃ r, prngReg c r) ⊢ iprop((∃ σ : St F, ⌜I c 0 σ⌝ ∗ scratchAt c σ) ∗ ∃ r, prngReg c r)
      rw [scopedRest0_eq]
      iintro ⟨⟨⟨%s0, S0⟩, ⟨%s1, S1⟩, ⟨%s2, S2⟩, ⟨%s3, S3⟩, ⟨%s4, S4⟩, ⟨%s5, S5⟩, ⟨%s6, S6⟩, ⟨%s7, S7⟩⟩, Hr⟩
      isplitr [Hr]
      · let σ : St F := fun b => match b with  | .pack => s0 | .expand => s1 | .y => s2 | .row => s3 | .col => s4 | .cs => s5 | .ce => s6 | .stat => s7 | _ => fun _ => Classical.arbitrary _
        iexists σ
        isplitr
        · ipureintro; exact h0 c σ
        · unfold scratchAt
          simp only [owns_whole]
          isplitl [S0]; · iexact S0
          isplitl [S1]; · iexact S1
          isplitl [S2]; · iexact S2
          isplitl [S3]; · iexact S3
          isplitl [S4]; · iexact S4
          isplitl [S5]; · iexact S5
          isplitl [S6]; · iexact S6
          iexact S7
      · iexact Hr)
    (hout := fun c => by
      show iprop((∃ σ : St F, ⌜I c _ σ⌝ ∗ scratchAt c σ) ∗ ∃ r, prngReg c r) ⊢ iprop(Pipeline.scopedRest spec0 c ∗ ∃ r, prngReg c r)
      rw [scopedRest0_eq]
      unfold scratchAt
      simp only [owns_whole]
      iintro ⟨⟨%σ, -, S0, S1, S2, S3, S4, S5, S6, S7⟩, Hr⟩
      isplitr [Hr]
      · isplitl [S0]; · iexists (σ .pack); iexact S0
        isplitl [S1]; · iexists (σ .expand); iexact S1
        isplitl [S2]; · iexists (σ .y); iexact S2
        isplitl [S3]; · iexists (σ .row); iexact S3
        isplitl [S4]; · iexists (σ .col); iexact S4
        isplitl [S5]; · iexists (σ .cs); iexact S5
        isplitl [S6]; · iexists (σ .ce); iexact S6
        iexists (σ .stat); iexact S7
      · iexact Hr)
    (hQ' := fun _ h => h)

/-- A run leaves the arguments as they were. -/
theorem args_unchanged {r : PUnit × _} (h : RDat.FramePost cfg0 (rdat m aft I) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h.arr_in c 0 rfl).trans (V_main_arg0 m c), (h.arr_in c 1 rfl).trans (V_main_arg1 m c),
    ((h c).2 main_arg2 (Pipeline.mem_restRefs_of main_arg2 (by decide) (by decide))).trans (V_main_arg2 m c),
    (h.arr_in c 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The run ends, faults nowhere, leaves the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_unchanged m h.1, h.2⟩)
    (run_main m ρ (aft := fun _ _ _ _ _ => True) (I := fun _ _ _ => True) (fun _ _ _ _ _ _ => ⟨fun _ => trivial, trivial⟩) (fun _ _ => trivial))

end Cert.KernelIdeal.Hand
-- ==== Proof.Pure.lean ====
/-
  The body's pure parts at an index, over the extended reals.
-/
module

public import proofs.«01_k».proof.Proof.Body
public import Idealize.ShloMosaic.Lib.Pointwise
public import Idealize.ShloMosaic.Lib.Pipeline.Value

@[expose] public section

set_option maxRecDepth 16384

open Idealize.ShloMosaic Idealize.SL.Sem

noncomputable section

namespace Cert.Body

/-- The factor of a kept element, -/
abbrev cKS : EReal := Ideal.ofBits .f32 1066285284#32
/-- the reciprocal of the number of channels, -/
abbrev cInv : EReal := Ideal.ofBits .f32 964689920#32
/-- the layer norm's constant, -/
abbrev cEps : EReal := Ideal.ofBits .f32 925353388#32
/-- the reciprocal of the codes' range, -/
abbrev cInv448 : EReal := Ideal.ofBits .f32 991054117#32
/-- the codes' range, -/
abbrev cTop : EReal := Ideal.ofBits .f32 1138753536#32
/-- and its negative. -/
abbrev cBot : EReal := Ideal.ofBits .f32 3286237184#32

theorem keepOf_ix (rand : IVec S1x128x256 32) (r : Fin 128) (c : Fin 256) :
    keepOf rand (ix2 r c) = IntOp.cmpi .uge (rand (ix3 0 r c)) 429496730#32 := by
  pointwise [keepOf]

theorem hOf_ix (k : IVec S128x256 1) (a x : FVec Ideal S1x128x256 .bf16) (bias : FVec Ideal S1x256 .f32) (r : Fin 128) (c : Fin 256) :
    hOf k a x bias (ix2 r c)
      = ((x (ix3 0 r c) : EReal) + Scalar.select (k (ix2 r c)) (((a (ix3 0 r c) : EReal) + bias (ix2 0 c)) * cKS) (0 : EReal) : EReal) := by
  pointwise [hOf]

theorem hBlock_ix {α : Type} (v : S128x256.Idx → α) (r : Fin 128) (c : Fin 256) (z : Fin 1) :
    shapeCast S1x128x256 v (by decide) (ix3 z r c) = v (ix2 r c) := by
  pointwise

theorem addHalves_ix (acc : FVec Ideal S128x128 .f32) (v : FVec Ideal S128x256 .f32) (r l : Fin 128) :
    addHalves acc v (ix2 r l)
      = ((acc (ix2 r l) : EReal) + ((v (ix2 r ⟨l.val, by omega⟩) : EReal) + v (ix2 r ⟨128 + l.val, by omega⟩)) : EReal) := by
  pointwise [addHalves]

theorem partOf_ix (k : IVec S128x256 1) (w : FVec Ideal S256x128 .bf16) (r l : Fin 128) :
    partOf k w (ix2 r l) = (∑ x : Fin 256, Scalar.select (k (ix2 r x)) (w (ix2 x l) : EReal) (0 : EReal) : EReal) := by
  pointwise [partOf]

theorem meanOf_ix (acc : FVec Ideal S128x128 .f32) (r : Fin 128) (l : Fin 1) :
    meanOf acc (ix2 r l) = ((∑ x : Fin 128, (acc (ix2 r x) : EReal)) * cInv : EReal) := by
  pointwise [meanOf]

theorem rstdOf_ix (acc : FVec Ideal S128x128 .f32) (r : Fin 128) (l : Fin 1) :
    rstdOf acc (ix2 r l) = Ideal.rsqrt ((∑ x : Fin 128, (acc (ix2 r x) : EReal)) * cInv + cEps) := by
  pointwise [rstdOf, meanOf]

theorem centred_ix (m : FVec Ideal S128x1 .f32) (h : FVec Ideal S1x128x256 .bf16) (r : Fin 128) (c : Fin 256) :
    centred m h (ix2 r c) = ((h (ix3 0 r c) : EReal) - m (ix2 r 0) : EReal) := by
  pointwise [centred]

theorem square_ix (v : FVec Ideal S128x256 .f32) (r : Fin 128) (c : Fin 256) :
    mulf v v (ix2 r c) = ((v (ix2 r c) : EReal) * v (ix2 r c) : EReal) := by
  pointwise

theorem statRow_ix (m : FVec Ideal S128x1 .f32) (r : Fin 128) (z : Fin 1) : statRow m (ix2 z r) = m (ix2 r 0) := by
  pointwise [statRow]

theorem yOf_ix (rstd : FVec Ideal S128x1 .f32) (c : FVec Ideal S128x128 .f32) (gamma beta : FVec Ideal S1x128 .f32) (r l : Fin 128) :
    yOf rstd c gamma beta (ix2 r l)
      = ((c (ix2 r l) : EReal) * rstd (ix2 r 0) * gamma (ix2 0 l) + beta (ix2 0 l) : EReal) := by
  pointwise [yOf]

theorem absf_ix (v : FVec Ideal S128x128 .f32) (r l : Fin 128) : absf v (ix2 r l) = FloatOps.absf (F := Ideal) (φ := .f32) (v (ix2 r l)) := by
  pointwise

theorem maxVregs_ix (v : FVec Ideal S128x128 .f32) (q : ℕ) (hq : q < 4) (s : Fin 8) (l : Fin 128) :
    maxVregs v q hq (ix2 s l)
      = (max (max (v (ix2 ⟨32 * q + s.val, by omega⟩ l) : EReal) (v (ix2 ⟨32 * q + (8 + s.val), by omega⟩ l)))
        (max (v (ix2 ⟨32 * q + (16 + s.val), by omega⟩ l) : EReal) (v (ix2 ⟨32 * q + (24 + s.val), by omega⟩ l))) : EReal) := by
  pointwise [maxVregs]

theorem maxVregsT_ix (v : FVec Ideal S128x128 .f32) (q : ℕ) (hq : q < 4) (s : Fin 8) (l : Fin 128) :
    maxVregs (transpose S128x128 [1, 0] v (by decide)) q hq (ix2 s l)
      = (max (max (v (ix2 l ⟨32 * q + s.val, by omega⟩) : EReal) (v (ix2 l ⟨32 * q + (8 + s.val), by omega⟩)))
        (max (v (ix2 l ⟨32 * q + (16 + s.val), by omega⟩) : EReal) (v (ix2 l ⟨32 * q + (24 + s.val), by omega⟩))) : EReal) := by
  pointwise [maxVregs]

theorem rowCodes_ix (scale : FVec Ideal S128x128 .bf16) (e : FVec Ideal S128x256 .bf16) (y : FVec Ideal S128x256 .f32) (r : Fin 128) (c : Fin 256) :
    rowCodes scale e y (ix2 r c)
      = (min cTop (max cBot ((y (ix2 r c) : EReal) * ∑ x : Fin 128, (scale (ix2 r x) : EReal) * e (ix2 x c))) : EReal) := by
  pointwise [rowCodes, quant]

theorem colCodes_ix (s : FVec Ideal S1x128 .f32) (y : FVec Ideal S32x128 .f32) (r : Fin 32) (c : Fin 128) :
    colCodes s y (ix2 r c) = (min cTop (max cBot ((y (ix2 r c) : EReal) * s (ix2 0 c))) : EReal) := by
  pointwise [colCodes, quant]

theorem expandInit_ix (g : Fin 128) (c : Fin 4096) :
    expandInit (F := Ideal) (ix2 g c)
      = Scalar.select (IntOp.cmpi .eq (IntOp.shrsi .vector (BitVec.ofNat 32 c.val) 5#32) (BitVec.ofNat 32 g.val)) (1 : EReal) (0 : EReal) := by
  pointwise [expandInit]

theorem packInit_ix (i : Fin 1024) (j : Fin 128) :
    packInit (F := Ideal) (ix2 i j)
      = FloatOps.sitofp (F := Ideal) .f32 (Scalar.select (IntOp.cmpi .eq (IntOp.shrsi .vector (BitVec.ofNat 32 i.val) 3#32) (BitVec.ofNat 32 j.val))
        (IntOp.shli .vector 1#32 (IntOp.andi (BitVec.ofNat 32 i.val) 7#32)) 0#32) := by
  pointwise [packInit]

/-- One step of the search, of one element, -/
def expStep1 (t : EReal) (b bit : BitVec 32) : BitVec 32 :=
  if Ideal.ofBits .f32 (IntOp.shli .vector (IntOp.addi b bit) 23#32) ≤ t then IntOp.addi b bit else b

theorem expStep_ix (t : FVec Ideal S8x128 .f32) (b : IVec S8x128 32) (bit : BitVec 32) (i : Fin 8) (j : Fin 128) :
    expStep t b bit (ix2 i j) = expStep1 (t (ix2 i j)) (b (ix2 i j)) bit := by
  pointwise [expStep, expStep1]

/-- the whole search, -/
def search1 (t : EReal) : BitVec 32 :=
  expStep1 t (expStep1 t (expStep1 t (expStep1 t (expStep1 t (expStep1 t (expStep1 t (expStep1 t 0#32 128#32) 64#32) 32#32) 16#32) 8#32) 4#32) 2#32) 1#32

/-- and the field it gives for `amax`. -/
def field1 (amax : EReal) : BitVec 32 :=
  Scalar.select (IntOp.ori (IntOp.cmpi .eq (search1 (amax * cInv448)) 0#32) (IntOp.cmpi .eq (search1 (amax * cInv448)) 255#32)) 126#32 (search1 (amax * cInv448))

theorem expField_ix (a : FVec Ideal S8x128 .f32) (i : Fin 8) (j : Fin 128) : expField a (ix2 i j) = field1 (a (ix2 i j)) := by
  unfold expField
  pointwise [expStep_ix, field1, search1]

/-- The scale of a field, of one element. -/
def scale1 (b : BitVec 32) : EReal := Ideal.ofBits .f32 (IntOp.shli .vector (IntOp.subi 253#32 b) 23#32)

theorem scaleOf_ix (b : IVec S8x128 32) (i : Fin 8) (j : Fin 128) :
    scaleOf (F := Ideal) b (ix2 i j) = scale1 (b (ix2 i j)) := by
  pointwise [scaleOf, scale1]

theorem scaleOf_ix' (b : IVec S128x128 32) (i j : Fin 128) :
    truncf (F := Ideal) .bf16 (scaleOf (F := Ideal) b) (by decide) (ix2 i j) = scale1 (b (ix2 i j)) := by
  pointwise [scaleOf, scale1]

theorem maxEight_ix (m0 m1 m2 m3 m4 m5 m6 m7 : FVec Ideal S8x128 .f32) (i : Fin 8) (j : Fin 128) :
    maximumf (maximumf (maximumf m0 m1) (maximumf m2 m3)) (maximumf (maximumf m4 m5) (maximumf m6 m7)) (ix2 i j)
      = (max (max (max (m0 (ix2 i j) : EReal) (m1 (ix2 i j))) (max (m2 (ix2 i j) : EReal) (m3 (ix2 i j))))
        (max (max (m4 (ix2 i j) : EReal) (m5 (ix2 i j))) (max (m6 (ix2 i j) : EReal) (m7 (ix2 i j)))) : EReal) := by
  pointwise

theorem mask_ix (p : FVec Ideal S128x128 .f32) (z : Fin 1) (r l : Fin 128) :
    shapeCast S1x128x128 (trunci 8 (fptosi 32 p) (by decide)) (by decide) (ix3 z r l)
      = BitVec.setWidth 8 (FloatOps.fptosi (F := Ideal) (φ := .f32) 32 (p (ix2 r l))) := by
  pointwise

theorem er_ix (b : IVec S128x128 32) (z : Fin 1) (r l : Fin 128) :
    shapeCast S1x128x128 (trunci 8 (addi b (broadcast S128x128 1#32)) (by decide)) (by decide) (ix3 z r l)
      = BitVec.setWidth 8 (IntOp.addi (b (ix2 r l)) 1#32) := by
  pointwise

theorem ec_ix (b : IVec S32x128 32) (z : Fin 1) (r : Fin 32) (l : Fin 128) :
    shapeCast S1x32x128 (trunci 8 b (by decide)) (by decide) (ix3 z r l) = BitVec.setWidth 8 (b (ix2 r l)) := by
  pointwise

theorem fieldsOf_ix (f : ℕ → IVec S8x128 32) (r g : Fin 128) :
    fieldsOf f (ix2 r g) = f (g.val / 8) (ix2 ⟨g.val % 8, by omega⟩ r) := by
  have h : fieldsOf f = transpose S128x128 [1, 0] (concatenate S128x128 0 (List.ofFn fun n : Fin 16 => (⟨S8x128, f n.val⟩ : (s : Shape) × (s.Idx → BitVec 32))) concat16) (by decide) := rfl
  rw [h]
  generalize hv : concatenate S128x128 0 (List.ofFn fun n : Fin 16 => (⟨S8x128, f n.val⟩ : (s : Shape) × (s.Idx → BitVec 32))) concat16 = v
  pointwise
  subst hv
  refine concatenate_ofFn_apply (t := S128x128) (s₁ := S8x128) 0 (fun n : Fin 16 => f n.val) concat16 rfl 8 rfl (ix2 g r) ⟨g.val / 8, by omega⟩ rfl _ rfl ?_
  intro b hb
  fin_cases b
  · exact absurd rfl hb
  · rfl

end Cert.Body
-- ==== Proof.Spec.lean ====
/-
  What the kernel computes of the rows of one batch, in plain coordinates.
-/
module

public import proofs.«01_k».proof.Proof.Pure

@[expose] public section

open Idealize.ShloMosaic Idealize.SL.Sem

noncomputable section

namespace Cert

open Cert.Body

/-- The arguments of one batch: rows by channels, and the vectors over channels. -/
structure Rows where
  /-- The residual input, -/
  x : ℕ → ℕ → EReal
  /-- the branch, -/
  a : ℕ → ℕ → EReal
  /-- the random words, -/
  rd : ℕ → ℕ → BitVec 32
  /-- the bias, -/
  bi : ℕ → EReal
  /-- the gain -/
  ga : ℕ → EReal
  /-- and the shift. -/
  be : ℕ → EReal

namespace Rows

variable (R : Rows)

/-- The rows of batch `b`. -/
def ofArgs (x a : (⟨3, ![2, 1024, 4096]⟩ : Shape).Idx → EReal) (rd : (⟨3, ![2, 1024, 4096]⟩ : Shape).Idx → BitVec 32)
    (bi ga be : (⟨1, ![4096]⟩ : Shape).Idx → EReal) (b : ℕ) : Rows where
  x r c := x (ix3 (Fin.ofNat 2 b) (Fin.ofNat 1024 r) (Fin.ofNat 4096 c))
  a r c := a (ix3 (Fin.ofNat 2 b) (Fin.ofNat 1024 r) (Fin.ofNat 4096 c))
  rd r c := rd (ix3 (Fin.ofNat 2 b) (Fin.ofNat 1024 r) (Fin.ofNat 4096 c))
  bi c := bi (ix1 (Fin.ofNat 4096 c))
  ga c := ga (ix1 (Fin.ofNat 4096 c))
  be c := be (ix1 (Fin.ofNat 4096 c))

/-- The same from row `o` on. -/
def shift (o : ℕ) : Rows := { R with x := fun r => R.x (o + r), a := fun r => R.a (o + r), rd := fun r => R.rd (o + r) }

/-- Whether an element is kept. -/
def keep (r c : ℕ) : BitVec 1 := IntOp.cmpi .uge (R.rd r c) 429496730#32

/-- The residual sum. -/
def h (r c : ℕ) : EReal := R.x r c + Scalar.select (R.keep r c) ((R.a r c + R.bi c) * cKS) 0

/-- A row's mean. -/
def mean (r : ℕ) : EReal := (∑ c ∈ Finset.range 4096, R.h r c) * cInv

/-- A row less its mean. -/
def cen (r c : ℕ) : EReal := R.h r c - R.mean r

/-- The reciprocal of a row's deviation. -/
def rstd (r : ℕ) : EReal := Ideal.rsqrt ((∑ c ∈ Finset.range 4096, R.cen r c * R.cen r c) * cInv + cEps)

/-- The normalised row. -/
def y (r c : ℕ) : EReal := R.cen r c * R.rstd r * R.ga c + R.be c

/-- Its absolute value. -/
def ay (r c : ℕ) : EReal := FloatOps.absf (F := Ideal) (φ := .f32) (R.y r c)

/-- The maximum over a group of 32 channels, -/
def rowMax (r g : ℕ) : EReal := (Finset.range 32).sup fun x => R.ay r (32 * g + x)

/-- and over one of 32 rows. -/
def colMax (q c : ℕ) : EReal := (Finset.range 32).sup fun x => R.ay (32 * q + x) c

/-- The code of an element under a group's maximum, -/
def code (v m : EReal) : EReal := min cTop (max cBot (v * scale1 (field1 m)))

/-- and the group's exponent. -/
def expo (m : EReal) : BitVec 8 := BitVec.setWidth 8 (IntOp.addi (field1 m) 1#32)

theorem colMax_shift (k q c : ℕ) : (R.shift (128 * k)).colMax q c = R.colMax (4 * k + q) c := by
  unfold colMax
  congr 1
  funext x
  show R.ay (128 * k + (32 * q + x)) c = _
  congr 1
  ring

/-- A byte of the mask. -/
def mask (r l : ℕ) : BitVec 8 :=
  BitVec.setWidth 8 (FloatOps.fptosi (F := Ideal) (φ := .f32) 32
    (∑ s ∈ Finset.range 8, Scalar.select (R.keep r (8 * l + s)) (((2 ^ s : ℕ) : ℝ) : EReal) 0))

end Rows

end Cert
-- ==== Proof.Steps.lean ====
/-
  Tools for what a `Tpl` does: loops by an invariant, the memrefs a piece leaves alone, and a store read back.
-/
module

public import proofs.«01_k».proof.Proof.Spec
public import Idealize.ShloMosaic.Lib.Pointwise

@[expose] public section

open Idealize.ShloMosaic Idealize.SL.Sem

noncomputable section

namespace Cert.Body

open Cert.Tpl

variable {nD : Nat} {τ : Topo} {sig : RefSig} {F : FTy → Type} [FloatOps F] {Λ : Labels} {A : Args sig} {α β γ : Type}

/-- What holds before the first turn and is kept by each holds after the last. -/
theorem loop_inv (J : ℕ → γ → St F → Prop) :
    ∀ (n : ℕ) (t : (i : ℕ) → i < n → γ → Tpl nD τ (Elt F) Λ A.mems γ) (g : γ) (σ : St F), J 0 g σ →
      (∀ i (hi : i < n) g σ, J i g σ → J (i + 1) ((t i hi g).run σ).1 ((t i hi g).run σ).2) →
      J n ((Tpl.loop n t g).run σ).1 ((Tpl.loop n t g).run σ).2
  | 0, _, _, _, h0, _ => h0
  | n + 1, t, g, σ, h0, hs =>
    hs n (Nat.lt_succ_self n) _ _ (loop_inv J n (fun i h => t i (Nat.lt_succ_of_lt h)) g σ h0 fun i hi => hs i (Nat.lt_succ_of_lt hi))

/-- A piece writes no memref but those of `W`. -/
def Only (W : List B) (t : Tpl nD τ (Elt F) Λ A.mems α) : Prop := ∀ (σ : St F) (b : B), b ∉ W → (t.run σ).2 b = σ b

namespace Only

variable {W W' : List B}

theorem mono {t : Tpl nD τ (Elt F) Λ A.mems α} (h : Only W t) (hW : ∀ b, b ∈ W → b ∈ W') : Only W' t :=
  fun σ b hb => h σ b fun h => hb (hW b h)

theorem pure (a : α) : Only W (Tpl.pure (M := A.mems) (nD := nD) (τ := τ) (Val := Elt F) (Λ := Λ) a) := fun _ _ _ => rfl

theorem load (b : B) (r : LoadRect b.shp) (h) : Only W (Tpl.load (M := A.mems) (nD := nD) (τ := τ) (Val := Elt F) (Λ := Λ) b r h) :=
  fun _ _ _ => rfl

theorem bind {t : Tpl nD τ (Elt F) Λ A.mems α} {f : α → Tpl nD τ (Elt F) Λ A.mems β} (h : Only W t) (hf : ∀ a, Only W (f a)) : Only W (Tpl.bind t f) :=
  fun σ b hb => (hf _ _ b hb).trans (h σ b hb)

theorem loop : ∀ {n : ℕ} {t : (i : ℕ) → i < n → γ → Tpl nD τ (Elt F) Λ A.mems γ} {g : γ}, (∀ i hi g, Only W (t i hi g)) → Only W (Tpl.loop n t g)
  | 0, _, _, _ => fun _ _ _ => rfl
  | n + 1, _, _, h => bind (loop fun i hi => h i (Nat.lt_succ_of_lt hi)) fun g => h n (Nat.lt_succ_self n) g

theorem «when» {p : Prop} [Decidable p] {t : Tpl nD τ (Elt F) Λ A.mems PUnit} (h : Only W t) : Only W (Tpl.when p t) := fun σ b hb => by
  show (if p then t.run σ else (⟨⟩, σ)).2 b = σ b
  split
  · exact h σ b hb
  · rfl

theorem put {b : B} {r : Rect b.shp} {hr} {w : r.shape.Idx → Elt F b.elt} {hx} (hb : b ∈ W) : Only W (put (nD := nD) (τ := τ) (Λ := Λ) A b r hr w hx) :=
  fun σ b' hb' => Function.update_of_ne (fun h : b' = b => hb' (by rw [h]; exact hb)) _ _

end Only

/-- What a store leaves. -/
theorem put_self {b : B} {r : Rect b.shp} {hr} {w : r.shape.Idx → Elt F b.elt} {hx} (σ : St F) :
    ((put (nD := nD) (τ := τ) (Λ := Λ) A b r hr w hx).run σ).2 b = r.overlay (σ b) w := Function.update_self _ _ _

theorem put_ne {b b' : B} {r : Rect b.shp} {hr} {w : r.shape.Idx → Elt F b.elt} {hx} (σ : St F) (h : b' ≠ b) :
    ((put (nD := nD) (τ := τ) (Λ := Λ) A b r hr w hx).run σ).2 b' = σ b' := Function.update_of_ne h _ _

/-- A store at one index: what was stored there, or what was there before. -/
theorem overlay_eq {s : Shape} {α : Type} (r : Rect s) (X : s.Idx → α) (w : r.shape.Idx → α) (i : s.Idx) (v : α)
    (hw : ∀ x, (∀ a, (i a : ℕ) = r.off a + r.stride a * x a) → w x = v)
    (hX : (¬∃ x : r.shape.Idx, ∀ a, (i a : ℕ) = r.off a + r.stride a * x a) → X i = v) : r.overlay X w i = v := by
  by_cases hi : i ∈ r.set
  · obtain ⟨x, rfl⟩ := r.exists_idx_of_mem hi
    exact (Rect.overlay_emb r X w x).trans (hw x fun a => rfl)
  · exact (Rect.overlay_of_not_mem r X w hi).trans (hX fun ⟨x, hx⟩ => hi (r.mem_set.mpr fun a => ⟨x a, (x a).isLt, hx a⟩))

/-- The same of a box of two axes, -/
theorem overlay2 {α : Type} {n0 n1 s0 s1 o0 o1 : ℕ} {h} (X : (⟨2, ![n0, n1]⟩ : Shape).Idx → α) (w : (⟨2, ![s0, s1]⟩ : Shape).Idx → α)
    (i : (⟨2, ![n0, n1]⟩ : Shape).Idx) (v : α)
    (hw : ∀ (x0 : Fin s0) (x1 : Fin s1), (i 0).val = o0 + x0.val → (i 1).val = o1 + x1.val → w (ix2 x0 x1) = v)
    (hX : ¬(o0 ≤ (i 0).val ∧ (i 0).val < o0 + s0 ∧ o1 ≤ (i 1).val ∧ (i 1).val < o1 + s1) → X i = v) :
    (Rect.unit (s := ⟨2, ![n0, n1]⟩) ![o0, o1] ![s0, s1] h).overlay X w i = v := by
  refine overlay_eq _ _ _ _ _ (fun x hx => ?_) fun hx => hX fun hi => hx ⟨ix2 ⟨(i 0).val - o0, by omega⟩ ⟨(i 1).val - o1, by omega⟩, fun a => ?_⟩
  · have h0 : (i 0).val = o0 + 1 * (x 0).val := hx 0
    have h1 : (i 1).val = o1 + 1 * (x 1).val := hx 1
    rw [show x = ix2 (x 0) (x 1) from funext fun a => by fin_cases a <;> rfl]
    exact hw _ _ (by omega) (by omega)
  · fin_cases a
    · show (i 0).val = o0 + 1 * ((i 0).val - o0); omega
    · show (i 1).val = o1 + 1 * ((i 1).val - o1); omega

/-- and of three. -/
theorem overlay3 {α : Type} {n0 n1 n2 s0 s1 s2 o0 o1 o2 : ℕ} {h} (X : (⟨3, ![n0, n1, n2]⟩ : Shape).Idx → α) (w : (⟨3, ![s0, s1, s2]⟩ : Shape).Idx → α)
    (i : (⟨3, ![n0, n1, n2]⟩ : Shape).Idx) (v : α)
    (hw : ∀ (x0 : Fin s0) (x1 : Fin s1) (x2 : Fin s2), (i 0).val = o0 + x0.val → (i 1).val = o1 + x1.val → (i 2).val = o2 + x2.val → w (ix3 x0 x1 x2) = v)
    (hX : ¬(o0 ≤ (i 0).val ∧ (i 0).val < o0 + s0 ∧ o1 ≤ (i 1).val ∧ (i 1).val < o1 + s1 ∧ o2 ≤ (i 2).val ∧ (i 2).val < o2 + s2) → X i = v) :
    (Rect.unit (s := ⟨3, ![n0, n1, n2]⟩) ![o0, o1, o2] ![s0, s1, s2] h).overlay X w i = v := by
  refine overlay_eq _ _ _ _ _ (fun x hx => ?_) fun hx => hX fun hi =>
    hx ⟨ix3 ⟨(i 0).val - o0, by omega⟩ ⟨(i 1).val - o1, by omega⟩ ⟨(i 2).val - o2, by omega⟩, fun a => ?_⟩
  · have h0 : (i 0).val = o0 + 1 * (x 0).val := hx 0
    have h1 : (i 1).val = o1 + 1 * (x 1).val := hx 1
    have h2 : (i 2).val = o2 + 1 * (x 2).val := hx 2
    rw [show x = ix3 (x 0) (x 1) (x 2) from funext fun a => by fin_cases a <;> rfl]
    exact hw _ _ _ (by omega) (by omega) (by omega)
  · fin_cases a
    · show (i 0).val = o0 + 1 * ((i 0).val - o0); omega
    · show (i 1).val = o1 + 1 * ((i 1).val - o1); omega
    · show (i 2).val = o2 + 1 * ((i 2).val - o2); omega

/-! ## The stores of the body, read back -/

variable {α : Type}

theorem overlay_rX (k : ℕ) (hk : k < 16) (X : (⟨3, ![1, 128, 4096]⟩ : Shape).Idx → α) (w : (⟨3, ![1, 128, 256]⟩ : Shape).Idx → α) (i : (⟨3, ![1, 128, 4096]⟩ : Shape).Idx) (v : α)
    (hw : ∀ (x0 : Fin 1) (x1 : Fin 128) (x2 : Fin 256), (i 0).val = x0.val → (i 1).val = x1.val → (i 2).val = 256 * k + x2.val → w (ix3 x0 x1 x2) = v)
    (hX : ¬(256 * k ≤ (i 2).val ∧ (i 2).val < 256 * k + 256) → X i = v) :
    (rX k hk).overlay X w i = v :=
  overlay3 X w i v (fun x0 x1 x2 h0 h1 h2 => hw x0 x1 x2 (h0.trans (Nat.zero_add _)) (h1.trans (Nat.zero_add _)) h2) (fun hn => hX fun hb => hn (by have b0 : (i 0).val < 1 := (i 0).isLt; have b1 : (i 1).val < 128 := (i 1).isLt; have b2 : (i 2).val < 4096 := (i 2).isLt; omega))

theorem overlay_rY (k : ℕ) (hk : k < 16) (X : (⟨2, ![128, 4096]⟩ : Shape).Idx → α) (w : (⟨2, ![128, 256]⟩ : Shape).Idx → α) (i : (⟨2, ![128, 4096]⟩ : Shape).Idx) (v : α)
    (hw : ∀ (x0 : Fin 128) (x1 : Fin 256), (i 0).val = x0.val → (i 1).val = 256 * k + x1.val → w (ix2 x0 x1) = v)
    (hX : ¬(256 * k ≤ (i 1).val ∧ (i 1).val < 256 * k + 256) → X i = v) :
    (rY k hk).overlay X w i = v :=
  overlay2 X w i v (fun x0 x1 h0 h1 => hw x0 x1 (h0.trans (Nat.zero_add _)) h1) (fun hn => hX fun hb => hn (by have b0 : (i 0).val < 128 := (i 0).isLt; have b1 : (i 1).val < 4096 := (i 1).isLt; omega))

theorem overlay_rM (o : ℕ) (ho : o < 4) (X : (⟨3, ![1, 128, 512]⟩ : Shape).Idx → α) (w : (⟨3, ![1, 128, 128]⟩ : Shape).Idx → α) (i : (⟨3, ![1, 128, 512]⟩ : Shape).Idx) (v : α)
    (hw : ∀ (x0 : Fin 1) (x1 : Fin 128) (x2 : Fin 128), (i 0).val = x0.val → (i 1).val = x1.val → (i 2).val = 128 * o + x2.val → w (ix3 x0 x1 x2) = v)
    (hX : ¬(128 * o ≤ (i 2).val ∧ (i 2).val < 128 * o + 128) → X i = v) :
    (rM o ho).overlay X w i = v :=
  overlay3 X w i v (fun x0 x1 x2 h0 h1 h2 => hw x0 x1 x2 (h0.trans (Nat.zero_add _)) (h1.trans (Nat.zero_add _)) h2) (fun hn => hX fun hb => hn (by have b0 : (i 0).val < 1 := (i 0).isLt; have b1 : (i 1).val < 128 := (i 1).isLt; have b2 : (i 2).val < 512 := (i 2).isLt; omega))

theorem overlay_rT (j : ℕ) (hj : j < 32) (X : (⟨2, ![128, 4096]⟩ : Shape).Idx → α) (w : (⟨2, ![128, 128]⟩ : Shape).Idx → α) (i : (⟨2, ![128, 4096]⟩ : Shape).Idx) (v : α)
    (hw : ∀ (x0 : Fin 128) (x1 : Fin 128), (i 0).val = x0.val → (i 1).val = 128 * j + x1.val → w (ix2 x0 x1) = v)
    (hX : ¬(128 * j ≤ (i 1).val ∧ (i 1).val < 128 * j + 128) → X i = v) :
    (rT j hj).overlay X w i = v :=
  overlay2 X w i v (fun x0 x1 h0 h1 => hw x0 x1 (h0.trans (Nat.zero_add _)) h1) (fun hn => hX fun hb => hn (by have b0 : (i 0).val < 128 := (i 0).isLt; have b1 : (i 1).val < 4096 := (i 1).isLt; omega))

theorem overlay_rG (g : ℕ) (hg : g < 128) (X : (⟨2, ![1024, 128]⟩ : Shape).Idx → α) (w : (⟨2, ![8, 128]⟩ : Shape).Idx → α) (i : (⟨2, ![1024, 128]⟩ : Shape).Idx) (v : α)
    (hw : ∀ (x0 : Fin 8) (x1 : Fin 128), (i 0).val = 8 * g + x0.val → (i 1).val = x1.val → w (ix2 x0 x1) = v)
    (hX : ¬(8 * g ≤ (i 0).val ∧ (i 0).val < 8 * g + 8) → X i = v) :
    (rG g hg).overlay X w i = v :=
  overlay2 X w i v (fun x0 x1 h0 h1 => hw x0 x1 h0 (h1.trans (Nat.zero_add _))) (fun hn => hX fun hb => hn (by have b0 : (i 0).val < 1024 := (i 0).isLt; have b1 : (i 1).val < 128 := (i 1).isLt; omega))

theorem overlay_rC (t : ℕ) (ht : t < 16) (X : (⟨2, ![128, 128]⟩ : Shape).Idx → α) (w : (⟨2, ![8, 128]⟩ : Shape).Idx → α) (i : (⟨2, ![128, 128]⟩ : Shape).Idx) (v : α)
    (hw : ∀ (x0 : Fin 8) (x1 : Fin 128), (i 0).val = 8 * t + x0.val → (i 1).val = x1.val → w (ix2 x0 x1) = v)
    (hX : ¬(8 * t ≤ (i 0).val ∧ (i 0).val < 8 * t + 8) → X i = v) :
    (rC t ht).overlay X w i = v :=
  overlay2 X w i v (fun x0 x1 h0 h1 => hw x0 x1 h0 (h1.trans (Nat.zero_add _))) (fun hn => hX fun hb => hn (by have b0 : (i 0).val < 128 := (i 0).isLt; have b1 : (i 1).val < 128 := (i 1).isLt; omega))

theorem overlay_rO (q j : ℕ) (hq : q < 4) (hj : j < 32) (X : (⟨3, ![1, 128, 4096]⟩ : Shape).Idx → α) (w : (⟨3, ![1, 32, 128]⟩ : Shape).Idx → α) (i : (⟨3, ![1, 128, 4096]⟩ : Shape).Idx) (v : α)
    (hw : ∀ (x0 : Fin 1) (x1 : Fin 32) (x2 : Fin 128), (i 0).val = x0.val → (i 1).val = 32 * q + x1.val → (i 2).val = 128 * j + x2.val → w (ix3 x0 x1 x2) = v)
    (hX : ¬(32 * q ≤ (i 1).val ∧ (i 1).val < 32 * q + 32 ∧ 128 * j ≤ (i 2).val ∧ (i 2).val < 128 * j + 128) → X i = v) :
    (rO q j hq hj).overlay X w i = v :=
  overlay3 X w i v (fun x0 x1 x2 h0 h1 h2 => hw x0 x1 x2 (h0.trans (Nat.zero_add _)) h1 h2) (fun hn => hX fun hb => hn (by have b0 : (i 0).val < 1 := (i 0).isLt; have b1 : (i 1).val < 128 := (i 1).isLt; have b2 : (i 2).val < 4096 := (i 2).isLt; omega))

theorem overlay_rS (r : ℕ) (hr : r < 32) (X : (⟨2, ![32, 128]⟩ : Shape).Idx → α) (w : (⟨2, ![1, 128]⟩ : Shape).Idx → α) (i : (⟨2, ![32, 128]⟩ : Shape).Idx) (v : α)
    (hw : ∀ (x0 : Fin 1) (x1 : Fin 128), (i 0).val = r + x0.val → (i 1).val = x1.val → w (ix2 x0 x1) = v)
    (hX : ¬(r ≤ (i 0).val ∧ (i 0).val < r + 1) → X i = v) :
    (rS r hr).overlay X w i = v :=
  overlay2 X w i v (fun x0 x1 h0 h1 => hw x0 x1 h0 (h1.trans (Nat.zero_add _))) (fun hn => hX fun hb => hn (by have b0 : (i 0).val < 32 := (i 0).isLt; have b1 : (i 1).val < 128 := (i 1).isLt; omega))

theorem overlay_rR (b s : ℕ) (hb : b < 2) (hs : s < 8) (X : (⟨2, ![2, 1024]⟩ : Shape).Idx → α) (w : (⟨2, ![1, 128]⟩ : Shape).Idx → α) (i : (⟨2, ![2, 1024]⟩ : Shape).Idx) (v : α)
    (hw : ∀ (x0 : Fin 1) (x1 : Fin 128), (i 0).val = b + x0.val → (i 1).val = 128 * s + x1.val → w (ix2 x0 x1) = v)
    (hX : ¬(b ≤ (i 0).val ∧ (i 0).val < b + 1 ∧ 128 * s ≤ (i 1).val ∧ (i 1).val < 128 * s + 128) → X i = v) :
    (rR b s hb hs).overlay X w i = v :=
  overlay2 X w i v (fun x0 x1 h0 h1 => hw x0 x1 h0 h1) (fun hn => hX fun hb => hn (by have b0 : (i 0).val < 2 := (i 0).isLt; have b1 : (i 1).val < 1024 := (i 1).isLt; omega))

theorem overlay_rZ (j : ℕ) (hj : j < 32) (X : (⟨3, ![1, 32, 4096]⟩ : Shape).Idx → α) (w : (⟨3, ![1, 32, 128]⟩ : Shape).Idx → α) (i : (⟨3, ![1, 32, 4096]⟩ : Shape).Idx) (v : α)
    (hw : ∀ (x0 : Fin 1) (x1 : Fin 32) (x2 : Fin 128), (i 0).val = x0.val → (i 1).val = x1.val → (i 2).val = 128 * j + x2.val → w (ix3 x0 x1 x2) = v)
    (hX : ¬(128 * j ≤ (i 2).val ∧ (i 2).val < 128 * j + 128) → X i = v) :
    (rZ j hj).overlay X w i = v :=
  overlay3 X w i v (fun x0 x1 x2 h0 h1 h2 => hw x0 x1 x2 (h0.trans (Nat.zero_add _)) (h1.trans (Nat.zero_add _)) h2) (fun hn => hX fun hb => hn (by have b0 : (i 0).val < 1 := (i 0).isLt; have b1 : (i 1).val < 32 := (i 1).isLt; have b2 : (i 2).val < 4096 := (i 2).isLt; omega))

theorem overlay_rPack  (X : (⟨2, ![1024, 128]⟩ : Shape).Idx → α) (w : (⟨2, ![1024, 128]⟩ : Shape).Idx → α) (i : (⟨2, ![1024, 128]⟩ : Shape).Idx) (v : α)
    (hw : ∀ (x0 : Fin 1024) (x1 : Fin 128), (i 0).val = x0.val → (i 1).val = x1.val → w (ix2 x0 x1) = v) :
    (rPack).overlay X w i = v :=
  overlay2 X w i v (fun x0 x1 h0 h1 => hw x0 x1 (h0.trans (Nat.zero_add _)) (h1.trans (Nat.zero_add _))) (fun hn => absurd (by have b0 : (i 0).val < 1024 := (i 0).isLt; have b1 : (i 1).val < 128 := (i 1).isLt; omega) hn)

theorem overlay_rExpand  (X : (⟨2, ![128, 4096]⟩ : Shape).Idx → α) (w : (⟨2, ![128, 4096]⟩ : Shape).Idx → α) (i : (⟨2, ![128, 4096]⟩ : Shape).Idx) (v : α)
    (hw : ∀ (x0 : Fin 128) (x1 : Fin 4096), (i 0).val = x0.val → (i 1).val = x1.val → w (ix2 x0 x1) = v) :
    (rExpand).overlay X w i = v :=
  overlay2 X w i v (fun x0 x1 h0 h1 => hw x0 x1 (h0.trans (Nat.zero_add _)) (h1.trans (Nat.zero_add _))) (fun hn => absurd (by have b0 : (i 0).val < 128 := (i 0).isLt; have b1 : (i 1).val < 4096 := (i 1).isLt; omega) hn)

theorem overlay_rEr  (X : (⟨3, ![1, 128, 128]⟩ : Shape).Idx → α) (w : (⟨3, ![1, 128, 128]⟩ : Shape).Idx → α) (i : (⟨3, ![1, 128, 128]⟩ : Shape).Idx) (v : α)
    (hw : ∀ (x0 : Fin 1) (x1 : Fin 128) (x2 : Fin 128), (i 0).val = x0.val → (i 1).val = x1.val → (i 2).val = x2.val → w (ix3 x0 x1 x2) = v) :
    (rEr).overlay X w i = v :=
  overlay3 X w i v (fun x0 x1 x2 h0 h1 h2 => hw x0 x1 x2 (h0.trans (Nat.zero_add _)) (h1.trans (Nat.zero_add _)) (h2.trans (Nat.zero_add _))) (fun hn => absurd (by have b0 : (i 0).val < 1 := (i 0).isLt; have b1 : (i 1).val < 128 := (i 1).isLt; have b2 : (i 2).val < 128 := (i 2).isLt; omega) hn)

/-- The strided store of column exponents. -/
theorem overlay_rE (t b : ℕ) (ht : t < 4) (hb : b < 32) (X : S1024x128.Idx → α) (w : S8x128.Idx → α) (i : S1024x128.Idx) (v : α)
    (hw : ∀ (x0 : Fin 8) (x1 : Fin 128), (i 0).val = 256 * t + b + 32 * x0.val → (i 1).val = x1.val → w (ix2 x0 x1) = v)
    (hX : ¬(256 * t + b ≤ (i 0).val ∧ (i 0).val < 256 * t + 256 ∧ (i 0).val % 32 = b) → X i = v) : (rE t b ht hb).overlay X w i = v := by
  refine overlay_eq _ _ _ _ _ (fun x hx => ?_) fun hx => hX fun hi => hx ⟨ix2 ⟨((i 0).val - 256 * t - b) / 32, by omega⟩ (i 1), fun a => ?_⟩
  · have h0 : (i 0).val = 256 * t + b + 32 * (x 0).val := hx 0
    have h1 : (i 1).val = 0 + 1 * (x 1).val := hx 1
    rw [show x = ix2 (x 0) (x 1) from funext fun a => by fin_cases a <;> rfl]
    exact hw _ _ h0 (by omega)
  · fin_cases a
    · show (i 0).val = 256 * t + b + 32 * (((i 0).val - 256 * t - b) / 32); omega
    · show (i 1).val = 0 + 1 * (i 1).val; omega

end Cert.Body
-- ==== Proof.Pass1.lean ====
/-
  The first pass: `h`, the packed mask, and the rows' means.
-/
module

public import proofs.«01_k».proof.Proof.Steps

@[expose] public section

set_option maxRecDepth 16384

open Idealize.ShloMosaic Idealize.SL.Sem

noncomputable section

namespace Cert.Body

open Cert.Tpl

variable {nD : Nat} {τ : Topo} {sig : RefSig} {Λ : Labels} {A : Args sig} {R : Rows} {σ : St Ideal}

/-- The packing weights in plain coordinates, -/
def packW (i j : ℕ) : EReal := if i / 8 = j then (((2 ^ (i % 8) : ℕ) : ℝ) : EReal) else 0

/-- and the expansion. -/
def expandW (g c : ℕ) : EReal := if c / 32 = g then 1 else 0

theorem select_eq_ofNat {α : Type} (n m : ℕ) (hn : n < 4294967296) (hm : m < 4294967296) (a b : α) :
    Scalar.select (IntOp.cmpi .eq (BitVec.ofNat 32 n) (BitVec.ofNat 32 m)) a b = if n = m then a else b := by
  by_cases h : n = m
  · subst h; simp [IntOp.cmpi, Scalar.select]
  · have h' : (BitVec.ofNat 32 n == BitVec.ofNat 32 m) = false := beq_eq_false_iff_ne.mpr fun e => h (by
      have := congrArg BitVec.toNat e
      simpa [BitVec.toNat_ofNat, Nat.mod_eq_of_lt hn, Nat.mod_eq_of_lt hm] using this)
    simp [IntOp.cmpi, Scalar.select, h, h']

theorem pack_row : ∀ i : Fin 1024, IntOp.shrsi .vector (BitVec.ofNat 32 i.val) 3#32 = BitVec.ofNat 32 (i.val / 8)
    ∧ IntOp.shli .vector 1#32 (IntOp.andi (BitVec.ofNat 32 i.val) 7#32) = BitVec.ofNat 32 (2 ^ (i.val % 8)) := by
  decide +kernel

theorem expand_col : ∀ c : Fin 4096, IntOp.shrsi .vector (BitVec.ofNat 32 c.val) 5#32 = BitVec.ofNat 32 (c.val / 32) := by
  decide +kernel

theorem sitofp_pow : ∀ s : Fin 8, (BitVec.ofNat 32 (2 ^ s.val)).toInt = ((2 ^ s.val : ℕ) : ℤ) := by decide

theorem packInit_eq (i : Fin 1024) (j : Fin 128) : packInit (F := Ideal) (ix2 i j) = packW i j := by
  rw [packInit_ix, (pack_row i).1, (pack_row i).2, select_eq_ofNat _ _ (by omega) (by omega)]
  unfold packW
  show (((if i.val / 8 = j.val then BitVec.ofNat 32 (2 ^ (i.val % 8)) else 0#32).toInt : ℝ) : EReal) = _
  split
  · rw [sitofp_pow ⟨i.val % 8, by omega⟩]; norm_cast
  · simp

theorem expandInit_eq (g : Fin 128) (c : Fin 4096) : expandInit (F := Ideal) (ix2 g c) = expandW g c := by
  rw [expandInit_ix, expand_col c, select_eq_ofNat _ _ (by omega) (by omega)]
  rfl

/-- The blocks and the constants hold what they should. -/
structure In (R : Rows) (σ : St Ideal) : Prop where
  x : ∀ i : S1x128x4096.Idx, σ .x i = R.x (i 1).val (i 2).val
  a : ∀ i : S1x128x4096.Idx, σ .a i = R.a (i 1).val (i 2).val
  rand : ∀ i : S1x128x4096.Idx, σ .rand i = R.rd (i 1).val (i 2).val
  bias : ∀ i : S1x4096.Idx, σ .bias i = R.bi (i 1).val
  gamma : ∀ i : S1x4096.Idx, σ .gamma i = R.ga (i 1).val
  beta : ∀ i : S1x4096.Idx, σ .beta i = R.be (i 1).val
  pack : ∀ i : S1024x128.Idx, σ .pack i = packW (i 0).val (i 1).val
  expand : ∀ i : S128x4096.Idx, σ .expand i = expandW (i 0).val (i 1).val

theorem In.of_eq {σ' : St Ideal} (h : In R σ) (he : ∀ b ∈ ([.x, .a, .rand, .bias, .gamma, .beta, .pack, .expand] : List B), σ' b = σ b) : In R σ' where
  x i := by rw [he .x (by decide)]; exact h.x i
  a i := by rw [he .a (by decide)]; exact h.a i
  rand i := by rw [he .rand (by decide)]; exact h.rand i
  bias i := by rw [he .bias (by decide)]; exact h.bias i
  gamma i := by rw [he .gamma (by decide)]; exact h.gamma i
  beta i := by rw [he .beta (by decide)]; exact h.beta i
  pack i := by rw [he .pack (by decide)]; exact h.pack i
  expand i := by rw [he .expand (by decide)]; exact h.expand i

theorem In.of_only {α : Type} {W : List B} {t : Tpl nD τ (Elt Ideal) Λ A.mems α} (h : In R σ) (ho : Only W t)
    (hW : ∀ b ∈ ([.x, .a, .rand, .bias, .gamma, .beta, .pack, .expand] : List B), b ∉ W) : In R (t.run σ).2 :=
  h.of_eq fun b hb => ho σ b (hW b hb)

/-- A chunk's share of a running sum of `f` over the channels. -/
def half (f : ℕ → ℕ → EReal) (r l k : ℕ) : EReal := f r (256 * k + l) + f r (256 * k + (128 + l))

/-- All the chunks' shares, over all the lanes, are the sum over the channels. -/
theorem sum_half (f : ℕ → ℕ → EReal) (r : ℕ) : (∑ l : Fin 128, ∑ k ∈ Finset.range 16, half f r l k) = ∑ c ∈ Finset.range 4096, f r c := by
  have e : ∀ n, (∑ l : Fin 128, ∑ k ∈ Finset.range n, half f r l k) = ∑ c ∈ Finset.range (256 * n), f r c := by
    intro n
    induction n with
    | zero => simp
    | succ n ih =>
      simp only [Finset.sum_range_succ, Finset.sum_add_distrib]
      rw [ih, show 256 * (n + 1) = 256 * n + (128 + 128) by ring, Finset.sum_range_add, Finset.sum_range_add]
      simp only [half, Finset.sum_add_distrib, Finset.sum_range]
  exact e 16

/-- The kept bits of a chunk, -/
def ldKeep (σ : St Ideal) (k : ℕ) (hk : k < 16) : IVec S128x256 1 := keepOf fun i => σ .rand ((rX k hk).toLoadRect.idx i)

/-- its `h`, -/
def ldH (σ : St Ideal) (k : ℕ) (hk : k < 16) : FVec Ideal S128x256 .bf16 :=
  hOf (F := Ideal) (ldKeep σ k hk) (fun i => σ .a ((rX k hk).toLoadRect.idx i)) (fun i => σ .x ((rX k hk).toLoadRect.idx i)) fun i => σ .bias ((rV k hk).toLoadRect.idx i)

/-- and the packing weights it meets. -/
def ldW (σ : St Ideal) (kk : ℕ) (hkk : kk < 4) : FVec Ideal S256x128 .bf16 := fun i => σ .pack ((rW kk hkk).toLoadRect.idx i)

theorem ldKeep_ix (hin : In R σ) (k : ℕ) (hk : k < 16) (r : Fin 128) (c : Fin 256) : ldKeep σ k hk (ix2 r c) = R.keep r (256 * k + c) := by
  unfold ldKeep
  rw [keepOf_ix, hin.rand]
  show IntOp.cmpi .uge (R.rd (0 + 1 * r.val) (256 * k + 1 * c.val)) _ = _
  simp [Rows.keep]

theorem ldH_ix (hin : In R σ) (k : ℕ) (hk : k < 16) (r : Fin 128) (c : Fin 256) : ldH σ k hk (ix2 r c) = R.h r (256 * k + c) := by
  unfold ldH
  rw [hOf_ix, ldKeep_ix hin, hin.x, hin.a, hin.bias]
  show R.x (0 + 1 * r.val) (256 * k + 1 * c.val) + Scalar.select _ ((R.a (0 + 1 * r.val) (256 * k + 1 * c.val) + R.bi (256 * k + 1 * c.val)) * cKS) 0 = _
  simp [Rows.h]

theorem ldW_ix (hin : In R σ) (kk : ℕ) (hkk : kk < 4) (x : Fin 256) (l : Fin 128) : ldW σ kk hkk (ix2 x l) = packW (256 * kk + x) l := by
  unfold ldW
  rw [hin.pack]
  show packW (256 * kk + 1 * x.val) (0 + 1 * l.val) = _
  simp

theorem chunk1_acc (k kk : ℕ) (hk : k < 16) (hkk : kk < 4) (acc : FVec Ideal S128x128 .f32) :
    ((chunk1 (F := Ideal) (nD := nD) (τ := τ) (Λ := Λ) A k kk hk hkk acc).run σ).1.1 = addHalves acc (extf .f32 (ldH σ k hk) (by decide)) := rfl

theorem chunk1_part (k kk : ℕ) (hk : k < 16) (hkk : kk < 4) (acc : FVec Ideal S128x128 .f32) :
    ((chunk1 (F := Ideal) (nD := nD) (τ := τ) (Λ := Λ) A k kk hk hkk acc).run σ).1.2 = partOf (ldKeep σ k hk) (ldW σ kk hkk) := rfl

theorem chunk1_h (k kk : ℕ) (hk : k < 16) (hkk : kk < 4) (acc : FVec Ideal S128x128 .f32) :
    ((chunk1 (F := Ideal) (nD := nD) (τ := τ) (Λ := Λ) A k kk hk hkk acc).run σ).2 .h
      = (rX k hk).overlay (σ .h) (shapeCast S1x128x256 (ldH σ k hk) (by decide)) := by
  unfold chunk1
  simp only [Tpl.bind, Tpl.pure, Tpl.load]
  rw [put_self]
  rfl

theorem only_chunk1 (k kk : ℕ) (hk : k < 16) (hkk : kk < 4) (acc) : Only [.h] (chunk1 (F := Ideal) (nD := nD) (τ := τ) (Λ := Λ) A k kk hk hkk acc) :=
  .bind (.load _ _ _) fun _ => .bind (.load _ _ _) fun _ => .bind (.load _ _ _) fun _ => .bind (.load _ _ _) fun _ => .bind (.put (by decide)) fun _ =>
    .bind (.load _ _ _) fun _ => .pure _

/-- The store of a chunk of `h`. -/
theorem ldH_store (hin : In R σ) (k : ℕ) (hk : k < 16) (X : S1x128x4096.Idx → EReal)
    (hh : ∀ i : S1x128x4096.Idx, (i 2).val < 256 * k → X i = R.h (i 1).val (i 2).val) (i : S1x128x4096.Idx) (hi : (i 2).val < 256 * (k + 1)) :
    (rX k hk).overlay X (shapeCast S1x128x256 (ldH σ k hk) (by decide)) i = R.h (i 1).val (i 2).val := by
  refine overlay_rX k hk _ _ i _ ?_ ?_
  · intro x0 x1 x2 h0 h1 h2
    refine (hBlock_ix (ldH σ k hk) x1 x2 x0).trans ?_
    rw [ldH_ix hin, h1, h2]
  · intro hx
    exact hh i (by omega)

theorem ldH_acc (hin : In R σ) (k : ℕ) (hk : k < 16) (acc : FVec Ideal S128x128 .f32) (hacc : ∀ r l, acc (ix2 r l) = ∑ j ∈ Finset.range k, half R.h r l j)
    (r l : Fin 128) : addHalves acc (extf .f32 (ldH σ k hk) (by decide)) (ix2 r l) = ∑ j ∈ Finset.range (k + 1), half R.h r l j := by
  rw [addHalves_ix, hacc, Finset.sum_range_succ]
  exact congrArg _ (congrArg₂ (· + ·) (ldH_ix hin k hk r ⟨l.val, by omega⟩) (ldH_ix hin k hk r ⟨128 + l.val, by omega⟩))

theorem ld_part (hin : In R σ) (k kk : ℕ) (hk : k < 16) (hkk : kk < 4) (r l : Fin 128) :
    partOf (ldKeep σ k hk) (ldW σ kk hkk) (ix2 r l) = ∑ x ∈ Finset.range 256, Scalar.select (R.keep r (256 * k + x)) (packW (256 * kk + x) l) (0 : EReal) := by
  rw [partOf_ix, Finset.sum_range]
  exact Finset.sum_congr rfl fun x _ => by rw [ldKeep_ix hin, ldW_ix hin]

/-- What is so after `k` chunks: the running sums and the columns of `h` written. -/
def Acc (R : Rows) (k : ℕ) (acc : FVec Ideal S128x128 .f32) (X : S1x128x4096.Idx → EReal) : Prop :=
  (∀ r l, acc (ix2 r l) = ∑ j ∈ Finset.range k, half R.h r l j) ∧ ∀ i : S1x128x4096.Idx, (i 2).val < 256 * k → X i = R.h (i 1).val (i 2).val

theorem chunk1_spec (hin : In R σ) (k kk : ℕ) (hk : k < 16) (hkk : kk < 4) (acc : FVec Ideal S128x128 .f32) (h : Acc R k acc (σ .h)) :
    Acc R (k + 1) ((chunk1 (F := Ideal) (nD := nD) (τ := τ) (Λ := Λ) A k kk hk hkk acc).run σ).1.1
      (((chunk1 (F := Ideal) (nD := nD) (τ := τ) (Λ := Λ) A k kk hk hkk acc).run σ).2 .h) := by
  rw [chunk1_acc, chunk1_h]
  exact ⟨ldH_acc hin k hk acc h.1, ldH_store hin k hk (σ .h) h.2⟩

/-- Four chunks' kept bits, packed. -/
theorem sum_pack (r o l : ℕ) (hl : l < 128) :
    (∑ x ∈ Finset.range 256, Scalar.select (R.keep r (256 * (4 * o) + x)) (packW (256 * 0 + x) l) (0 : EReal))
      + (∑ x ∈ Finset.range 256, Scalar.select (R.keep r (256 * (4 * o + 1) + x)) (packW (256 * 1 + x) l) (0 : EReal))
      + (∑ x ∈ Finset.range 256, Scalar.select (R.keep r (256 * (4 * o + 2) + x)) (packW (256 * 2 + x) l) (0 : EReal))
      + (∑ x ∈ Finset.range 256, Scalar.select (R.keep r (256 * (4 * o + 3) + x)) (packW (256 * 3 + x) l) (0 : EReal))
      = ∑ s ∈ Finset.range 8, Scalar.select (R.keep r (8 * (128 * o + l) + s)) (((2 ^ s : ℕ) : ℝ) : EReal) 0 := by
  have h : ∀ c kk, (∑ x ∈ Finset.range 256, Scalar.select (R.keep r (256 * c + x)) (packW (256 * kk + x) l) (0 : EReal)) = ∑ x ∈ Finset.range 256, Scalar.select (R.keep r (256 * c + x)) (packW (256 * kk + x) l) (0 : EReal) := fun _ _ => rfl
  have e : ∀ g : ℕ → EReal, (∑ x ∈ Finset.range 256, g x) + (∑ x ∈ Finset.range 256, g (256 + x)) + (∑ x ∈ Finset.range 256, g (512 + x)) + (∑ x ∈ Finset.range 256, g (768 + x))
      = ∑ x ∈ Finset.range 1024, g x := by
    intro g
    rw [show (1024 : ℕ) = 256 + 256 + 256 + 256 from rfl, Finset.sum_range_add, Finset.sum_range_add, Finset.sum_range_add]
  have f : (∑ x ∈ Finset.range 1024, Scalar.select (R.keep r (1024 * o + x)) (packW x l) (0 : EReal))
      = ∑ s ∈ Finset.range 8, Scalar.select (R.keep r (8 * (128 * o + l) + s)) (((2 ^ s : ℕ) : ℝ) : EReal) 0 := by
    symm
    refine Finset.sum_of_injOn (fun s => 8 * l + s) (fun a _ b _ h => by simpa using h) (fun s hs => ?_) (fun x hx hn => ?_) (fun s hs => ?_)
    · have := Finset.mem_range.mp hs
      exact Finset.mem_coe.mpr (Finset.mem_range.mpr (by show 8 * l + s < 1024; omega))
    · have : packW x l = 0 := if_neg fun hxl => hn ⟨x % 8, Finset.mem_coe.mpr (Finset.mem_range.mpr (by omega)), by show 8 * l + x % 8 = x; omega⟩
      rw [this]; unfold Scalar.select; simp
    · have := Finset.mem_range.mp hs
      have hp : packW (8 * l + s) l = (((2 ^ s : ℕ) : ℝ) : EReal) := by
        unfold packW
        rw [if_pos (by omega), show (8 * l + s) % 8 = s by omega]
      show _ = Scalar.select (R.keep r (1024 * o + (8 * l + s))) (packW (8 * l + s) l) 0
      rw [hp, show 1024 * o + (8 * l + s) = 8 * (128 * o + l) + s by ring]
  rw [← f, ← e]
  refine congrArg₂ (· + ·) (congrArg₂ (· + ·) (congrArg₂ (· + ·) ?_ ?_) ?_) ?_ <;>
    exact Finset.sum_congr rfl fun x _ => by congr 2 <;> ring

theorem only_group1 (o : ℕ) (ho : o < 4) (acc) : Only [.h, .mask] (group1 (F := Ideal) (nD := nD) (τ := τ) (Λ := Λ) A o ho acc) :=
  .bind ((only_chunk1 _ _ _ _ _).mono (by decide)) fun _ => .bind ((only_chunk1 _ _ _ _ _).mono (by decide)) fun _ => .bind ((only_chunk1 _ _ _ _ _).mono (by decide)) fun _ =>
    .bind ((only_chunk1 _ _ _ _ _).mono (by decide)) fun _ => .bind (.put (by decide)) fun _ => .pure _

theorem mask_store (o : ℕ) (ho : o < 4) (X : S1x128x512.Idx → BitVec 8) (p : FVec Ideal S128x128 .f32)
    (hp : ∀ r l, p (ix2 r l) = ∑ s ∈ Finset.range 8, Scalar.select (R.keep r (8 * (128 * o + l.val) + s)) (((2 ^ s : ℕ) : ℝ) : EReal) 0)
    (hX : ∀ i : S1x128x512.Idx, (i 2).val < 128 * o → X i = R.mask (i 1).val (i 2).val) (i : S1x128x512.Idx) (hi : (i 2).val < 128 * (o + 1)) :
    (rM o ho).overlay X (shapeCast S1x128x128 (trunci 8 (fptosi 32 p) (by decide)) (by decide)) i = R.mask (i 1).val (i 2).val := by
  refine overlay_rM o ho _ _ i _ ?_ ?_
  · intro x0 x1 x2 h0 h1 h2
    rw [mask_ix, hp, h1, h2]
    rfl
  · intro hx
    exact hX i (by omega)

theorem group1_spec (hin : In R σ) (o : ℕ) (ho : o < 4) (acc : FVec Ideal S128x128 .f32) (h : Acc R (4 * o) acc (σ .h))
    (hM : ∀ i : S1x128x512.Idx, (i 2).val < 128 * o → σ .mask i = R.mask (i 1).val (i 2).val) :
    Acc R (4 * (o + 1)) ((group1 (F := Ideal) (nD := nD) (τ := τ) (Λ := Λ) A o ho acc).run σ).1 (((group1 (F := Ideal) (nD := nD) (τ := τ) (Λ := Λ) A o ho acc).run σ).2 .h)
    ∧ ∀ i : S1x128x512.Idx, (i 2).val < 128 * (o + 1) → ((group1 (F := Ideal) (nD := nD) (τ := τ) (Λ := Λ) A o ho acc).run σ).2 .mask i = R.mask (i 1).val (i 2).val := by
  unfold group1
  simp only [Tpl.bind, Tpl.pure]
  generalize h1 : (chunk1 (F := Ideal) (nD := nD) (τ := τ) (Λ := Λ) A (4 * o) 0 (by omega) (by omega) acc).run σ = s1
  have a1 := chunk1_spec (A := A) (nD := nD) (τ := τ) (Λ := Λ) hin (4 * o) 0 (by omega) (by omega) acc h
  have b1 := chunk1_part (A := A) (nD := nD) (τ := τ) (Λ := Λ) (σ := σ) (4 * o) 0 (by omega) (by omega) acc
  have o1 := only_chunk1 (A := A) (nD := nD) (τ := τ) (Λ := Λ) (4 * o) 0 (by omega) (by omega) acc σ
  have i1 := hin.of_only (only_chunk1 (A := A) (nD := nD) (τ := τ) (Λ := Λ) (4 * o) 0 (by omega) (by omega) acc) (by decide)
  rw [h1] at a1 b1 o1 i1
  generalize h2 : (chunk1 (F := Ideal) (nD := nD) (τ := τ) (Λ := Λ) A (4 * o + 1) 1 (by omega) (by omega) s1.1.1).run s1.2 = s2
  have a2 := chunk1_spec (A := A) (nD := nD) (τ := τ) (Λ := Λ) i1 (4 * o + 1) 1 (by omega) (by omega) s1.1.1 a1
  have b2 := chunk1_part (A := A) (nD := nD) (τ := τ) (Λ := Λ) (σ := s1.2) (4 * o + 1) 1 (by omega) (by omega) s1.1.1
  have o2 := only_chunk1 (A := A) (nD := nD) (τ := τ) (Λ := Λ) (4 * o + 1) 1 (by omega) (by omega) s1.1.1 s1.2
  have i2 := i1.of_only (only_chunk1 (A := A) (nD := nD) (τ := τ) (Λ := Λ) (4 * o + 1) 1 (by omega) (by omega) s1.1.1) (by decide)
  rw [h2] at a2 b2 o2 i2
  generalize h3 : (chunk1 (F := Ideal) (nD := nD) (τ := τ) (Λ := Λ) A (4 * o + 2) 2 (by omega) (by omega) s2.1.1).run s2.2 = s3
  have a3 := chunk1_spec (A := A) (nD := nD) (τ := τ) (Λ := Λ) i2 (4 * o + 2) 2 (by omega) (by omega) s2.1.1 a2
  have b3 := chunk1_part (A := A) (nD := nD) (τ := τ) (Λ := Λ) (σ := s2.2) (4 * o + 2) 2 (by omega) (by omega) s2.1.1
  have o3 := only_chunk1 (A := A) (nD := nD) (τ := τ) (Λ := Λ) (4 * o + 2) 2 (by omega) (by omega) s2.1.1 s2.2
  have i3 := i2.of_only (only_chunk1 (A := A) (nD := nD) (τ := τ) (Λ := Λ) (4 * o + 2) 2 (by omega) (by omega) s2.1.1) (by decide)
  rw [h3] at a3 b3 o3 i3
  generalize h4 : (chunk1 (F := Ideal) (nD := nD) (τ := τ) (Λ := Λ) A (4 * o + 3) 3 (by omega) (by omega) s3.1.1).run s3.2 = s4
  have a4 := chunk1_spec (A := A) (nD := nD) (τ := τ) (Λ := Λ) i3 (4 * o + 3) 3 (by omega) (by omega) s3.1.1 a3
  have b4 := chunk1_part (A := A) (nD := nD) (τ := τ) (Λ := Λ) (σ := s3.2) (4 * o + 3) 3 (by omega) (by omega) s3.1.1
  have o4 := only_chunk1 (A := A) (nD := nD) (τ := τ) (Λ := Λ) (4 * o + 3) 3 (by omega) (by omega) s3.1.1 s3.2
  rw [h4] at a4 b4 o4
  constructor
  · rw [put_ne _ (by decide)]
    exact a4
  · rw [put_self]
    refine mask_store o ho _ _ (fun r l => ?_) ?_
    · rw [← sum_pack r o l l.isLt]
      rw [b1, b2, b3, b4]
      exact congrArg₂ (· + ·) (congrArg₂ (· + ·) (congrArg₂ (· + ·) (ld_part hin (4 * o) 0 (by omega) (by omega) r l) (ld_part i1 (4 * o + 1) 1 (by omega) (by omega) r l))
        (ld_part i2 (4 * o + 2) 2 (by omega) (by omega) r l)) (ld_part i3 (4 * o + 3) 3 (by omega) (by omega) r l)
    · intro i hi
      rw [o4 .mask (by decide), o3 .mask (by decide), o2 .mask (by decide), o1 .mask (by decide)]
      exact hM i hi

theorem only_pass1 : Only [.h, .mask] (pass1 (F := Ideal) (nD := nD) (τ := τ) (Λ := Λ) A) :=
  .bind (.loop fun _ _ _ => only_group1 _ _ _) fun _ => .pure _

/-- A sum over the lanes of running sums complete. -/
theorem sum_acc {f : ℕ → ℕ → EReal} {acc : FVec Ideal S128x128 .f32} (h : ∀ r l, acc (ix2 r l) = ∑ j ∈ Finset.range 16, half f r l j) (r : Fin 128) :
    (∑ x : Fin 128, (acc (ix2 r x) : EReal)) = ∑ c ∈ Finset.range 4096, f r c := by
  rw [← sum_half]
  exact Finset.sum_congr rfl fun x _ => h r x

/-- The first pass. -/
theorem pass1_spec (hin : In R σ) :
    (∀ r l, ((pass1 (F := Ideal) (nD := nD) (τ := τ) (Λ := Λ) A).run σ).1 (ix2 r l) = R.mean r.val)
    ∧ (∀ i : S1x128x4096.Idx, ((pass1 (F := Ideal) (nD := nD) (τ := τ) (Λ := Λ) A).run σ).2 .h i = R.h (i 1).val (i 2).val)
    ∧ ∀ i : S1x128x512.Idx, ((pass1 (F := Ideal) (nD := nD) (τ := τ) (Λ := Λ) A).run σ).2 .mask i = R.mask (i 1).val (i 2).val := by
  have h := loop_inv (A := A) (nD := nD) (τ := τ) (Λ := Λ) (F := Ideal)
    (fun o acc σ' => In R σ' ∧ Acc R (4 * o) acc (σ' .h) ∧ ∀ i : S1x128x512.Idx, (i 2).val < 128 * o → σ' .mask i = R.mask (i 1).val (i 2).val)
    4 (group1 A) zeroAcc σ ⟨hin, ⟨fun r l => ?_, fun i hi => absurd hi (by omega)⟩, fun i hi => absurd hi (by omega)⟩
    fun o ho acc σ' h => ⟨h.1.of_only (only_group1 o ho acc) (by decide), group1_spec h.1 o ho acc h.2.1 h.2.2⟩
  · obtain ⟨-, h1, h2⟩ := h
    unfold pass1
    simp only [Tpl.bind, Tpl.pure]
    refine ⟨fun r l => ?_, fun i => h1.2 i (i 2).isLt, fun i => h2 i (i 2).isLt⟩
    rw [meanOf_ix, sum_acc h1.1]
    rfl
  · show Ideal.ofBits .f32 0x00000000#32 = _
    simp [Ideal.ofBits_zero]

end Cert.Body
-- ==== Proof.Pass2.lean ====
/-
  The second pass: the rows less their means, and the reciprocals of their deviations.
-/
module

public import proofs.«01_k».proof.Proof.Pass1

@[expose] public section

set_option maxRecDepth 16384

open Idealize.ShloMosaic Idealize.SL.Sem

noncomputable section

namespace Cert.Body

open Cert.Tpl

variable {nD : Nat} {τ : Topo} {sig : RefSig} {Λ : Labels} {A : Args sig} {R : Rows} {σ : St Ideal}

/-- A chunk of `h` less the mean. -/
def ldC (mean : FVec Ideal S128x1 .f32) (σ : St Ideal) (k : ℕ) (hk : k < 16) : FVec Ideal S128x256 .f32 :=
  centred mean fun i => σ .h ((rX k hk).toLoadRect.idx i)

theorem ldC_ix {mean : FVec Ideal S128x1 .f32} (hm : ∀ r l, mean (ix2 r l) = R.mean r.val) (hh : ∀ i : S1x128x4096.Idx, σ .h i = R.h (i 1).val (i 2).val)
    (k : ℕ) (hk : k < 16) (r : Fin 128) (c : Fin 256) : ldC mean σ k hk (ix2 r c) = R.cen r (256 * k + c) := by
  unfold ldC
  rw [centred_ix, hm, hh]
  show R.h (0 + 1 * r.val) (256 * k + 1 * c.val) - _ = _
  simp [Rows.cen]

theorem yBlock_ix {α : Type} (v : S128x256.Idx → α) (r : Fin 128) (c : Fin 256) : shapeCast S128x256 v (by decide) (ix2 r c) = v (ix2 r c) := by
  pointwise

theorem ldC_store {mean : FVec Ideal S128x1 .f32} (hm : ∀ r l, mean (ix2 r l) = R.mean r.val) (hh : ∀ i : S1x128x4096.Idx, σ .h i = R.h (i 1).val (i 2).val)
    (k : ℕ) (hk : k < 16) (X : S128x4096.Idx → EReal) (hX : ∀ i : S128x4096.Idx, (i 1).val < 256 * k → X i = R.cen (i 0).val (i 1).val)
    (i : S128x4096.Idx) (hi : (i 1).val < 256 * (k + 1)) :
    (rY k hk).overlay X (shapeCast S128x256 (ldC mean σ k hk) (by decide)) i = R.cen (i 0).val (i 1).val := by
  refine overlay_rY k hk _ _ i _ ?_ ?_
  · intro x0 x1 h0 h1
    refine (yBlock_ix (ldC mean σ k hk) x0 x1).trans ?_
    rw [ldC_ix hm hh, h0, h1]
  · intro hx
    exact hX i (by omega)

theorem ldC_acc {mean : FVec Ideal S128x1 .f32} (hm : ∀ r l, mean (ix2 r l) = R.mean r.val) (hh : ∀ i : S1x128x4096.Idx, σ .h i = R.h (i 1).val (i 2).val)
    (k : ℕ) (hk : k < 16) (acc : FVec Ideal S128x128 .f32) (hacc : ∀ r l, acc (ix2 r l) = ∑ j ∈ Finset.range k, half (fun r c => R.cen r c * R.cen r c) r l j)
    (r l : Fin 128) : addHalves acc (mulf (ldC mean σ k hk) (ldC mean σ k hk)) (ix2 r l)
      = ∑ j ∈ Finset.range (k + 1), half (fun r c => R.cen r c * R.cen r c) r l j := by
  rw [addHalves_ix, hacc, Finset.sum_range_succ, square_ix, square_ix, ldC_ix hm hh, ldC_ix hm hh]
  rfl

theorem only_chunk2 (mean) (k : ℕ) (hk : k < 16) (acc) : Only [.y] (chunk2 (F := Ideal) (nD := nD) (τ := τ) (Λ := Λ) A mean k hk acc) :=
  .bind (.load _ _ _) fun _ => .bind (.put (by decide)) fun _ => .pure _

theorem only_pass2 (mean) : Only [.y] (pass2 (F := Ideal) (nD := nD) (τ := τ) (Λ := Λ) A mean) :=
  .bind (.loop fun _ _ _ => only_chunk2 _ _ _ _) fun _ => .pure _

theorem chunk2_acc (mean) (k : ℕ) (hk : k < 16) (acc) :
    ((chunk2 (F := Ideal) (nD := nD) (τ := τ) (Λ := Λ) A mean k hk acc).run σ).1 = addHalves acc (mulf (ldC mean σ k hk) (ldC mean σ k hk)) := rfl

theorem chunk2_y (mean) (k : ℕ) (hk : k < 16) (acc) :
    ((chunk2 (F := Ideal) (nD := nD) (τ := τ) (Λ := Λ) A mean k hk acc).run σ).2 .y
      = (rY k hk).overlay (σ .y) (shapeCast S128x256 (ldC mean σ k hk) (by decide)) := by
  unfold chunk2
  simp only [Tpl.bind, Tpl.pure, Tpl.load]
  rw [put_self]
  rfl

/-- The second pass. -/
theorem pass2_spec {mean : FVec Ideal S128x1 .f32} (hm : ∀ r l, mean (ix2 r l) = R.mean r.val) (hh : ∀ i : S1x128x4096.Idx, σ .h i = R.h (i 1).val (i 2).val) :
    (∀ r l, ((pass2 (F := Ideal) (nD := nD) (τ := τ) (Λ := Λ) A mean).run σ).1 (ix2 r l) = R.rstd r.val)
    ∧ ∀ i : S128x4096.Idx, ((pass2 (F := Ideal) (nD := nD) (τ := τ) (Λ := Λ) A mean).run σ).2 .y i = R.cen (i 0).val (i 1).val := by
  have h := loop_inv (A := A) (nD := nD) (τ := τ) (Λ := Λ) (F := Ideal)
    (fun k acc σ' => (∀ i : S1x128x4096.Idx, σ' .h i = R.h (i 1).val (i 2).val)
      ∧ (∀ (r l : Fin 128), acc (ix2 r l) = ∑ j ∈ Finset.range k, half (fun r c => R.cen r c * R.cen r c) r l j)
      ∧ ∀ i : S128x4096.Idx, (i 1).val < 256 * k → σ' .y i = R.cen (i 0).val (i 1).val)
    16 (chunk2 A mean) zeroAcc σ ⟨hh, fun r l => ?_, fun i hi => absurd hi (by omega)⟩
    fun k hk acc σ' h => ⟨?_, ?_, ?_⟩
  · obtain ⟨-, h1, h2⟩ := h
    unfold pass2
    simp only [Tpl.bind, Tpl.pure]
    refine ⟨fun r l => ?_, fun i => h2 i (i 1).isLt⟩
    rw [rstdOf_ix, sum_acc h1]
    rfl
  · show Ideal.ofBits .f32 0x00000000#32 = _
    simp [Ideal.ofBits_zero]
  · rw [only_chunk2 _ _ _ _ _ _ (by decide)]
    exact h.1
  · rw [chunk2_acc]
    exact ldC_acc hm h.1 k hk acc h.2.1
  · rw [chunk2_y]
    exact ldC_store hm h.1 k hk (σ' .y) h.2.2

end Cert.Body
-- ==== Proof.Tiles.lean ====
/-
  The statistics kept and copied out, and the normalised rows with their maxima.
-/
module

public import proofs.«01_k».proof.Proof.Pass2

@[expose] public section

set_option maxRecDepth 16384

open Idealize.ShloMosaic Idealize.SL.Sem

noncomputable section

namespace Cert.Rows

variable (R : Rows)

/-- The maximum of four channels of a group, as the kernel keeps it: row `i` of the row maxima. -/
def rowPart (i l : ℕ) : EReal :=
  max (max (R.ay l (32 * (i / 8) + i % 8)) (R.ay l (32 * (i / 8) + (8 + i % 8)))) (max (R.ay l (32 * (i / 8) + (16 + i % 8))) (R.ay l (32 * (i / 8) + (24 + i % 8))))

/-- The maximum of four rows of a group: row `i` of the column maxima. -/
def colPart (i l : ℕ) : EReal :=
  max (max (R.ay (32 * (i / 256) + i % 8) (128 * (i / 8 % 32) + l)) (R.ay (32 * (i / 256) + (8 + i % 8)) (128 * (i / 8 % 32) + l)))
    (max (R.ay (32 * (i / 256) + (16 + i % 8)) (128 * (i / 8 % 32) + l)) (R.ay (32 * (i / 256) + (24 + i % 8)) (128 * (i / 8 % 32) + l)))

end Cert.Rows

namespace Cert.Body

open Cert.Tpl

variable {nD : Nat} {τ : Topo} {sig : RefSig} {Λ : Labels} {A : Args sig} {R : Rows} {σ : St Ideal}

/-! ## Statistics -/

/-- The statistics of the first `t` steps are kept. -/
def StatOK (Mf Rf : ℕ → ℕ → EReal) (t : ℕ) (X : S32x128.Idx → EReal) : Prop :=
  ∀ i : S32x128.Idx, ((i 0).val < t → X i = Mf (i 0).val (i 1).val) ∧ (16 ≤ (i 0).val → (i 0).val < 16 + t → X i = Rf ((i 0).val - 16) (i 1).val)

theorem statBlock_ix (v : FVec Ideal S128x1 .f32) (r : Fin 128) (z : Fin 1) :
    shapeCast S1x128 (statRow v) (by decide) (ix2 z r) = v (ix2 r 0) := by
  rw [show shapeCast S1x128 (statRow v) (by decide) (ix2 z r) = statRow v (ix2 z r) by pointwise]
  exact statRow_ix v r z

theorem stat_store {Mf Rf : ℕ → ℕ → EReal} {r : ℕ} (hr : r < 16) {mean rstd : FVec Ideal S128x1 .f32} (hm : ∀ l : Fin 128, mean (ix2 l 0) = Mf r l.val)
    (hs : ∀ l : Fin 128, rstd (ix2 l 0) = Rf r l.val) (X : S32x128.Idx → EReal) (hX : StatOK Mf Rf r X) :
    StatOK Mf Rf (r + 1) ((rS (16 + r) (by omega)).overlay ((rS r (by omega)).overlay X (shapeCast S1x128 (statRow mean) (by decide)))
      (shapeCast S1x128 (statRow rstd) (by decide))) := by
  intro i
  refine ⟨fun hi => ?_, fun h16 hi => ?_⟩
  · refine overlay_rS _ _ _ _ _ _ (fun x0 x1 h0 h1 => by omega) fun _ => ?_
    refine overlay_rS _ _ _ _ _ _ (fun x0 x1 h0 h1 => ?_) fun hx => (hX i).1 (by omega)
    refine (statBlock_ix mean x1 x0).trans ?_
    rw [hm, h1]
    congr 1
    omega
  · refine overlay_rS _ _ _ _ _ _ (fun x0 x1 h0 h1 => ?_) fun hx => ?_
    · refine (statBlock_ix rstd x1 x0).trans ?_
      rw [hs, h1]
      congr 1
      omega
    · exact overlay_rS _ _ _ _ _ _ (fun x0 x1 h0 h1 => by omega) fun _ => (hX i).2 h16 (by omega)

theorem only_stats (r hr) (mean rstd) : Only [.stat] (stats (F := Ideal) (nD := nD) (τ := τ) (Λ := Λ) A r hr mean rstd) :=
  .bind (.put (by decide)) fun _ => .put (by decide)

theorem stats_spec {Mf Rf : ℕ → ℕ → EReal} {r : ℕ} (hr : r < 16) {mean rstd : FVec Ideal S128x1 .f32} (hm : ∀ l : Fin 128, mean (ix2 l 0) = Mf r l.val)
    (hs : ∀ l : Fin 128, rstd (ix2 l 0) = Rf r l.val) (hX : StatOK Mf Rf r (σ .stat)) :
    StatOK Mf Rf (r + 1) (((stats (F := Ideal) (nD := nD) (τ := τ) (Λ := Λ) A r hr mean rstd).run σ).2 .stat) := by
  unfold stats
  simp only [Tpl.bind]
  rw [put_self, put_self]
  exact stat_store hr hm hs _ hX

/-- The first `r` steps' statistics are copied out. -/
def StatOut (Mf : ℕ → ℕ → EReal) (r : ℕ) (X : S2x1024.Idx → EReal) : Prop :=
  ∀ i : S2x1024.Idx, 8 * (i 0).val + (i 1).val / 128 < r → X i = Mf (8 * (i 0).val + (i 1).val / 128) ((i 1).val % 128)

theorem statOut_store {Mf : ℕ → ℕ → EReal} {r : ℕ} (hr : r < 16) (v : FVec Ideal S1x128 .f32) (hv : ∀ (z : Fin 1) (l : Fin 128), v (ix2 z l) = Mf r l.val)
    (X : S2x1024.Idx → EReal) (hX : StatOut Mf r X) : StatOut Mf (r + 1) ((rR (r / 8) (r % 8) (by omega) (by omega)).overlay X v) := by
  intro i hi
  have b1 : (i 1).val < 1024 := (i 1).isLt
  refine overlay_rR _ _ _ _ _ _ _ _ (fun x0 x1 h0 h1 => ?_) fun hx => hX i (by omega)
  rw [hv]
  congr 1 <;> omega

theorem only_statOut (r hr u) : Only [.mean, .rstd] (statOut (F := Ideal) (nD := nD) (τ := τ) (Λ := Λ) A r hr u) :=
  .bind (.load _ _ _) fun _ => .bind (.put (by decide)) fun _ => .bind (.load _ _ _) fun _ => .put (by decide)

theorem statOut_run (r hr u) : ((statOut (F := Ideal) (nD := nD) (τ := τ) (Λ := Λ) A r hr u).run σ).2 .mean
      = (rR (r / 8) (r % 8) (by omega) (by omega)).overlay (σ .mean) (fun x => σ .stat ((rS r (by omega)).toLoadRect.idx x))
    ∧ ((statOut (F := Ideal) (nD := nD) (τ := τ) (Λ := Λ) A r hr u).run σ).2 .rstd
      = (rR (r / 8) (r % 8) (by omega) (by omega)).overlay (σ .rstd) (fun x => σ .stat ((rS (16 + r) (by omega)).toLoadRect.idx x)) := by
  unfold statOut
  simp only [Tpl.bind, Tpl.load]
  constructor
  · rw [put_ne _ (by decide), put_self]
    rfl
  · rw [put_self, put_ne _ (by decide), put_ne _ (by decide)]
    rfl

theorem statLoop_spec {Mf Rf : ℕ → ℕ → EReal} (hX : StatOK Mf Rf 16 (σ .stat)) :
    StatOut Mf 16 (((Tpl.loop 16 (statOut (F := Ideal) (nD := nD) (τ := τ) (Λ := Λ) A) ⟨⟩).run σ).2 .mean)
    ∧ StatOut Rf 16 (((Tpl.loop 16 (statOut (F := Ideal) (nD := nD) (τ := τ) (Λ := Λ) A) ⟨⟩).run σ).2 .rstd) := by
  refine (loop_inv (A := A) (nD := nD) (τ := τ) (Λ := Λ) (F := Ideal)
    (fun r _ σ' => StatOK Mf Rf 16 (σ' .stat) ∧ StatOut Mf r (σ' .mean) ∧ StatOut Rf r (σ' .rstd))
    16 (statOut A) ⟨⟩ σ ⟨hX, fun i hi => absurd hi (by omega), fun i hi => absurd hi (by omega)⟩ ?_).2
  rintro r hr g σ' ⟨h1, h2, h3⟩
  refine ⟨?_, ?_, ?_⟩
  · rw [only_statOut r hr g σ' .stat (by decide)]; exact h1
  · rw [(statOut_run (σ := σ') r hr g).1]
    refine statOut_store hr _ (fun z l => ?_) _ h2
    refine ((h1 _).1 ?_).trans ?_
    · show r + 1 * z.val < 16; omega
    · show Mf (r + 1 * z.val) (0 + 1 * l.val) = _; congr 1 <;> omega
  · rw [(statOut_run (σ := σ') r hr g).2]
    refine statOut_store hr _ (fun z l => ?_) _ h3
    refine ((h1 _).2 ?_ ?_).trans ?_
    · show 16 ≤ 16 + r + 1 * z.val; omega
    · show 16 + r + 1 * z.val < 16 + 16; omega
    · show Rf (16 + r + 1 * z.val - 16) (0 + 1 * l.val) = _; congr 1 <;> omega

/-! ## The normalised rows -/

/-- The vectors over channels are those of `R`. -/
structure Chan (R : Rows) (σ : St Ideal) : Prop where
  gamma : ∀ i : S1x4096.Idx, σ .gamma i = R.ga (i 1).val
  beta : ∀ i : S1x4096.Idx, σ .beta i = R.be (i 1).val

/-- A tile of them. -/
def ldY (rstd : FVec Ideal S128x1 .f32) (σ : St Ideal) (j : ℕ) (hj : j < 32) : FVec Ideal S128x128 .f32 :=
  yOf rstd (fun i => σ .y ((rT j hj).toLoadRect.idx i)) (fun i => σ .gamma ((rU j hj).toLoadRect.idx i)) (fun i => σ .beta ((rU j hj).toLoadRect.idx i))

theorem ldY_ix {rstd : FVec Ideal S128x1 .f32} (hs : ∀ r l, rstd (ix2 r l) = R.rstd r.val) (hc : Chan R σ) (j : ℕ) (hj : j < 32)
    (hy : ∀ i : S128x4096.Idx, 128 * j ≤ (i 1).val → σ .y i = R.cen (i 0).val (i 1).val) (r l : Fin 128) :
    ldY rstd σ j hj (ix2 r l) = R.y r.val (128 * j + l.val) := by
  unfold ldY
  rw [yOf_ix, hs, hc.gamma, hc.beta, hy _ (by show 128 * j ≤ 128 * j + 1 * l.val; omega)]
  show R.cen (0 + 1 * r.val) (128 * j + 1 * l.val) * _ * R.ga (128 * j + 1 * l.val) + R.be (128 * j + 1 * l.val) = _
  simp [Rows.y]

/-- The tiles before `j` are normalised, the others not yet. -/
def YOK (R : Rows) (j : ℕ) (X : S128x4096.Idx → EReal) : Prop :=
  ∀ i : S128x4096.Idx, X i = if (i 1).val < 128 * j then R.y (i 0).val (i 1).val else R.cen (i 0).val (i 1).val

/-- The row maxima of the first groups are there, -/
def RowOK (R : Rows) (n : ℕ) (X : S1024x128.Idx → EReal) : Prop :=
  ∀ i : S1024x128.Idx, (i 0).val < 8 * n → X i = R.rowPart (i 0).val (i 1).val

/-- and the column maxima of the first tiles, with `q` groups of the next. -/
def ColOK (R : Rows) (j q : ℕ) (X : S1024x128.Idx → EReal) : Prop :=
  ∀ i : S1024x128.Idx, (i 0).val / 8 % 32 < j ∨ (i 0).val / 8 % 32 = j ∧ (i 0).val / 256 < q → X i = R.colPart (i 0).val (i 1).val

theorem cast8_ix {α : Type} (v : S8x128.Idx → α) (s : Fin 8) (l : Fin 128) : shapeCast S8x128 v (by decide) (ix2 s l) = v (ix2 s l) := by
  pointwise

theorem col_store {ay : FVec Ideal S128x128 .f32} (j : ℕ) (hj : j < 32) (hay : ∀ r l, ay (ix2 r l) = R.ay r.val (128 * j + l.val)) (q : ℕ) (hq : q < 4)
    (X : S1024x128.Idx → EReal) (hX : ColOK R j q X) :
    ColOK R j (q + 1) ((rG (q * 32 + j) (by omega)).overlay X (shapeCast S8x128 (maxVregs ay q hq) (by decide))) := by
  intro i hi
  have b0 : (i 0).val < 1024 := (i 0).isLt
  refine overlay_rG _ _ _ _ _ _ (fun x0 x1 h0 h1 => ?_) fun hx => hX i (by omega)
  refine (cast8_ix _ x0 x1).trans ?_
  rw [maxVregs_ix]
  simp only [hay]
  unfold Rows.colPart
  rw [h0, h1, show (8 * (q * 32 + j) + x0.val) / 256 = q by omega, show (8 * (q * 32 + j) + x0.val) / 8 % 32 = j by omega,
    show (8 * (q * 32 + j) + x0.val) % 8 = x0.val by omega]

theorem row_store {ay : FVec Ideal S128x128 .f32} (j : ℕ) (hj : j < 32) (hay : ∀ r l, ay (ix2 r l) = R.ay r.val (128 * j + l.val)) (q : ℕ) (hq : q < 4)
    (X : S1024x128.Idx → EReal) (hX : RowOK R (j * 4 + q) X) :
    RowOK R (j * 4 + (q + 1)) ((rG (j * 4 + q) (by omega)).overlay X (shapeCast S8x128 (maxVregs (transpose S128x128 [1, 0] ay (by decide)) q hq) (by decide))) := by
  intro i hi
  have b0 : (i 0).val < 1024 := (i 0).isLt
  refine overlay_rG _ _ _ _ _ _ (fun x0 x1 h0 h1 => ?_) fun hx => hX i (by omega)
  refine (cast8_ix _ x0 x1).trans ?_
  rw [maxVregsT_ix]
  simp only [hay]
  unfold Rows.rowPart
  rw [h0, h1, show (8 * (j * 4 + q) + x0.val) / 8 = j * 4 + q by omega, show (8 * (j * 4 + q) + x0.val) % 8 = x0.val by omega]
  congr 3 <;> omega

theorem only_maxima (ay) (j hj q hq u) : Only [.col, .row] (maxima (F := Ideal) (nD := nD) (τ := τ) (Λ := Λ) A ay j hj q hq u) :=
  .bind (.put (by decide)) fun _ => .put (by decide)

theorem maxima_run (ay) (j hj q hq u) : ((maxima (F := Ideal) (nD := nD) (τ := τ) (Λ := Λ) A ay j hj q hq u).run σ).2 .col
      = (rG (q * 32 + j) (by omega)).overlay (σ .col) (shapeCast S8x128 (maxVregs ay q hq) (by decide))
    ∧ ((maxima (F := Ideal) (nD := nD) (τ := τ) (Λ := Λ) A ay j hj q hq u).run σ).2 .row
      = (rG (j * 4 + q) (by omega)).overlay (σ .row) (shapeCast S8x128 (maxVregs (transpose S128x128 [1, 0] ay (by decide)) q hq) (by decide)) := by
  unfold maxima
  simp only [Tpl.bind]
  constructor
  · rw [put_ne _ (by decide), put_self]
  · rw [put_self, put_ne _ (by decide)]

theorem maxLoop_spec {ay : FVec Ideal S128x128 .f32} (j : ℕ) (hj : j < 32) (hay : ∀ r l, ay (ix2 r l) = R.ay r.val (128 * j + l.val))
    (hr : RowOK R (j * 4) (σ .row)) (hc : ColOK R j 0 (σ .col)) :
    RowOK R ((j + 1) * 4) (((Tpl.loop 4 (fun q hq u => maxima (F := Ideal) (nD := nD) (τ := τ) (Λ := Λ) A ay j hj q hq u) ⟨⟩).run σ).2 .row)
    ∧ ColOK R (j + 1) 0 (((Tpl.loop 4 (fun q hq u => maxima (F := Ideal) (nD := nD) (τ := τ) (Λ := Λ) A ay j hj q hq u) ⟨⟩).run σ).2 .col) := by
  have h := loop_inv (A := A) (nD := nD) (τ := τ) (Λ := Λ) (F := Ideal) (fun q _ σ' => RowOK R (j * 4 + q) (σ' .row) ∧ ColOK R j q (σ' .col))
    4 (fun q hq u => maxima A ay j hj q hq u) ⟨⟩ σ ⟨hr, hc⟩ fun q hq u σ' h => ⟨?_, ?_⟩
  · refine ⟨fun i hi => h.1 i (by omega), fun i hi => h.2 i ?_⟩
    have b0 : (i 0).val < 1024 := (i 0).isLt
    omega
  · rw [(maxima_run ay j hj q hq u).2]
    exact row_store j hj hay q hq _ h.1
  · rw [(maxima_run ay j hj q hq u).1]
    exact col_store j hj hay q hq _ h.2

theorem y_store {v : FVec Ideal S128x128 .f32} (j : ℕ) (hj : j < 32) (hv : ∀ r l, v (ix2 r l) = R.y r.val (128 * j + l.val))
    (X : S128x4096.Idx → EReal) (hX : YOK R j X) : YOK R (j + 1) ((rT j hj).overlay X (shapeCast S128x128 v (by decide))) := by
  intro i
  refine overlay_rT _ _ _ _ _ _ (fun x0 x1 h0 h1 => ?_) fun hx => ?_
  · refine (show shapeCast S128x128 v (by decide) (ix2 x0 x1) = v (ix2 x0 x1) by pointwise).trans ?_
    rw [hv, h0, h1, if_pos (by omega)]
  · rw [hX i]
    split
    · rw [if_pos (by omega)]
    · rw [if_neg (by omega)]

theorem only_tile (rstd) (j hj u) : Only [.y, .col, .row] (tile (F := Ideal) (nD := nD) (τ := τ) (Λ := Λ) A rstd j hj u) :=
  .bind (.load _ _ _) fun _ => .bind (.load _ _ _) fun _ => .bind (.load _ _ _) fun _ => .bind (.put (by decide)) fun _ =>
    .loop fun _ _ _ => (only_maxima _ _ _ _ _ _).mono (by decide)

theorem only_maxLoop (ay) (j hj) : Only [.col, .row] (Tpl.loop 4 (fun q hq u => maxima (F := Ideal) (nD := nD) (τ := τ) (Λ := Λ) A ay j hj q hq u) ⟨⟩) :=
  .loop fun _ _ _ => only_maxima _ _ _ _ _ _

theorem tile_run (rstd) (j hj u) : (tile (F := Ideal) (nD := nD) (τ := τ) (Λ := Λ) A rstd j hj u).run σ
    = (Tpl.loop 4 (fun q hq u => maxima (F := Ideal) (nD := nD) (τ := τ) (Λ := Λ) A (absf (ldY rstd σ j hj)) j hj q hq u) ⟨⟩).run
      ((put (F := Ideal) (nD := nD) (τ := τ) (Λ := Λ) A .y (rT j hj) p128x128 (shapeCast S128x128 (ldY rstd σ j hj) (by decide)) (stores_word A .y _ p128x128 rfl)).run σ).2 := rfl

/-- The tiles. -/
theorem tiles_spec {rstd : FVec Ideal S128x1 .f32} (hs : ∀ r l, rstd (ix2 r l) = R.rstd r.val) (hc : Chan R σ)
    (hy : ∀ i : S128x4096.Idx, σ .y i = R.cen (i 0).val (i 1).val) :
    (∀ i : S128x4096.Idx, ((Tpl.loop 32 (tile (F := Ideal) (nD := nD) (τ := τ) (Λ := Λ) A rstd) ⟨⟩).run σ).2 .y i = R.y (i 0).val (i 1).val)
    ∧ (∀ i : S1024x128.Idx, ((Tpl.loop 32 (tile (F := Ideal) (nD := nD) (τ := τ) (Λ := Λ) A rstd) ⟨⟩).run σ).2 .row i = R.rowPart (i 0).val (i 1).val)
    ∧ ∀ i : S1024x128.Idx, ((Tpl.loop 32 (tile (F := Ideal) (nD := nD) (τ := τ) (Λ := Λ) A rstd) ⟨⟩).run σ).2 .col i = R.colPart (i 0).val (i 1).val := by
  have h := loop_inv (A := A) (nD := nD) (τ := τ) (Λ := Λ) (F := Ideal)
    (fun j _ σ' => Chan R σ' ∧ YOK R j (σ' .y) ∧ RowOK R (j * 4) (σ' .row) ∧ ColOK R j 0 (σ' .col))
    32 (tile A rstd) ⟨⟩ σ ⟨hc, fun i => ?_, fun i hi => absurd hi (by omega), fun i hi => absurd hi (by omega)⟩ ?_
  · obtain ⟨-, h1, h2, h3⟩ := h
    refine ⟨fun i => (h1 i).trans (if_pos (i 1).isLt), fun i => h2 i (i 0).isLt, fun i => h3 i (.inl ?_)⟩
    omega
  · rw [if_neg (by omega)]; exact hy i
  · rintro j hj u σ' ⟨h1, h2, h3, h4⟩
    refine ⟨⟨?_, ?_⟩, ?_⟩
    · rw [only_tile rstd j hj u σ' .gamma (by decide)]; exact h1.gamma
    · rw [only_tile rstd j hj u σ' .beta (by decide)]; exact h1.beta
    have hv : ∀ r l, ldY rstd σ' j hj (ix2 r l) = R.y r.val (128 * j + l.val) :=
      ldY_ix hs h1 j hj fun i hi => (h2 i).trans (if_neg (by omega))
    rw [tile_run]
    generalize hs1 : ((put (F := Ideal) (nD := nD) (τ := τ) (Λ := Λ) A .y (rT j hj) p128x128 (shapeCast S128x128 (ldY rstd σ' j hj) (by decide)) (stores_word A .y _ p128x128 rfl)).run σ').2 = s1
    have e1 : s1 .y = (rT j hj).overlay (σ' .y) (shapeCast S128x128 (ldY rstd σ' j hj) (by decide)) := by rw [← hs1, put_self]
    have e2 : s1 .row = σ' .row := by rw [← hs1, put_ne _ (by decide)]
    have e3 : s1 .col = σ' .col := by rw [← hs1, put_ne _ (by decide)]
    have hay : ∀ r l, absf (ldY rstd σ' j hj) (ix2 r l) = R.ay r.val (128 * j + l.val) := fun r l => by rw [absf_ix, hv]; rfl
    have hm := maxLoop_spec (nD := nD) (τ := τ) (Λ := Λ) (A := A) (σ := s1) j hj hay (by rw [e2]; exact h3) (by rw [e3]; exact h4)
    refine ⟨?_, hm⟩
    rw [only_maxLoop _ j hj s1 .y (by decide), e1]
    exact y_store j hj hv _ h2

end Cert.Body
-- ==== Proof.Exps.lean ====
/-
  The exponents of the row and column groups.
-/
module

public import proofs.«01_k».proof.Proof.Tiles

@[expose] public section

set_option maxRecDepth 16384

open Idealize.ShloMosaic Idealize.SL.Sem

noncomputable section

namespace Cert.Rows

variable (R : Rows)

/-- The maximum of four values eight apart. -/
def four (f : ℕ → EReal) (s : ℕ) : EReal := max (max (f s) (f (8 + s))) (max (f (16 + s)) (f (24 + s)))

/-- Eight of them are the maximum of 32 values. -/
theorem max_eight_four (f : ℕ → EReal) :
    max (max (max (four f 0) (four f 1)) (max (four f 2) (four f 3))) (max (max (four f 4) (four f 5)) (max (four f 6) (four f 7)))
      = (Finset.range 32).sup f := by
  refine eq_of_forall_ge_iff fun c => ?_
  unfold four
  simp only [max_le_iff, Finset.sup_le_iff, Finset.mem_range, Nat.reduceAdd]
  constructor
  · intro h x hx
    obtain ⟨⟨⟨⟨⟨_, _⟩, _, _⟩, ⟨_, _⟩, _, _⟩, ⟨⟨_, _⟩, _, _⟩, ⟨_, _⟩, _, _⟩, ⟨⟨⟨_, _⟩, _, _⟩, ⟨_, _⟩, _, _⟩, ⟨⟨_, _⟩, _, _⟩, ⟨_, _⟩, _, _⟩ := h
    interval_cases x <;> assumption
  · intro h
    refine ⟨⟨⟨⟨⟨?_, ?_⟩, ?_, ?_⟩, ⟨?_, ?_⟩, ?_, ?_⟩, ⟨⟨?_, ?_⟩, ?_, ?_⟩, ⟨?_, ?_⟩, ?_, ?_⟩, ⟨⟨⟨?_, ?_⟩, ?_, ?_⟩, ⟨?_, ?_⟩, ?_, ?_⟩, ⟨⟨?_, ?_⟩, ?_, ?_⟩, ⟨?_, ?_⟩, ?_, ?_⟩ <;>
      exact h _ (by norm_num)

theorem rowPart_eq (g s l : ℕ) (hs : s < 8) : R.rowPart (8 * g + s) l = four (fun x => R.ay l (32 * g + x)) s := by
  unfold rowPart four
  rw [show (8 * g + s) / 8 = g by omega, show (8 * g + s) % 8 = s by omega]

theorem colPart_eq (q j s l : ℕ) (hj : j < 32) (hs : s < 8) : R.colPart (256 * q + 8 * j + s) l = four (fun x => R.ay (32 * q + x) (128 * j + l)) s := by
  unfold colPart four
  rw [show (256 * q + 8 * j + s) / 256 = q by omega, show (256 * q + 8 * j + s) / 8 % 32 = j by omega, show (256 * q + 8 * j + s) % 8 = s by omega]

end Cert.Rows

namespace Cert.Body

open Cert.Tpl

variable {nD : Nat} {τ : Topo} {sig : RefSig} {Λ : Labels} {A : Args sig} {R : Rows} {σ : St Ideal}

/-- Every eighth row of a buffer of maxima, from row `64 t + s`. -/
def ldM (X : S1024x128.Idx → EReal) (t : ℕ) (ht : t < 16) (s : ℕ) (hs : s < 8) : FVec Ideal S8x128 .f32 := fun i => X ((rL t s ht hs).idx i)

/-- The maximum of eight. -/
def maxM (X : S1024x128.Idx → EReal) (t : ℕ) (ht : t < 16) : FVec Ideal S8x128 .f32 :=
  maximumf (maximumf (maximumf (ldM X t ht 0 (by omega)) (ldM X t ht 1 (by omega))) (maximumf (ldM X t ht 2 (by omega)) (ldM X t ht 3 (by omega))))
    (maximumf (maximumf (ldM X t ht 4 (by omega)) (ldM X t ht 5 (by omega))) (maximumf (ldM X t ht 6 (by omega)) (ldM X t ht 7 (by omega))))

theorem maxM_ix {X : S1024x128.Idx → EReal} (t : ℕ) (ht : t < 16) (x : Fin 8) (l : Fin 128) (f : ℕ → EReal)
    (hX : ∀ s, s < 8 → ∀ i : S1024x128.Idx, (i 0).val = 8 * (8 * t + x.val) + s → (i 1).val = l.val → X i = Rows.four f s) :
    maxM X t ht (ix2 x l) = (Finset.range 32).sup f := by
  have h : ∀ s (hs : s < 8), ldM X t ht s hs (ix2 x l) = Rows.four f s := fun s hs => hX s hs _
    (by show 64 * t + s + 8 * x.val = _; ring) (by show 0 + 1 * l.val = _; ring)
  unfold maxM
  rw [maxEight_ix, h, h, h, h, h, h, h, h]
  exact Rows.max_eight_four f

theorem rowM_ix {X : S1024x128.Idx → EReal} (hX : ∀ i : S1024x128.Idx, X i = R.rowPart (i 0).val (i 1).val) (t : ℕ) (ht : t < 16) (x : Fin 8) (l : Fin 128) :
    maxM X t ht (ix2 x l) = R.rowMax l (8 * t + x) :=
  maxM_ix t ht x l _ fun s hs i h0 h1 => by rw [hX, h0, h1, R.rowPart_eq _ _ _ hs]

theorem colM_ix {X : S1024x128.Idx → EReal} (hX : ∀ i : S1024x128.Idx, X i = R.colPart (i 0).val (i 1).val) (q : ℕ) (hq : q < 4) (t : ℕ) (ht : t < 4)
    (x : Fin 8) (l : Fin 128) : maxM X (4 * q + t) (by omega) (ix2 x l) = R.colMax q (128 * (8 * t + x) + l) :=
  maxM_ix _ _ x l _ fun s hs i h0 h1 => by
    rw [hX, h0, h1, show 8 * (8 * (4 * q + t) + x.val) + s = 256 * q + 8 * (8 * t + x.val) + s by ring, R.colPart_eq _ _ _ _ (by omega) hs]

theorem rowField_run (t ht f) : (rowField (F := Ideal) (nD := nD) (τ := τ) (Λ := Λ) A t ht f).run σ
    = (fun n => if n = t then expField (maxM (σ .row) t ht) else f n, σ) := rfl

theorem colField_run (i1 h1 q hq t ht u) :
    ((colField (F := Ideal) (nD := nD) (τ := τ) (Λ := Λ) A i1 h1 q hq t ht u).run σ).2 .cs
      = (rC (4 * q + t) (by omega)).overlay (σ .cs) (shapeCast S8x128 (scaleOf (F := Ideal) (expField (maxM (σ .col) (4 * q + t) (by omega)))) (by decide))
    ∧ ((colField (F := Ideal) (nD := nD) (τ := τ) (Λ := Λ) A i1 h1 q hq t ht u).run σ).2 .ce
      = (rE t (4 * i1 + q) ht (by omega)).overlay (σ .ce) (shapeCast S8x128 (addi (expField (maxM (σ .col) (4 * q + t) (by omega))) (broadcast S8x128 1#32)) (by decide)) := by
  unfold colField maxEight
  simp only [Tpl.bind, Tpl.load, Tpl.pure]
  constructor
  · rw [put_ne _ (by decide), put_self]
    rfl
  · rw [put_self, put_ne _ (by decide)]
    rfl

theorem only_maxEight (ld : (s : ℕ) → s < 8 → Tpl nD τ (Elt Ideal) Λ A.mems (FVec Ideal S8x128 .f32)) (h : ∀ s hs, Only [] (ld s hs)) :
    Only [] (maxEight A ld) :=
  .bind (h _ _) fun _ => .bind (h _ _) fun _ => .bind (h _ _) fun _ => .bind (h _ _) fun _ => .bind (h _ _) fun _ => .bind (h _ _) fun _ =>
    .bind (h _ _) fun _ => .bind (h _ _) fun _ => .pure _

theorem only_colField (i1 h1 q hq t ht u) : Only [.cs, .ce] (colField (F := Ideal) (nD := nD) (τ := τ) (Λ := Λ) A i1 h1 q hq t ht u) :=
  .bind ((only_maxEight _ fun _ _ => .load _ _ _).mono (by decide)) fun _ => .bind (.put (by decide)) fun _ => .put (by decide)

/-- The row fields of the first `8 n` groups are right. -/
theorem rowFields_spec (hr : ∀ i : S1024x128.Idx, σ .row i = R.rowPart (i 0).val (i 1).val) (f0) :
    (∀ n, n < 16 → ∀ (x : Fin 8) (l : Fin 128), ((Tpl.loop 16 (rowField (F := Ideal) (nD := nD) (τ := τ) (Λ := Λ) A) f0).run σ).1 n (ix2 x l)
      = field1 (R.rowMax l (8 * n + x)))
    ∧ ((Tpl.loop 16 (rowField (F := Ideal) (nD := nD) (τ := τ) (Λ := Λ) A) f0).run σ).2 = σ := by
  refine loop_inv (A := A) (nD := nD) (τ := τ) (Λ := Λ) (F := Ideal)
    (fun t f σ' => (∀ n, n < t → ∀ (x : Fin 8) (l : Fin 128), f n (ix2 x l) = field1 (R.rowMax l (8 * n + x))) ∧ σ' = σ)
    16 (rowField A) f0 σ ⟨fun n hn => absurd hn (by omega), rfl⟩ ?_
  rintro t ht f σ' ⟨h1, rfl⟩
  rw [rowField_run]
  refine ⟨fun n hn x l => ?_, rfl⟩
  dsimp only
  split
  · next h => subst h; rw [expField_ix, rowM_ix hr]
  · exact h1 n (by omega) x l

/-- The scales of the first `8 n` groups of column tiles are there, -/
def CsOK (R : Rows) (n : ℕ) (X : S128x128.Idx → EReal) : Prop :=
  ∀ i : S128x128.Idx, (i 0).val < 8 * n → X i = scale1 (field1 (R.colMax ((i 0).val / 32) (128 * ((i 0).val % 32) + (i 1).val)))

/-- and the exponents of the first `n` groups of tokens of a batch, with `t` parts of the next. -/
def CeOK (Cf : ℕ → ℕ → BitVec 32) (n t : ℕ) (X : S1024x128.Idx → BitVec 32) : Prop :=
  ∀ i : S1024x128.Idx, (i 0).val % 32 < n ∨ (i 0).val % 32 = n ∧ (i 0).val / 256 < t → X i = Cf ((i 0).val % 32) (128 * ((i 0).val / 32) + (i 1).val)

theorem cs_store {e : IVec S8x128 32} (q : ℕ) (hq : q < 4) (t : ℕ) (ht : t < 4) (he : ∀ (x : Fin 8) (l : Fin 128), e (ix2 x l) = field1 (R.colMax q (128 * (8 * t + x) + l)))
    (X : S128x128.Idx → EReal) (hX : CsOK R (4 * q + t) X) :
    CsOK R (4 * q + (t + 1)) ((rC (4 * q + t) (by omega)).overlay X (shapeCast S8x128 (scaleOf (F := Ideal) e) (by decide))) := by
  intro i hi
  refine overlay_rC _ _ _ _ _ _ (fun x0 x1 h0 h1 => ?_) fun hx => hX i (by omega)
  refine (cast8_ix _ x0 x1).trans ?_
  rw [scaleOf_ix, he, show (i 0).val / 32 = q by omega, show (i 0).val % 32 = 8 * t + x0.val by omega, h1]

theorem ce_store {Cf : ℕ → ℕ → BitVec 32} {e : IVec S8x128 32} (b : ℕ) (hb : b < 32) (t : ℕ) (ht : t < 4)
    (he : ∀ (x : Fin 8) (l : Fin 128), IntOp.addi (e (ix2 x l)) 1#32 = Cf b (128 * (8 * t + x) + l))
    (X : S1024x128.Idx → BitVec 32) (hX : CeOK Cf b t X) :
    CeOK Cf b (t + 1) ((rE t b ht hb).overlay X (shapeCast S8x128 (addi e (broadcast S8x128 1#32)) (by decide))) := by
  intro i hi
  refine overlay_rE _ _ _ _ _ _ _ _ (fun x0 x1 h0 h1 => ?_) fun hx => hX i (by omega)
  refine (cast8_ix _ x0 x1).trans ?_
  refine (show addi e (broadcast S8x128 1#32) (ix2 x0 x1) = IntOp.addi (e (ix2 x0 x1)) 1#32 by pointwise).trans ?_
  rw [he, show (i 0).val % 32 = b by omega, show (i 0).val / 32 = 8 * t + x0.val by omega, h1]

theorem only_colInner (i1 h1 q hq u) : Only [.cs, .ce] (Tpl.loop 4 (fun t ht u => colField (F := Ideal) (nD := nD) (τ := τ) (Λ := Λ) A i1 h1 q hq t ht u) u) :=
  .loop fun _ _ _ => only_colField _ _ _ _ _ _ _

theorem colInner_spec {Cf : ℕ → ℕ → BitVec 32} (i1 : ℕ) (h1 : i1 < 8) (q : ℕ) (hq : q < 4) (u : PUnit)
    (hcol : ∀ i : S1024x128.Idx, σ .col i = R.colPart (i 0).val (i 1).val) (hCf : ∀ c, IntOp.addi (field1 (R.colMax q c)) 1#32 = Cf (4 * i1 + q) c)
    (hcs : CsOK R (4 * q) (σ .cs)) (hce : CeOK Cf (4 * i1 + q) 0 (σ .ce)) :
    CsOK R (4 * (q + 1)) (((Tpl.loop 4 (fun t ht u => colField (F := Ideal) (nD := nD) (τ := τ) (Λ := Λ) A i1 h1 q hq t ht u) u).run σ).2 .cs)
    ∧ CeOK Cf (4 * i1 + (q + 1)) 0 (((Tpl.loop 4 (fun t ht u => colField (F := Ideal) (nD := nD) (τ := τ) (Λ := Λ) A i1 h1 q hq t ht u) u).run σ).2 .ce) := by
  have h := loop_inv (A := A) (nD := nD) (τ := τ) (Λ := Λ) (F := Ideal)
    (fun t _ σ' => σ' .col = σ .col ∧ CsOK R (4 * q + t) (σ' .cs) ∧ CeOK Cf (4 * i1 + q) t (σ' .ce))
    4 (fun t ht u => colField A i1 h1 q hq t ht u) u σ ⟨rfl, hcs, hce⟩ ?_
  · obtain ⟨-, h2, h3⟩ := h
    refine ⟨fun i hi => h2 i (by omega), fun i hi => h3 i ?_⟩
    have b0 : (i 0).val < 1024 := (i 0).isLt
    omega
  · rintro t ht u σ' ⟨g1, g2, g3⟩
    have he : ∀ (x : Fin 8) (l : Fin 128), expField (maxM (σ' .col) (4 * q + t) (by omega)) (ix2 x l) = field1 (R.colMax q (128 * (8 * t + x) + l)) :=
      fun x l => by rw [expField_ix, colM_ix (R := R) (by rw [g1]; exact hcol) q hq t ht]
    refine ⟨?_, ?_, ?_⟩
    · rw [only_colField i1 h1 q hq t ht u σ' .col (by decide)]; exact g1
    · rw [(colField_run i1 h1 q hq t ht u).1]
      exact cs_store q hq t ht he _ g2
    · rw [(colField_run i1 h1 q hq t ht u).2]
      exact ce_store _ _ t ht (fun x l => by rw [he]; exact hCf _) _ g3

/-- The column exponents. -/
theorem colFields_spec {Cf : ℕ → ℕ → BitVec 32} (i1 : ℕ) (h1 : i1 < 8)
    (hcol : ∀ i : S1024x128.Idx, σ .col i = R.colPart (i 0).val (i 1).val) (hCf : ∀ q c, IntOp.addi (field1 (R.colMax q c)) 1#32 = Cf (4 * i1 + q) c)
    (hce : CeOK Cf (4 * i1) 0 (σ .ce)) :
    CsOK R 16 (((Tpl.loop 4 (fun q hq u => Tpl.loop 4 (fun t ht u => colField (F := Ideal) (nD := nD) (τ := τ) (Λ := Λ) A i1 h1 q hq t ht u) u) ⟨⟩).run σ).2 .cs)
    ∧ CeOK Cf (4 * i1 + 4) 0 (((Tpl.loop 4 (fun q hq u => Tpl.loop 4 (fun t ht u => colField (F := Ideal) (nD := nD) (τ := τ) (Λ := Λ) A i1 h1 q hq t ht u) u) ⟨⟩).run σ).2 .ce) := by
  refine (loop_inv (A := A) (nD := nD) (τ := τ) (Λ := Λ) (F := Ideal)
    (fun q _ σ' => σ' .col = σ .col ∧ CsOK R (4 * q) (σ' .cs) ∧ CeOK Cf (4 * i1 + q) 0 (σ' .ce))
    4 (fun q hq u => Tpl.loop 4 (fun t ht u => colField A i1 h1 q hq t ht u) u) ⟨⟩ σ ⟨rfl, fun i hi => absurd hi (by omega), hce⟩ ?_).2
  rintro q hq u σ' ⟨g1, g2, g3⟩
  refine ⟨?_, colInner_spec i1 h1 q hq u (by rw [g1]; exact hcol) (hCf q) g2 g3⟩
  rw [only_colInner i1 h1 q hq u σ' .col (by decide)]; exact g1

theorem rowScale_run (f) : ((rowScale (F := Ideal) (nD := nD) (τ := τ) (Λ := Λ) A f).run σ).2 .er
    = rEr.overlay (σ .er) (shapeCast S1x128x128 (trunci 8 (addi (fieldsOf f) (broadcast S128x128 1#32)) (by decide)) (by decide)) := by
  unfold rowScale
  simp only [Tpl.bind, Tpl.pure]
  rw [put_self]

theorem only_rowScale (f) : Only [.er] (rowScale (F := Ideal) (nD := nD) (τ := τ) (Λ := Λ) A f) := .bind (.put (by decide)) fun _ => .pure _

theorem only_rowFields (f) : Only [] (Tpl.loop 16 (rowField (F := Ideal) (nD := nD) (τ := τ) (Λ := Λ) A) f) :=
  .loop fun _ _ _ => .bind (only_maxEight _ fun _ _ => .load _ _ _) fun _ => .pure _

theorem only_expPass (i1 h1) : Only [.er, .cs, .ce] (expPass (F := Ideal) (nD := nD) (τ := τ) (Λ := Λ) A i1 h1) :=
  .bind ((only_rowFields _).mono (by decide)) fun _ => .bind ((only_rowScale _).mono (by decide)) fun _ =>
    .bind (.loop fun _ _ _ => (only_colInner _ _ _ _ _).mono (by decide)) fun _ => .pure _

theorem er_store {f : ℕ → IVec S8x128 32} (hf : ∀ n, n < 16 → ∀ (x : Fin 8) (l : Fin 128), f n (ix2 x l) = field1 (R.rowMax l (8 * n + x)))
    (X : S1x128x128.Idx → BitVec 8) (i : S1x128x128.Idx) :
    rEr.overlay X (shapeCast S1x128x128 (trunci 8 (addi (fieldsOf f) (broadcast S128x128 1#32)) (by decide)) (by decide)) i
      = Rows.expo (R.rowMax (i 1).val (i 2).val) := by
  refine overlay_rEr _ _ _ _ fun x0 x1 x2 h0 h1 h2 => ?_
  rw [er_ix, fieldsOf_ix, hf _ (by omega), h1, h2]
  show BitVec.setWidth 8 (IntOp.addi (field1 (R.rowMax x1.val (8 * (x2.val / 8) + x2.val % 8))) 1#32) = _
  rw [Nat.div_add_mod]
  rfl

theorem scale_ix {f : ℕ → IVec S8x128 32} (hf : ∀ n, n < 16 → ∀ (x : Fin 8) (l : Fin 128), f n (ix2 x l) = field1 (R.rowMax l (8 * n + x))) (r g : Fin 128) :
    truncf (F := Ideal) .bf16 (scaleOf (F := Ideal) (fieldsOf f)) (by decide) (ix2 r g) = scale1 (field1 (R.rowMax r g)) := by
  rw [scaleOf_ix', fieldsOf_ix, hf _ (by omega)]
  show scale1 (field1 (R.rowMax r.val (8 * (g.val / 8) + g.val % 8))) = _
  rw [Nat.div_add_mod]

/-- The exponents. -/
theorem expPass_spec {Cf : ℕ → ℕ → BitVec 32} (i1 : ℕ) (h1 : i1 < 8) (hr : ∀ i : S1024x128.Idx, σ .row i = R.rowPart (i 0).val (i 1).val)
    (hcol : ∀ i : S1024x128.Idx, σ .col i = R.colPart (i 0).val (i 1).val) (hCf : ∀ q c, IntOp.addi (field1 (R.colMax q c)) 1#32 = Cf (4 * i1 + q) c)
    (hce : CeOK Cf (4 * i1) 0 (σ .ce)) :
    (∀ r g, ((expPass (F := Ideal) (nD := nD) (τ := τ) (Λ := Λ) A i1 h1).run σ).1 (ix2 r g) = scale1 (field1 (R.rowMax r.val g.val)))
    ∧ (∀ i : S1x128x128.Idx, ((expPass (F := Ideal) (nD := nD) (τ := τ) (Λ := Λ) A i1 h1).run σ).2 .er i = Rows.expo (R.rowMax (i 1).val (i 2).val))
    ∧ CsOK R 16 (((expPass (F := Ideal) (nD := nD) (τ := τ) (Λ := Λ) A i1 h1).run σ).2 .cs)
    ∧ CeOK Cf (4 * i1 + 4) 0 (((expPass (F := Ideal) (nD := nD) (τ := τ) (Λ := Λ) A i1 h1).run σ).2 .ce) := by
  unfold expPass
  simp only [Tpl.bind, Tpl.pure]
  have h0 := rowFields_spec (nD := nD) (τ := τ) (Λ := Λ) (A := A) hr fun _ => broadcast S8x128 0#32
  generalize (Tpl.loop 16 (rowField (F := Ideal) (nD := nD) (τ := τ) (Λ := Λ) A) fun _ => broadcast S8x128 0#32).run σ = p at h0 ⊢
  obtain ⟨f, s0⟩ := p
  obtain ⟨hf, rfl⟩ := h0
  dsimp only at hf ⊢
  have e1 := rowScale_run (nD := nD) (τ := τ) (Λ := Λ) (A := A) (σ := s0) f
  have o1 := only_rowScale (nD := nD) (τ := τ) (Λ := Λ) (A := A) f s0
  have v1 : ((rowScale (F := Ideal) (nD := nD) (τ := τ) (Λ := Λ) A f).run s0).1 = truncf .bf16 (scaleOf (F := Ideal) (fieldsOf f)) (by decide) := rfl
  generalize (rowScale (F := Ideal) (nD := nD) (τ := τ) (Λ := Λ) A f).run s0 = p at e1 o1 v1 ⊢
  obtain ⟨sc, s1⟩ := p
  dsimp only at e1 o1 v1 ⊢
  have h2 := colFields_spec (nD := nD) (τ := τ) (Λ := Λ) (A := A) (σ := s1) i1 h1 (by rw [o1 .col (by decide)]; exact hcol) hCf (by rw [o1 .ce (by decide)]; exact hce)
  refine ⟨fun r g => ?_, fun i => ?_, h2⟩
  · rw [v1]; exact scale_ix hf r g
  · rw [(Only.loop fun q hq u => only_colInner i1 h1 q hq u : Only [.cs, .ce] _) s1 .er (by decide), e1]
    exact er_store hf _ i

end Cert.Body
-- ==== Proof.Codes.lean ====
/-
  The codes, and the column exponents copied out.
-/
module

public import proofs.«01_k».proof.Proof.Exps

@[expose] public section

set_option maxRecDepth 16384

open Idealize.ShloMosaic Idealize.SL.Sem

noncomputable section

namespace Cert.Body

open Cert.Tpl

variable {nD : Nat} {τ : Topo} {sig : RefSig} {Λ : Labels} {A : Args sig} {R : Rows} {σ : St Ideal}

/-- The product with the expansion picks a group's scale. -/
theorem sum_expand (s : Fin 128 → EReal) (c : ℕ) (hc : c < 4096) : (∑ x : Fin 128, s x * expandW x c) = s ⟨c / 32, by omega⟩ := by
  rw [Finset.sum_eq_single (⟨c / 32, by omega⟩ : Fin 128)]
  · simp [expandW]
  · intro x _ hx
    have : ¬c / 32 = x.val := fun h => hx (Fin.ext h.symm)
    simp [expandW, this]
  · simp

/-- The row codes of the first `k` chunks are there, -/
def CrOK (R : Rows) (k : ℕ) (X : S1x128x4096.Idx → EReal) : Prop :=
  ∀ i : S1x128x4096.Idx, (i 2).val < 256 * k → X i = Rows.code (R.y (i 1).val (i 2).val) (R.rowMax (i 1).val ((i 2).val / 32))

/-- and the column codes of the first `j` tiles, with `q` groups of the next. -/
def CcOK (R : Rows) (j q : ℕ) (X : S1x128x4096.Idx → EReal) : Prop :=
  ∀ i : S1x128x4096.Idx, (i 2).val / 128 < j ∨ (i 2).val / 128 = j ∧ (i 1).val / 32 < q →
    X i = Rows.code (R.y (i 1).val (i 2).val) (R.colMax ((i 1).val / 32) (i 2).val)

theorem cr_store {scale : FVec Ideal S128x128 .bf16} (hsc : ∀ r g, scale (ix2 r g) = scale1 (field1 (R.rowMax r.val g.val)))
    (E Y : S128x4096.Idx → EReal) (hE : ∀ i : S128x4096.Idx, E i = expandW (i 0).val (i 1).val) (hY : ∀ i : S128x4096.Idx, Y i = R.y (i 0).val (i 1).val)
    (k : ℕ) (hk : k < 16) (X : S1x128x4096.Idx → EReal) (hX : CrOK R k X) :
    CrOK R (k + 1) ((rX k hk).overlay X (shapeCast S1x128x256
      (rowCodes (F := Ideal) scale (fun i => E ((rY k hk).toLoadRect.idx i)) fun i => Y ((rY k hk).toLoadRect.idx i)) (by decide))) := by
  intro i hi
  refine overlay_rX _ _ _ _ _ _ (fun x0 x1 x2 h0 h1 h2 => ?_) fun hx => hX i (by omega)
  refine (hBlock_ix _ x1 x2 x0).trans ?_
  rw [rowCodes_ix]
  have e1 : ∀ x : Fin 128, (scale (ix2 x1 x) : EReal) * E ((rY k hk).toLoadRect.idx (ix2 x x2)) = scale1 (field1 (R.rowMax x1.val x.val)) * expandW x (256 * k + x2) := by
    intro x
    rw [hsc, hE]
    show _ * expandW (0 + 1 * x.val) (256 * k + 1 * x2.val) = _
    simp
  simp only [e1]
  rw [sum_expand (fun x => scale1 (field1 (R.rowMax x1.val x.val))) _ (by omega), hY]
  show min cTop (max cBot (R.y (0 + 1 * x1.val) (256 * k + 1 * x2.val) * _)) = _
  rw [h1, h2]
  simp [Rows.code]

theorem ccBlock_ix {α : Type} (v : S32x128.Idx → α) (r : Fin 32) (c : Fin 128) (z : Fin 1) : shapeCast S1x32x128 v (by decide) (ix3 z r c) = v (ix2 r c) := by
  pointwise

theorem cc_store (S : S128x128.Idx → EReal) (Y : S128x4096.Idx → EReal) (hS : CsOK R 16 S) (hY : ∀ i : S128x4096.Idx, Y i = R.y (i 0).val (i 1).val)
    (j : ℕ) (hj : j < 32) (q : ℕ) (hq : q < 4) (X : S1x128x4096.Idx → EReal) (hX : CcOK R j q X) :
    CcOK R j (q + 1) ((rO q j hq hj).overlay X (shapeCast S1x32x128
      (colCodes (F := Ideal) (fun i => S ((rD (32 * q + j) (by omega)).toLoadRect.idx i)) fun i => Y ((rQ q j hq hj).toLoadRect.idx i)) (by decide))) := by
  intro i hi
  have b1 : (i 1).val < 128 := (i 1).isLt
  refine overlay_rO _ _ _ _ _ _ _ _ (fun x0 x1 x2 h0 h1 h2 => ?_) fun hx => hX i (by omega)
  refine (ccBlock_ix _ x1 x2 x0).trans ?_
  rw [colCodes_ix, hY, hS _ (by show 32 * q + j + 1 * 0 < 8 * 16; omega)]
  show min cTop (max cBot (R.y (32 * q + 1 * x1.val) (128 * j + 1 * x2.val)
    * scale1 (field1 (R.colMax ((32 * q + j + 1 * 0) / 32) (128 * ((32 * q + j + 1 * 0) % 32) + (0 + 1 * x2.val)))))) = _
  rw [h1, h2, show (32 * q + j + 1 * 0) / 32 = q by omega, show (32 * q + j + 1 * 0) % 32 = j by omega, show (32 * q + x1.val) / 32 = q by omega]
  simp [Rows.code]

theorem only_colTile (j hj q hq u) : Only [.cc] (colTile (F := Ideal) (nD := nD) (τ := τ) (Λ := Λ) A j hj q hq u) :=
  .bind (.load _ _ _) fun _ => .bind (.load _ _ _) fun _ => .put (by decide)

theorem only_colTiles (j hj) : Only [.cc] (Tpl.loop 4 (fun q hq u => colTile (F := Ideal) (nD := nD) (τ := τ) (Λ := Λ) A j hj q hq u) ⟨⟩) :=
  .loop fun _ _ _ => only_colTile _ _ _ _ _

theorem colTile_run (j hj q hq u) : ((colTile (F := Ideal) (nD := nD) (τ := τ) (Λ := Λ) A j hj q hq u).run σ).2 .cc
    = (rO q j hq hj).overlay (σ .cc) (shapeCast S1x32x128
      (colCodes (F := Ideal) (fun i => σ .cs ((rD (32 * q + j) (by omega)).toLoadRect.idx i)) fun i => σ .y ((rQ q j hq hj).toLoadRect.idx i)) (by decide)) := by
  unfold colTile
  simp only [Tpl.bind, Tpl.load]
  rw [put_self]
  rfl

theorem colTiles_spec (hS : CsOK R 16 (σ .cs)) (hY : ∀ i : S128x4096.Idx, σ .y i = R.y (i 0).val (i 1).val) (j : ℕ) (hj : j < 32) (hX : CcOK R j 0 (σ .cc)) :
    CcOK R (j + 1) 0 (((Tpl.loop 4 (fun q hq u => colTile (F := Ideal) (nD := nD) (τ := τ) (Λ := Λ) A j hj q hq u) ⟨⟩).run σ).2 .cc) := by
  have h := loop_inv (A := A) (nD := nD) (τ := τ) (Λ := Λ) (F := Ideal)
    (fun q _ σ' => σ' .cs = σ .cs ∧ σ' .y = σ .y ∧ CcOK R j q (σ' .cc)) 4 (fun q hq u => colTile A j hj q hq u) ⟨⟩ σ ⟨rfl, rfl, hX⟩ ?_
  · intro i hi
    have b1 : (i 1).val < 128 := (i 1).isLt
    exact h.2.2 i (by omega)
  · rintro q hq u σ' ⟨g1, g2, g3⟩
    refine ⟨?_, ?_, ?_⟩
    · rw [only_colTile j hj q hq u σ' .cs (by decide)]; exact g1
    · rw [only_colTile j hj q hq u σ' .y (by decide)]; exact g2
    · rw [colTile_run j hj q hq u]
      exact cc_store _ _ (by rw [g1]; exact hS) (by rw [g2]; exact hY) j hj q hq _ g3

theorem only_codes (sc k hk u) : Only [.cr, .cc] (codes (F := Ideal) (nD := nD) (τ := τ) (Λ := Λ) A sc k hk u) :=
  .bind (.load _ _ _) fun _ => .bind (.load _ _ _) fun _ => .bind (.put (by decide)) fun _ =>
    .bind ((only_colTiles (2 * k) (by omega)).mono (by decide)) fun _ => (only_colTiles (2 * k + 1) (by omega)).mono (by decide)

theorem codes_run (sc k hk u) : (codes (F := Ideal) (nD := nD) (τ := τ) (Λ := Λ) A sc k hk u).run σ
    = (Tpl.loop 4 (fun q hq u => colTile (F := Ideal) (nD := nD) (τ := τ) (Λ := Λ) A (2 * k + 1) (by omega) q hq u) ⟨⟩).run
      ((Tpl.loop 4 (fun q hq u => colTile (F := Ideal) (nD := nD) (τ := τ) (Λ := Λ) A (2 * k) (by omega) q hq u) ⟨⟩).run
      ((put (F := Ideal) (nD := nD) (τ := τ) (Λ := Λ) A .cr (rX k hk) p1x128x256 (shapeCast S1x128x256
        (rowCodes (F := Ideal) sc (fun i => σ .expand ((rY k hk).toLoadRect.idx i)) fun i => σ .y ((rY k hk).toLoadRect.idx i)) (by decide))
        (stores_packed A .cr (rX k hk) p1x128x256 (packed_rX (by decide) k hk))).run σ).2).2 := rfl

/-- The codes. -/
theorem codes_spec {scale : FVec Ideal S128x128 .bf16} (hsc : ∀ r g, scale (ix2 r g) = scale1 (field1 (R.rowMax r.val g.val)))
    (hE : ∀ i : S128x4096.Idx, σ .expand i = expandW (i 0).val (i 1).val) (hS : CsOK R 16 (σ .cs)) (hY : ∀ i : S128x4096.Idx, σ .y i = R.y (i 0).val (i 1).val) :
    CrOK R 16 (((Tpl.loop 16 (codes (F := Ideal) (nD := nD) (τ := τ) (Λ := Λ) A scale) ⟨⟩).run σ).2 .cr)
    ∧ CcOK R 32 0 (((Tpl.loop 16 (codes (F := Ideal) (nD := nD) (τ := τ) (Λ := Λ) A scale) ⟨⟩).run σ).2 .cc) := by
  refine (loop_inv (A := A) (nD := nD) (τ := τ) (Λ := Λ) (F := Ideal)
    (fun k _ σ' => (σ' .expand = σ .expand ∧ σ' .cs = σ .cs ∧ σ' .y = σ .y) ∧ CrOK R k (σ' .cr) ∧ CcOK R (2 * k) 0 (σ' .cc))
    16 (codes A scale) ⟨⟩ σ ⟨⟨rfl, rfl, rfl⟩, fun i hi => absurd hi (by omega), fun i hi => absurd hi (by omega)⟩ ?_).2
  rintro k hk u σ' ⟨⟨g1, g2, g3⟩, g4, g5⟩
  refine ⟨⟨?_, ?_, ?_⟩, ?_⟩
  · rw [only_codes scale k hk u σ' .expand (by decide)]; exact g1
  · rw [only_codes scale k hk u σ' .cs (by decide)]; exact g2
  · rw [only_codes scale k hk u σ' .y (by decide)]; exact g3
  rw [codes_run]
  generalize hs1 : ((put (F := Ideal) (nD := nD) (τ := τ) (Λ := Λ) A .cr (rX k hk) p1x128x256 (shapeCast S1x128x256
        (rowCodes (F := Ideal) scale (fun i => σ' .expand ((rY k hk).toLoadRect.idx i)) fun i => σ' .y ((rY k hk).toLoadRect.idx i)) (by decide))
        (stores_packed A .cr (rX k hk) p1x128x256 (packed_rX (by decide) k hk))).run σ').2 = s1
  have e1 : CrOK R (k + 1) (s1 .cr) := by
    rw [← hs1, put_self]
    exact cr_store hsc _ _ (by rw [g1]; exact hE) (by rw [g3]; exact hY) k hk _ g4
  have e2 : s1 .cs = σ .cs := by rw [← hs1, put_ne _ (by decide)]; exact g2
  have e3 : s1 .y = σ .y := by rw [← hs1, put_ne _ (by decide)]; exact g3
  have e4 : s1 .cc = σ' .cc := by rw [← hs1, put_ne _ (by decide)]
  have o2 := only_colTiles (nD := nD) (τ := τ) (Λ := Λ) (A := A) (2 * k) (by omega) s1
  have h2 := colTiles_spec (nD := nD) (τ := τ) (Λ := Λ) (A := A) (σ := s1) (R := R) (by rw [e2]; exact hS) (by rw [e3]; exact hY) (2 * k) (by omega) (by rw [e4]; exact g5)
  generalize ((Tpl.loop 4 (fun q hq u => colTile (F := Ideal) (nD := nD) (τ := τ) (Λ := Λ) A (2 * k) (by omega) q hq u) ⟨⟩).run s1).2 = s2 at o2 h2 ⊢
  have h3 := colTiles_spec (nD := nD) (τ := τ) (Λ := Λ) (A := A) (σ := s2) (R := R) (by rw [o2 .cs (by decide), e2]; exact hS)
    (by rw [o2 .y (by decide), e3]; exact hY) (2 * k + 1) (by omega) h2
  refine ⟨?_, h3⟩
  rw [only_colTiles (2 * k + 1) (by omega) s2 .cr (by decide), o2 .cr (by decide)]
  exact e1

/-! ## The column exponents copied out -/

/-- The first `j` tiles are copied. -/
def EcOK (Cf : ℕ → ℕ → BitVec 32) (j : ℕ) (X : S1x32x4096.Idx → BitVec 8) : Prop :=
  ∀ i : S1x32x4096.Idx, (i 2).val < 128 * j → X i = BitVec.setWidth 8 (Cf (i 1).val (i 2).val)

theorem ec_store {Cf : ℕ → ℕ → BitVec 32} (Ce : S1024x128.Idx → BitVec 32) (hC : CeOK Cf 32 0 Ce) (j : ℕ) (hj : j < 32) (X : S1x32x4096.Idx → BitVec 8)
    (hX : EcOK Cf j X) : EcOK Cf (j + 1) ((rZ j hj).overlay X (shapeCast (s := S32x128) S1x32x128 (trunci 8 (fun i : S32x128.Idx => Ce ((rK j hj).toLoadRect.idx i)) (by decide)) (by decide))) := by
  intro i hi
  refine overlay_rZ _ _ _ _ _ _ (fun x0 x1 x2 h0 h1 h2 => ?_) fun hx => hX i (by omega)
  refine (ec_ix _ x0 x1 x2).trans ?_
  rw [hC _ (.inl (Nat.mod_lt _ (by omega)))]
  show BitVec.setWidth 8 (Cf ((32 * j + 1 * x1.val) % 32) (128 * ((32 * j + 1 * x1.val) / 32) + (0 + 1 * x2.val))) = _
  rw [h1, h2, show (32 * j + 1 * x1.val) % 32 = x1.val by omega, show (32 * j + 1 * x1.val) / 32 = j by omega]
  simp

theorem only_colOut (j hj u) : Only [.ec] (colOut (F := Ideal) (nD := nD) (τ := τ) (Λ := Λ) A j hj u) := .bind (.load _ _ _) fun _ => .put (by decide)

theorem colOut_run (j hj u) : ((colOut (F := Ideal) (nD := nD) (τ := τ) (Λ := Λ) A j hj u).run σ).2 .ec
    = (rZ j hj).overlay (σ .ec) (shapeCast (s := S32x128) S1x32x128 (trunci 8 (fun i : S32x128.Idx => σ .ce ((rK j hj).toLoadRect.idx i)) (by decide)) (by decide)) := by
  unfold colOut
  simp only [Tpl.bind, Tpl.load]
  rw [put_self]
  rfl

theorem colOuts_spec {Cf : ℕ → ℕ → BitVec 32} (hC : CeOK Cf 32 0 (σ .ce)) :
    EcOK Cf 32 (((Tpl.loop 32 (colOut (F := Ideal) (nD := nD) (τ := τ) (Λ := Λ) A) ⟨⟩).run σ).2 .ec) := by
  refine (loop_inv (A := A) (nD := nD) (τ := τ) (Λ := Λ) (F := Ideal)
    (fun j _ σ' => σ' .ce = σ .ce ∧ EcOK Cf j (σ' .ec)) 32 (colOut A) ⟨⟩ σ ⟨rfl, fun i hi => absurd hi (by omega)⟩ ?_).2
  rintro j hj u σ' ⟨g1, g2⟩
  refine ⟨?_, ?_⟩
  · rw [only_colOut j hj u σ' .ce (by decide)]; exact g1
  · rw [colOut_run]
    exact ec_store _ (by rw [g1]; exact hC) j hj _ g2

end Cert.Body
-- ==== Proof.BodySpec.lean ====
/-
  What one whole step of the kernel leaves in its blocks and scratch.
-/
module

public import proofs.«01_k».proof.Proof.Codes

@[expose] public section

set_option maxRecDepth 16384

open Idealize.ShloMosaic Idealize.SL.Sem

noncomputable section

namespace Cert.Body

open Cert.Tpl

variable {nD : Nat} {τ : Topo} {sig : RefSig} {Λ : Labels} {A : Args sig} {R : Rows} {σ : St Ideal}

theorem setup_spec : (∀ i : S1024x128.Idx, ((setup (F := Ideal) (nD := nD) (τ := τ) (Λ := Λ) A).run σ).2 .pack i = packW (i 0).val (i 1).val)
    ∧ ∀ i : S128x4096.Idx, ((setup (F := Ideal) (nD := nD) (τ := τ) (Λ := Λ) A).run σ).2 .expand i = expandW (i 0).val (i 1).val := by
  unfold setup
  simp only [Tpl.bind]
  refine ⟨fun i => ?_, fun i => ?_⟩
  · rw [put_ne _ (by decide), put_self]
    refine overlay_rPack _ _ i _ fun x0 x1 h0 h1 => ?_
    refine (show shapeCast S1024x128 (packInit (F := Ideal)) (by decide) (ix2 x0 x1) = packInit (F := Ideal) (ix2 x0 x1) by pointwise).trans ?_
    rw [packInit_eq, h0, h1]
  · rw [put_self]
    refine overlay_rExpand _ _ i _ fun x0 x1 h0 h1 => ?_
    refine (show shapeCast S128x4096 (expandInit (F := Ideal)) (by decide) (ix2 x0 x1) = expandInit (F := Ideal) (ix2 x0 x1) by pointwise).trans ?_
    rw [expandInit_eq, h0, h1]

theorem only_setup : Only [.pack, .expand] (setup (F := Ideal) (nD := nD) (τ := τ) (Λ := Λ) A) := .bind (.put (by decide)) fun _ => .put (by decide)

/-- The blocks hold the rows of the step. -/
structure Blocks (R : Rows) (σ : St Ideal) : Prop where
  x : ∀ i : S1x128x4096.Idx, σ .x i = R.x (i 1).val (i 2).val
  a : ∀ i : S1x128x4096.Idx, σ .a i = R.a (i 1).val (i 2).val
  rand : ∀ i : S1x128x4096.Idx, σ .rand i = R.rd (i 1).val (i 2).val
  bias : ∀ i : S1x4096.Idx, σ .bias i = R.bi (i 1).val
  gamma : ∀ i : S1x4096.Idx, σ .gamma i = R.ga (i 1).val
  beta : ∀ i : S1x4096.Idx, σ .beta i = R.be (i 1).val

/-- The constants are in place. -/
def Consts (σ : St Ideal) : Prop :=
  (∀ i : S1024x128.Idx, σ .pack i = packW (i 0).val (i 1).val) ∧ ∀ i : S128x4096.Idx, σ .expand i = expandW (i 0).val (i 1).val

/-- After step 0's setting up, all is in place. -/
theorem setup_in (p : Prop) [Decidable p] (hb : Blocks R σ) (hp : ¬p → Consts σ) :
    In R ((Tpl.when p (setup (F := Ideal) (nD := nD) (τ := τ) (Λ := Λ) A)).run σ).2 := by
  have o : Only [.pack, .expand] (Tpl.when p (setup (F := Ideal) (nD := nD) (τ := τ) (Λ := Λ) A)) := .when only_setup
  have hc : Consts ((Tpl.when p (setup (F := Ideal) (nD := nD) (τ := τ) (Λ := Λ) A)).run σ).2 := by
    show Consts (if p then (setup A).run σ else (⟨⟩, σ)).2
    split
    · exact setup_spec
    · next h => exact hp h
  exact {
    x := fun i => by rw [o σ .x (by decide)]; exact hb.x i
    a := fun i => by rw [o σ .a (by decide)]; exact hb.a i
    rand := fun i => by rw [o σ .rand (by decide)]; exact hb.rand i
    bias := fun i => by rw [o σ .bias (by decide)]; exact hb.bias i
    gamma := fun i => by rw [o σ .gamma (by decide)]; exact hb.gamma i
    beta := fun i => by rw [o σ .beta (by decide)]; exact hb.beta i
    pack := hc.1
    expand := hc.2 }

/-- What a step leaves. -/
structure Left (R : Rows) (Mf Rf : ℕ → ℕ → EReal) (Cf : ℕ → ℕ → BitVec 32) (i0 i1 : ℕ) (σ : St Ideal) : Prop where
  cr : ∀ i : S1x128x4096.Idx, σ .cr i = Rows.code (R.y (i 1).val (i 2).val) (R.rowMax (i 1).val ((i 2).val / 32))
  er : ∀ i : S1x128x128.Idx, σ .er i = Rows.expo (R.rowMax (i 1).val (i 2).val)
  cc : ∀ i : S1x128x4096.Idx, σ .cc i = Rows.code (R.y (i 1).val (i 2).val) (R.colMax ((i 1).val / 32) (i 2).val)
  ec : i1 = 7 → ∀ i : S1x32x4096.Idx, σ .ec i = BitVec.setWidth 8 (Cf (i 1).val (i 2).val)
  mask : ∀ i : S1x128x512.Idx, σ .mask i = R.mask (i 1).val (i 2).val
  mean : 8 * i0 + i1 = 15 → ∀ i : S2x1024.Idx, σ .mean i = Mf (8 * (i 0).val + (i 1).val / 128) ((i 1).val % 128)
  rstd : 8 * i0 + i1 = 15 → ∀ i : S2x1024.Idx, σ .rstd i = Rf (8 * (i 0).val + (i 1).val / 128) ((i 1).val % 128)
  h : ∀ i : S1x128x4096.Idx, σ .h i = R.h (i 1).val (i 2).val
  consts : Consts σ
  stat : StatOK Mf Rf (8 * i0 + i1 + 1) (σ .stat)
  ce : CeOK Cf (4 * i1 + 4) 0 (σ .ce)

theorem only_body (i0 i1 h0 h1) : Only [.cr, .er, .cc, .ec, .mask, .mean, .rstd, .h, .pack, .expand, .y, .row, .col, .cs, .ce, .stat]
    (body (F := Ideal) (nD := nD) (τ := τ) (Λ := Λ) A i0 i1 h0 h1) :=
  .bind (.when (only_setup.mono (by decide))) fun _ => .bind (only_pass1.mono (by decide)) fun _ => .bind ((only_pass2 _).mono (by decide)) fun _ =>
    .bind ((only_stats _ _ _ _).mono (by decide)) fun _ => .bind (.when (.loop fun _ _ _ => (only_statOut _ _ _).mono (by decide))) fun _ =>
    .bind (.loop fun _ _ _ => (only_tile _ _ _ _).mono (by decide)) fun _ => .bind ((only_expPass _ _).mono (by decide)) fun _ =>
    .bind (.loop fun _ _ _ => (only_codes _ _ _ _).mono (by decide)) fun _ => .when (.loop fun _ _ _ => (only_colOut _ _ _).mono (by decide))

/-- One step. -/
theorem body_spec {Mf Rf : ℕ → ℕ → EReal} {Cf : ℕ → ℕ → BitVec 32} (i0 i1 : ℕ) (h0 : i0 < 2) (h1 : i1 < 8) (hb : Blocks R σ)
    (hp : ¬(i0 = 0 ∧ i1 = 0) → Consts σ) (hst : StatOK Mf Rf (8 * i0 + i1) (σ .stat)) (hce : CeOK Cf (4 * i1) 0 (σ .ce))
    (hM : ∀ l, R.mean l = Mf (8 * i0 + i1) l) (hR : ∀ l, R.rstd l = Rf (8 * i0 + i1) l)
    (hC : ∀ q c, IntOp.addi (field1 (R.colMax q c)) 1#32 = Cf (4 * i1 + q) c) :
    Left R Mf Rf Cf i0 i1 ((body (F := Ideal) (nD := nD) (τ := τ) (Λ := Λ) A i0 i1 h0 h1).run σ).2 := by
  unfold body
  simp only [Tpl.bind]
  have a0 := setup_in (nD := nD) (τ := τ) (Λ := Λ) (A := A) (i0 = 0 ∧ i1 = 0) hb hp
  have o0 := (Only.when (p := i0 = 0 ∧ i1 = 0) (only_setup (nD := nD) (τ := τ) (Λ := Λ) (A := A))) σ
  generalize ((Tpl.when (i0 = 0 ∧ i1 = 0) (setup (F := Ideal) (nD := nD) (τ := τ) (Λ := Λ) A)).run σ).2 = s0 at a0 o0 ⊢
  have a1 := pass1_spec (nD := nD) (τ := τ) (Λ := Λ) (A := A) a0
  have o1 := only_pass1 (nD := nD) (τ := τ) (Λ := Λ) (A := A) s0
  have b1 := a0.of_only (only_pass1 (nD := nD) (τ := τ) (Λ := Λ) (A := A)) (by decide)
  generalize (pass1 (F := Ideal) (nD := nD) (τ := τ) (Λ := Λ) A).run s0 = p at a1 o1 b1 ⊢
  obtain ⟨mean, s1⟩ := p
  obtain ⟨m1, hh1, mk1⟩ := a1
  dsimp only at m1 hh1 mk1 o1 b1 ⊢
  have a2 := pass2_spec (nD := nD) (τ := τ) (Λ := Λ) (A := A) (σ := s1) m1 hh1
  have o2 := only_pass2 (nD := nD) (τ := τ) (Λ := Λ) (A := A) mean s1
  have b2 := b1.of_only (only_pass2 (nD := nD) (τ := τ) (Λ := Λ) (A := A) mean) (by decide)
  generalize (pass2 (F := Ideal) (nD := nD) (τ := τ) (Λ := Λ) A mean).run s1 = p at a2 o2 b2 ⊢
  obtain ⟨rstd, s2⟩ := p
  obtain ⟨r2, y2⟩ := a2
  dsimp only at r2 y2 o2 b2 ⊢
  have a3 := stats_spec (nD := nD) (τ := τ) (Λ := Λ) (A := A) (σ := s2) (Mf := Mf) (Rf := Rf) (r := 8 * i0 + i1) (by omega) (mean := mean) (rstd := rstd)
    (fun l => (m1 l 0).trans (hM _)) (fun l => (r2 l 0).trans (hR _)) (by rw [o2 .stat (by decide), o1 .stat (by decide), o0 .stat (by decide)]; exact hst)
  have o3 := only_stats (nD := nD) (τ := τ) (Λ := Λ) (A := A) (8 * i0 + i1) (by omega) mean rstd s2
  have b3 := b2.of_only (only_stats (nD := nD) (τ := τ) (Λ := Λ) (A := A) (8 * i0 + i1) (by omega) mean rstd) (by decide)
  generalize ((stats (F := Ideal) (nD := nD) (τ := τ) (Λ := Λ) A (8 * i0 + i1) _ mean rstd).run s2).2 = s3 at a3 o3 b3 ⊢
  have a4 : 8 * i0 + i1 = 15 → StatOut Mf 16 (((Tpl.when (8 * i0 + i1 = 15) (Tpl.loop 16 (statOut (F := Ideal) (nD := nD) (τ := τ) (Λ := Λ) A) ⟨⟩)).run s3).2 .mean)
      ∧ StatOut Rf 16 (((Tpl.when (8 * i0 + i1 = 15) (Tpl.loop 16 (statOut (F := Ideal) (nD := nD) (τ := τ) (Λ := Λ) A) ⟨⟩)).run s3).2 .rstd) := by
    intro h15
    have e : (Tpl.when (8 * i0 + i1 = 15) (Tpl.loop 16 (statOut (F := Ideal) (nD := nD) (τ := τ) (Λ := Λ) A) ⟨⟩)).run s3
        = (Tpl.loop 16 (statOut (F := Ideal) (nD := nD) (τ := τ) (Λ := Λ) A) ⟨⟩).run s3 := if_pos h15
    rw [e]
    exact statLoop_spec (by rw [h15] at a3; exact a3)
  have o4' : Only [.mean, .rstd] (Tpl.when (8 * i0 + i1 = 15) (Tpl.loop 16 (statOut (F := Ideal) (nD := nD) (τ := τ) (Λ := Λ) A) ⟨⟩)) :=
    .when (.loop fun _ _ _ => only_statOut _ _ _)
  have o4 := o4' s3
  have b4 := b3.of_only o4' (by decide)
  generalize ((Tpl.when (8 * i0 + i1 = 15) (Tpl.loop 16 (statOut (F := Ideal) (nD := nD) (τ := τ) (Λ := Λ) A) ⟨⟩)).run s3).2 = s4 at a4 o4 b4 ⊢
  have a5 := tiles_spec (nD := nD) (τ := τ) (Λ := Λ) (A := A) (σ := s4) (R := R) r2 ⟨b4.gamma, b4.beta⟩
    (by rw [o4 .y (by decide), o3 .y (by decide)]; exact y2)
  have o5' : Only [.y, .col, .row] (Tpl.loop 32 (tile (F := Ideal) (nD := nD) (τ := τ) (Λ := Λ) A rstd) ⟨⟩) := .loop fun _ _ _ => only_tile _ _ _ _
  have o5 := o5' s4
  have b5 := b4.of_only o5' (by decide)
  generalize ((Tpl.loop 32 (tile (F := Ideal) (nD := nD) (τ := τ) (Λ := Λ) A rstd) ⟨⟩).run s4).2 = s5 at a5 o5 b5 ⊢
  obtain ⟨y5, row5, col5⟩ := a5
  have a6 := expPass_spec (nD := nD) (τ := τ) (Λ := Λ) (A := A) (σ := s5) (R := R) (Cf := Cf) i1 h1 row5 col5 hC
    (by rw [o5 .ce (by decide), o4 .ce (by decide), o3 .ce (by decide), o2 .ce (by decide), o1 .ce (by decide), o0 .ce (by decide)]; exact hce)
  have o6 := only_expPass (nD := nD) (τ := τ) (Λ := Λ) (A := A) i1 h1 s5
  have b6 := b5.of_only (only_expPass (nD := nD) (τ := τ) (Λ := Λ) (A := A) i1 h1) (by decide)
  generalize (expPass (F := Ideal) (nD := nD) (τ := τ) (Λ := Λ) A i1 h1).run s5 = p at a6 o6 b6 ⊢
  obtain ⟨scale, s6⟩ := p
  obtain ⟨sc6, er6, cs6, ce6⟩ := a6
  dsimp only at sc6 er6 cs6 ce6 o6 b6 ⊢
  have a7 := codes_spec (nD := nD) (τ := τ) (Λ := Λ) (A := A) (σ := s6) (R := R) sc6 b6.expand cs6 (by rw [o6 .y (by decide)]; exact y5)
  have o7' : Only [.cr, .cc] (Tpl.loop 16 (codes (F := Ideal) (nD := nD) (τ := τ) (Λ := Λ) A scale) ⟨⟩) := .loop fun _ _ _ => only_codes _ _ _ _
  have o7 := o7' s6
  have b7 := b6.of_only o7' (by decide)
  generalize ((Tpl.loop 16 (codes (F := Ideal) (nD := nD) (τ := τ) (Λ := Λ) A scale) ⟨⟩).run s6).2 = s7 at a7 o7 b7 ⊢
  have a8 : i1 = 7 → EcOK Cf 32 (((Tpl.when (i1 = 7) (Tpl.loop 32 (colOut (F := Ideal) (nD := nD) (τ := τ) (Λ := Λ) A) ⟨⟩)).run s7).2 .ec) := by
    intro h7
    have e : (Tpl.when (i1 = 7) (Tpl.loop 32 (colOut (F := Ideal) (nD := nD) (τ := τ) (Λ := Λ) A) ⟨⟩)).run s7
        = (Tpl.loop 32 (colOut (F := Ideal) (nD := nD) (τ := τ) (Λ := Λ) A) ⟨⟩).run s7 := if_pos h7
    rw [e]
    exact colOuts_spec (by rw [o7 .ce (by decide)]; rw [h7] at ce6; exact ce6)
  have o8' : Only [.ec] (Tpl.when (i1 = 7) (Tpl.loop 32 (colOut (F := Ideal) (nD := nD) (τ := τ) (Λ := Λ) A) ⟨⟩)) := .when (.loop fun _ _ _ => only_colOut _ _ _)
  have o8 := o8' s7
  have b8 := b7.of_only o8' (by decide)
  generalize ((Tpl.when (i1 = 7) (Tpl.loop 32 (colOut (F := Ideal) (nD := nD) (τ := τ) (Λ := Λ) A) ⟨⟩)).run s7).2 = s8 at a8 o8 b8 ⊢
  exact {
    cr := fun i => by rw [o8 .cr (by decide)]; exact a7.1 i (i 2).isLt
    er := fun i => by rw [o8 .er (by decide), o7 .er (by decide)]; exact er6 i
    cc := fun i => by
      rw [o8 .cc (by decide)]
      exact a7.2 i (.inl (by have b2 : (i 2).val < 4096 := (i 2).isLt; omega))
    ec := fun h7 i => a8 h7 i (i 2).isLt
    mask := fun i => by
      rw [o8 .mask (by decide), o7 .mask (by decide), o6 .mask (by decide), o5 .mask (by decide), o4 .mask (by decide), o3 .mask (by decide), o2 .mask (by decide)]
      exact mk1 i
    mean := fun h15 i => by
      rw [o8 .mean (by decide), o7 .mean (by decide), o6 .mean (by decide), o5 .mean (by decide)]
      exact (a4 h15).1 i (by have b0 : (i 0).val < 2 := (i 0).isLt; have b1 : (i 1).val < 1024 := (i 1).isLt; omega)
    rstd := fun h15 i => by
      rw [o8 .rstd (by decide), o7 .rstd (by decide), o6 .rstd (by decide), o5 .rstd (by decide)]
      exact (a4 h15).2 i (by have b0 : (i 0).val < 2 := (i 0).isLt; have b1 : (i 1).val < 1024 := (i 1).isLt; omega)
    h := fun i => by
      rw [o8 .h (by decide), o7 .h (by decide), o6 .h (by decide), o5 .h (by decide), o4 .h (by decide), o3 .h (by decide), o2 .h (by decide)]
      exact hh1 i
    consts := ⟨b8.pack, b8.expand⟩
    stat := by
      rw [o8 .stat (by decide), o7 .stat (by decide), o6 .stat (by decide), o5 .stat (by decide), o4 .stat (by decide)]
      exact a3
    ce := by
      rw [o8 .ce (by decide), o7 .ce (by decide)]
      exact ce6 }

end Cert.Body
-- ==== Proof.ValueKernelIdeal.lean ====
/-
  What the kernel's run leaves in each result.
-/
module

public import proofs.«01_k».proof.Proof.BodySpec
public import proofs.«01_k».proof.Proof.RunKernelIdeal
public import Idealize.ShloMosaic.Lib.Pipeline.ValueKit
public import Idealize.ShloMosaic.Lib.Pipeline.ArrRel
public import Idealize.ShloMosaic.Lib.Claim
public import Idealize.ShloMosaic.Lib.Pointwise

@[expose] public section

set_option maxRecDepth 16384

noncomputable section

namespace Cert.KernelIdeal.Hand

open Cert.KernelIdeal Cert.KernelIdeal.Gen Cert.Body Cert.Tpl
open Idealize.ShloMosaic Idealize.ShloMosaic.TcCoe Idealize.SL.Sem
open Idealize.ShloMosaic.Pipeline (Dat RDat Cfg Window)

variable (m : (ℓ : Loc nD τ sig) → Buf (Elt Ideal) ℓ)

/-- The rows of batch `b`. -/
def rowsAt (c : Dev nD) (b : ℕ) : Rows :=
  Rows.ofArgs (m ((c.tc : Thread nD τ).loc main_arg0)) (m ((c.tc : Thread nD τ).loc main_arg1)) (m ((c.tc : Thread nD τ).loc main_arg3))
    (m ((c.tc : Thread nD τ).loc main_arg2)) (m ((c.tc : Thread nD τ).loc main_arg4)) (m ((c.tc : Thread nD τ).loc main_arg5)) b

/-- The rows of a step. -/
def stepRows (c : Dev nD) (t : ℕ) : Rows := (rowsAt m c (t / 8)).shift (128 * (t % 8))

/-! ## The arguments, at coordinates -/

theorem x_at (c : Dev nD) (i : S2x1024x4096.Idx) : V m c main_arg0 i = (rowsAt m c (i 0).val).x (i 1).val (i 2).val := by
  rw [V_main_arg0]
  idx_vars i
  simp [rowsAt, Rows.ofArgs]

theorem a_at (c : Dev nD) (i : S2x1024x4096.Idx) : V m c main_arg1 i = (rowsAt m c (i 0).val).a (i 1).val (i 2).val := by
  rw [V_main_arg1]
  idx_vars i
  simp [rowsAt, Rows.ofArgs]

theorem rand_at (c : Dev nD) (i : S2x1024x4096.Idx) : V m c main_arg3 i = (rowsAt m c (i 0).val).rd (i 1).val (i 2).val := by
  rw [V_main_arg3]
  idx_vars i
  simp [rowsAt, Rows.ofArgs]

theorem bias_at (c : Dev nD) (b : ℕ) (i : S1x4096.Idx) : V m c main_v0 i = (rowsAt m c b).bi (i 1).val := by
  idx_vars i
  entry_read
  pointwise
  simp [rowsAt, Rows.ofArgs]

theorem gamma_at (c : Dev nD) (b : ℕ) (i : S1x4096.Idx) : V m c main_v1 i = (rowsAt m c b).ga (i 1).val := by
  idx_vars i
  entry_read
  pointwise
  simp [rowsAt, Rows.ofArgs]

theorem beta_at (c : Dev nD) (b : ℕ) (i : S1x4096.Idx) : V m c main_v2 i = (rowsAt m c b).be (i 1).val := by
  idx_vars i
  entry_read
  pointwise
  simp [rowsAt, Rows.ofArgs]

theorem index0 : ∀ t : Fin cfg0.N, win0_0.index t 0 = t.val / 8 ∧ win0_0.index t 1 = t.val % 8 ∧ win0_0.index t 2 = 0 := by decide +kernel
theorem index1 : ∀ t : Fin cfg0.N, win0_1.index t 0 = t.val / 8 ∧ win0_1.index t 1 = t.val % 8 ∧ win0_1.index t 2 = 0 := by decide +kernel
theorem index3 : ∀ t : Fin cfg0.N, win0_3.index t 0 = t.val / 8 ∧ win0_3.index t 1 = t.val % 8 ∧ win0_3.index t 2 = 0 := by decide +kernel
theorem index2 : ∀ t : Fin cfg0.N, win0_2.index t 1 = 0 := by decide +kernel
theorem index4 : ∀ t : Fin cfg0.N, win0_4.index t 1 = 0 := by decide +kernel
theorem index5 : ∀ t : Fin cfg0.N, win0_5.index t 1 = 0 := by decide +kernel

theorem iblk0 (c : Dev nD) (t : Fin cfg0.N) (i : S1x128x4096.Idx) : iblk m c 0 t i = (stepRows m c t).x (i 1).val (i 2).val := by
  obtain ⟨h0, h1, h2⟩ := index0 t
  idx_vars i
  blk_simp [iblk]
  rw [x_at]
  blk_simp
  rw [h0, h1, h2]
  simp [stepRows, Rows.shift, mul_comm]

theorem iblk1 (c : Dev nD) (t : Fin cfg0.N) (i : S1x128x4096.Idx) : iblk m c 1 t i = (stepRows m c t).a (i 1).val (i 2).val := by
  obtain ⟨h0, h1, h2⟩ := index1 t
  idx_vars i
  blk_simp [iblk]
  rw [a_at]
  blk_simp
  rw [h0, h1, h2]
  simp [stepRows, Rows.shift, mul_comm]

theorem iblk3 (c : Dev nD) (t : Fin cfg0.N) (i : S1x128x4096.Idx) : iblk m c 3 t i = (stepRows m c t).rd (i 1).val (i 2).val := by
  obtain ⟨h0, h1, h2⟩ := index3 t
  idx_vars i
  blk_simp [iblk]
  rw [rand_at]
  blk_simp
  rw [h0, h1, h2]
  simp [stepRows, Rows.shift, mul_comm]

theorem iblk2 (c : Dev nD) (t : Fin cfg0.N) (i : S1x4096.Idx) : iblk m c 2 t i = (stepRows m c t).bi (i 1).val := by
  have h1 := index2 t
  idx_vars i
  blk_simp [iblk]
  rw [bias_at m c (t.val / 8)]
  blk_simp
  rw [h1]
  simp [stepRows, Rows.shift]

theorem iblk4 (c : Dev nD) (t : Fin cfg0.N) (i : S1x4096.Idx) : iblk m c 4 t i = (stepRows m c t).ga (i 1).val := by
  have h1 := index4 t
  idx_vars i
  blk_simp [iblk]
  rw [gamma_at m c (t.val / 8)]
  blk_simp
  rw [h1]
  simp [stepRows, Rows.shift]

theorem iblk5 (c : Dev nD) (t : Fin cfg0.N) (i : S1x4096.Idx) : iblk m c 5 t i = (stepRows m c t).be (i 1).val := by
  have h1 := index5 t
  idx_vars i
  blk_simp [iblk]
  rw [beta_at m c (t.val / 8)]
  blk_simp
  rw [h1]
  simp [stepRows, Rows.shift]

/-! ## One step -/

/-- The statistics of step `r`, -/
def Mf (c : Dev nD) (r l : ℕ) : EReal := (rowsAt m c (r / 8)).mean (128 * (r % 8) + l)
def Rf (c : Dev nD) (r l : ℕ) : EReal := (rowsAt m c (r / 8)).rstd (128 * (r % 8) + l)
/-- and the column exponents of batch `b`. -/
def Cf (c : Dev nD) (b q k : ℕ) : BitVec 32 := IntOp.addi (field1 ((rowsAt m c b).colMax q k)) 1#32

/-- What a step does to the blocks. -/
def aft (c : Dev nD) : (w : Fin 14) → Fin cfg0.N → (Y X : (cfg0.win w).block.Idx → Elt Ideal (cfg0.win w).elt) → Prop
  | 0, _, Y, X => X = Y
  | 1, _, Y, X => X = Y
  | 2, _, Y, X => X = Y
  | 3, _, Y, X => X = Y
  | 4, _, Y, X => X = Y
  | 5, _, Y, X => X = Y
  | 6, t, _, X => ∀ i : S1x128x4096.Idx, X i = Rows.code ((stepRows m c t).y (i 1).val (i 2).val) ((stepRows m c t).rowMax (i 1).val ((i 2).val / 32))
  | 7, t, _, X => ∀ i : S1x128x128.Idx, X i = Rows.expo ((stepRows m c t).rowMax (i 1).val (i 2).val)
  | 8, t, _, X => ∀ i : S1x128x4096.Idx, X i = Rows.code ((stepRows m c t).y (i 1).val (i 2).val) ((stepRows m c t).colMax ((i 1).val / 32) (i 2).val)
  | 9, t, _, X => t.val % 8 = 7 → ∀ i : S1x32x4096.Idx, X i = BitVec.setWidth 8 (Cf m c (t.val / 8) (i 1).val (i 2).val)
  | 10, t, _, X => ∀ i : S1x128x512.Idx, X i = (stepRows m c t).mask (i 1).val (i 2).val
  | 11, t, _, X => t.val = 15 → ∀ i : S2x1024.Idx, X i = Mf m c (8 * (i 0).val + (i 1).val / 128) ((i 1).val % 128)
  | 12, t, _, X => t.val = 15 → ∀ i : S2x1024.Idx, X i = Rf m c (8 * (i 0).val + (i 1).val / 128) ((i 1).val % 128)
  | 13, t, _, X => ∀ i : S1x128x4096.Idx, X i = (stepRows m c t).h (i 1).val (i 2).val

/-- What is in the scratch before step `t`. -/
def Inv (c : Dev nD) (t : ℕ) (σ : St Ideal) : Prop :=
  (0 < t → Consts σ) ∧ StatOK (Mf m c) (Rf m c) t (σ .stat) ∧ CeOK (Cf m c (t / 8)) (4 * (t % 8)) 0 (σ .ce)

theorem inv_zero (c : Dev nD) (σ : St Ideal) : Inv m c 0 σ :=
  ⟨fun h => absurd h (by omega), fun i => ⟨fun h => absurd h (by omega), fun h h' => absurd h (by omega)⟩, fun i h => absurd h (by omega)⟩

/-! An input's block is its part of the argument. -/

theorem finds0 (c : Dev nD) (t : Fin cfg0.N) (Y) (h : (rdat m (aft m) (Inv m) c).Finds 0 t Y) : Y = iblk m c 0 t := by
  obtain ⟨d, rfl⟩ := (rdat m (aft m) (Inv m) c).finds_in_eq_fetched 0 rfl (fun _ _ _ => rfl) (fun t Y X h => h) t Y h
  unfold RDat.fetched RDat.blockOf iblk
  rfl

theorem finds1 (c : Dev nD) (t : Fin cfg0.N) (Y) (h : (rdat m (aft m) (Inv m) c).Finds 1 t Y) : Y = iblk m c 1 t := by
  obtain ⟨d, rfl⟩ := (rdat m (aft m) (Inv m) c).finds_in_eq_fetched 1 rfl (fun _ _ _ => rfl) (fun t Y X h => h) t Y h
  unfold RDat.fetched RDat.blockOf iblk
  rfl

theorem finds2 (c : Dev nD) (t : Fin cfg0.N) (Y) (h : (rdat m (aft m) (Inv m) c).Finds 2 t Y) : Y = iblk m c 2 t := by
  obtain ⟨d, rfl⟩ := (rdat m (aft m) (Inv m) c).finds_in_eq_fetched 2 rfl (fun _ _ _ => rfl) (fun t Y X h => h) t Y h
  unfold RDat.fetched RDat.blockOf iblk
  rfl

theorem finds3 (c : Dev nD) (t : Fin cfg0.N) (Y) (h : (rdat m (aft m) (Inv m) c).Finds 3 t Y) : Y = iblk m c 3 t := by
  obtain ⟨d, rfl⟩ := (rdat m (aft m) (Inv m) c).finds_in_eq_fetched 3 rfl (fun _ _ _ => rfl) (fun t Y X h => h) t Y h
  unfold RDat.fetched RDat.blockOf iblk
  rfl

theorem finds4 (c : Dev nD) (t : Fin cfg0.N) (Y) (h : (rdat m (aft m) (Inv m) c).Finds 4 t Y) : Y = iblk m c 4 t := by
  obtain ⟨d, rfl⟩ := (rdat m (aft m) (Inv m) c).finds_in_eq_fetched 4 rfl (fun _ _ _ => rfl) (fun t Y X h => h) t Y h
  unfold RDat.fetched RDat.blockOf iblk
  rfl

theorem finds5 (c : Dev nD) (t : Fin cfg0.N) (Y) (h : (rdat m (aft m) (Inv m) c).Finds 5 t Y) : Y = iblk m c 5 t := by
  obtain ⟨d, rfl⟩ := (rdat m (aft m) (Inv m) c).finds_in_eq_fetched 5 rfl (fun _ _ _ => rfl) (fun t Y X h => h) t Y h
  unfold RDat.fetched RDat.blockOf iblk
  rfl

theorem blocks (c : Dev nD) (t : Fin cfg0.N) (Y : (w : Fin cfg0.W) → (cfg0.win w).block.Idx → Elt Ideal (cfg0.win w).elt) (σ : St Ideal)
    (hY : ∀ w, (rdat m (aft m) (Inv m) c).Finds w t (Y w)) : Blocks (stepRows m c t) (merge Y σ) where
  x i := by show Y 0 i = _; rw [finds0 m c t _ (hY 0)]; exact iblk0 m c t i
  a i := by show Y 1 i = _; rw [finds1 m c t _ (hY 1)]; exact iblk1 m c t i
  bias i := by show Y 2 i = _; rw [finds2 m c t _ (hY 2)]; exact iblk2 m c t i
  rand i := by show Y 3 i = _; rw [finds3 m c t _ (hY 3)]; exact iblk3 m c t i
  gamma i := by show Y 4 i = _; rw [finds4 m c t _ (hY 4)]; exact iblk4 m c t i
  beta i := by show Y 5 i = _; rw [finds5 m c t _ (hY 5)]; exact iblk5 m c t i

theorem step_ok : StepOK m (aft m) (Inv m) := by
  intro c t Y σ hY ⟨hI, hS, hC⟩
  have ht : t.val < 16 := t.isLt
  have e8 : 8 * (t.val / 8) + t.val % 8 = t.val := Nat.div_add_mod _ _
  have L : Left (stepRows m c t) (Mf m c) (Rf m c) (Cf m c (t.val / 8)) (t.val / 8) (t.val % 8) ((stepAt t).run (merge Y σ)).2 := by
    refine body_spec _ _ _ _ (blocks m c t Y σ hY) (fun h => hI (by omega)) (by rw [e8]; exact hS) hC ?_ ?_ ?_
    · intro l; rw [e8]; rfl
    · intro l; rw [e8]; rfl
    · intro q k; unfold stepRows; rw [Rows.colMax_shift]; rfl
  have o : ∀ b : B, b ∉ ([.cr, .er, .cc, .ec, .mask, .mean, .rstd, .h, .pack, .expand, .y, .row, .col, .cs, .ce, .stat] : List B) →
      ((stepAt t).run (merge Y σ)).2 b = merge Y σ b := only_body (A := argsAt t) (t.val / 8) (t.val % 8) (by omega) (by omega) (merge Y σ)
  generalize ((stepAt t).run (merge Y σ)).2 = s at L o ⊢
  refine ⟨fun w => ?_, fun _ => L.consts, by have := L.stat; rw [e8] at this; exact this, fun i hi => ?_⟩
  · match w with
    | 0 => exact o .x (by decide)
    | 1 => exact o .a (by decide)
    | 2 => exact o .bias (by decide)
    | 3 => exact o .rand (by decide)
    | 4 => exact o .gamma (by decide)
    | 5 => exact o .beta (by decide)
    | 6 => exact L.cr
    | 7 => exact L.er
    | 8 => exact L.cc
    | 9 => exact L.ec
    | 10 => exact L.mask
    | 11 => exact fun h => L.mean (by omega)
    | 12 => exact fun h => L.rstd (by omega)
    | 13 => exact L.h
  · have hi' : (i 0).val % 32 < 4 * ((t.val + 1) % 8) := by omega
    rw [show (t.val + 1) / 8 = t.val / 8 by omega]
    exact L.ce i (.inl (by omega))

/-! ## The results -/

theorem index6 : ∀ t : Fin cfg0.N, win0_6.index t 0 = t.val / 8 ∧ win0_6.index t 1 = t.val % 8 ∧ win0_6.index t 2 = 0 := by decide +kernel
theorem index7 : ∀ t : Fin cfg0.N, win0_7.index t 0 = t.val / 8 ∧ win0_7.index t 1 = t.val % 8 ∧ win0_7.index t 2 = 0 := by decide +kernel
theorem index8 : ∀ t : Fin cfg0.N, win0_8.index t 0 = t.val / 8 ∧ win0_8.index t 1 = t.val % 8 ∧ win0_8.index t 2 = 0 := by decide +kernel
theorem index9 : ∀ t : Fin cfg0.N, win0_9.index t 0 = t.val / 8 ∧ win0_9.index t 1 = 0 ∧ win0_9.index t 2 = 0 := by decide +kernel
theorem index10 : ∀ t : Fin cfg0.N, win0_10.index t 0 = t.val / 8 ∧ win0_10.index t 1 = t.val % 8 ∧ win0_10.index t 2 = 0 := by decide +kernel
theorem index11 : ∀ t : Fin cfg0.N, win0_11.index t 0 = 0 ∧ win0_11.index t 1 = 0 := by decide +kernel
theorem index12 : ∀ t : Fin cfg0.N, win0_12.index t 0 = 0 ∧ win0_12.index t 1 = 0 := by decide +kernel
theorem index13 : ∀ t : Fin cfg0.N, win0_13.index t 0 = t.val / 8 ∧ win0_13.index t 1 = t.val % 8 ∧ win0_13.index t 2 = 0 := by decide +kernel

/-- The row codes, -/
def out0 (c : Dev nD) (i : S2x1024x4096.Idx) : EReal :=
  Rows.code ((rowsAt m c (i 0).val).y (i 1).val (i 2).val) ((rowsAt m c (i 0).val).rowMax (i 1).val ((i 2).val / 32))
/-- the row exponents, -/
def out1 (c : Dev nD) (i : S2x1024x128.Idx) : BitVec 8 := Rows.expo ((rowsAt m c (i 0).val).rowMax (i 1).val (i 2).val)
/-- the column codes, -/
def out2 (c : Dev nD) (i : S2x1024x4096.Idx) : EReal :=
  Rows.code ((rowsAt m c (i 0).val).y (i 1).val (i 2).val) ((rowsAt m c (i 0).val).colMax ((i 1).val / 32) (i 2).val)
/-- the column exponents, -/
def out3 (c : Dev nD) (i : S2x32x4096.Idx) : BitVec 8 := Rows.expo ((rowsAt m c (i 0).val).colMax (i 1).val (i 2).val)
/-- the mask, -/
def out4 (c : Dev nD) (i : S2x1024x512.Idx) : BitVec 8 := (rowsAt m c (i 0).val).mask (i 1).val (i 2).val
/-- the means, -/
def out5 (c : Dev nD) (i : S2x1024.Idx) : EReal := (rowsAt m c (i 0).val).mean (i 1).val
/-- the deviations, -/
def out6 (c : Dev nD) (i : S2x1024.Idx) : EReal := (rowsAt m c (i 0).val).rstd (i 1).val
/-- and the residual sums. -/
def out7 (c : Dev nD) (i : S2x1024x4096.Idx) : EReal := (rowsAt m c (i 0).val).h (i 1).val (i 2).val

theorem res0 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m (aft m) (Inv m) c).Leaves w u (after w u)) :
    ((rdat m (aft m) (Inv m) c).withAfter after).arrAt 6 cfg0.N = out0 m c := by
  refine Dat.arrAt_eq_of_covers _ 6 _ (by decide +kernel) fun t hf y => ?_
  obtain ⟨Y, -, hX⟩ := hL 6 t hf
  obtain ⟨h0, h1, h2⟩ := index6 t
  change ∀ i : S1x128x4096.Idx, _ at hX
  refine (hX y).trans ?_
  unfold out0
  blk_simp
  rw [h0, h1, h2]
  simp [mul_comm (t.val % 8) 128]
  rfl

theorem res1 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m (aft m) (Inv m) c).Leaves w u (after w u)) :
    ((rdat m (aft m) (Inv m) c).withAfter after).arrAt 7 cfg0.N = out1 m c := by
  refine Dat.arrAt_eq_of_covers _ 7 _ (by decide +kernel) fun t hf y => ?_
  obtain ⟨Y, -, hX⟩ := hL 7 t hf
  obtain ⟨h0, h1, h2⟩ := index7 t
  change ∀ i : S1x128x128.Idx, _ at hX
  refine (hX y).trans ?_
  unfold out1
  blk_simp
  rw [h0, h1, h2]
  simp [mul_comm (t.val % 8) 128]
  rfl

theorem res2 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m (aft m) (Inv m) c).Leaves w u (after w u)) :
    ((rdat m (aft m) (Inv m) c).withAfter after).arrAt 8 cfg0.N = out2 m c := by
  refine Dat.arrAt_eq_of_covers _ 8 _ (by decide +kernel) fun t hf y => ?_
  obtain ⟨Y, -, hX⟩ := hL 8 t hf
  obtain ⟨h0, h1, h2⟩ := index8 t
  change ∀ i : S1x128x4096.Idx, _ at hX
  refine (hX y).trans ?_
  unfold out2
  blk_simp
  rw [h0, h1, h2]
  unfold stepRows
  rw [Rows.colMax_shift]
  simp [mul_comm (t.val % 8) 128]
  rw [show (128 * (t.val % 8) + (y 1).val) / 32 = 4 * (t.val % 8) + (y 1).val / 32 by omega]
  rfl

theorem res3 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m (aft m) (Inv m) c).Leaves w u (after w u)) :
    ((rdat m (aft m) (Inv m) c).withAfter after).arrAt 9 cfg0.N = out3 m c := by
  refine Dat.arrAt_eq_of_covers _ 9 _ (by decide +kernel) fun t hf y => ?_
  obtain ⟨Y, -, hX⟩ := hL 9 t hf
  have h7 := (flush0_9 t).mp hf
  obtain ⟨h0, h1, h2⟩ := index9 t
  change _ → ∀ i : S1x32x4096.Idx, _ at hX
  refine (hX h7 y).trans ?_
  unfold out3
  blk_simp
  rw [h0, h1, h2]
  simp
  rfl

theorem res4 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m (aft m) (Inv m) c).Leaves w u (after w u)) :
    ((rdat m (aft m) (Inv m) c).withAfter after).arrAt 10 cfg0.N = out4 m c := by
  refine Dat.arrAt_eq_of_covers _ 10 _ (by decide +kernel) fun t hf y => ?_
  obtain ⟨Y, -, hX⟩ := hL 10 t hf
  obtain ⟨h0, h1, h2⟩ := index10 t
  change ∀ i : S1x128x512.Idx, _ at hX
  refine (hX y).trans ?_
  unfold out4
  blk_simp
  rw [h0, h1, h2]
  simp [mul_comm (t.val % 8) 128]
  rfl

theorem res5 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m (aft m) (Inv m) c).Leaves w u (after w u)) :
    ((rdat m (aft m) (Inv m) c).withAfter after).arrAt 11 cfg0.N = out5 m c := by
  refine Dat.arrAt_eq_of_covers _ 11 _ (by decide +kernel) fun t hf y => ?_
  obtain ⟨Y, -, hX⟩ := hL 11 t hf
  have ht : t.val < 16 := t.isLt
  have h15 := (flush0_11 t).mp hf
  obtain ⟨h0, h1⟩ := index11 t
  change _ → ∀ i : S2x1024.Idx, _ at hX
  refine (hX (by omega) y).trans ?_
  unfold out5
  blk_simp
  rw [h0, h1]
  have y1 : (y 1).val < 1024 := (y 1).isLt
  unfold Mf
  rw [show (8 * (y 0).val + (y 1).val / 128) / 8 = (y 0).val by omega, show 128 * ((8 * (y 0).val + (y 1).val / 128) % 8) + (y 1).val % 128 = (y 1).val by omega]
  simp

theorem res6 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m (aft m) (Inv m) c).Leaves w u (after w u)) :
    ((rdat m (aft m) (Inv m) c).withAfter after).arrAt 12 cfg0.N = out6 m c := by
  refine Dat.arrAt_eq_of_covers _ 12 _ (by decide +kernel) fun t hf y => ?_
  obtain ⟨Y, -, hX⟩ := hL 12 t hf
  have ht : t.val < 16 := t.isLt
  have h15 := (flush0_12 t).mp hf
  obtain ⟨h0, h1⟩ := index12 t
  change _ → ∀ i : S2x1024.Idx, _ at hX
  refine (hX (by omega) y).trans ?_
  unfold out6
  blk_simp
  rw [h0, h1]
  have y1 : (y 1).val < 1024 := (y 1).isLt
  unfold Rf
  rw [show (8 * (y 0).val + (y 1).val / 128) / 8 = (y 0).val by omega, show 128 * ((8 * (y 0).val + (y 1).val / 128) % 8) + (y 1).val % 128 = (y 1).val by omega]
  simp

theorem res7 (c : Dev nD) (after : (w' : Fin cfg0.W) → Fin cfg0.N → (cfg0.win w').block.Idx → Elt Ideal (cfg0.win w').elt)
    (hL : ∀ (w : Fin cfg0.W) (u : Fin cfg0.N), (cfg0.win w).flush u = true → (rdat m (aft m) (Inv m) c).Leaves w u (after w u)) :
    ((rdat m (aft m) (Inv m) c).withAfter after).arrAt 13 cfg0.N = out7 m c := by
  refine Dat.arrAt_eq_of_covers _ 13 _ (by decide +kernel) fun t hf y => ?_
  obtain ⟨Y, -, hX⟩ := hL 13 t hf
  obtain ⟨h0, h1, h2⟩ := index13 t
  change ∀ i : S1x128x4096.Idx, _ at hX
  refine (hX y).trans ?_
  unfold out7
  blk_simp
  rw [h0, h1, h2]
  simp [mul_comm (t.val % 8) 128]
  rfl

/-- The run: every result as above, the arguments as they were. -/
theorem run_values (ρ : Dev nD → PrngReg) : θ_run defs (onTc (τ := τ) (main (F := Ideal))) ⟨m, fun _ => 0, ρ⟩ (fun r => ∀ c : Dev nD,
    (r.2.mem ((c.tc : Thread nD τ).loc main_v3_0) = out0 m c ∧ r.2.mem ((c.tc : Thread nD τ).loc main_v3_1) = out1 m c
      ∧ r.2.mem ((c.tc : Thread nD τ).loc main_v3_2) = out2 m c ∧ r.2.mem ((c.tc : Thread nD τ).loc main_v3_3) = out3 m c
      ∧ r.2.mem ((c.tc : Thread nD τ).loc main_v3_4) = out4 m c ∧ r.2.mem ((c.tc : Thread nD τ).loc main_v3_5) = out5 m c
      ∧ r.2.mem ((c.tc : Thread nD τ).loc main_v3_6) = out6 m c ∧ r.2.mem ((c.tc : Thread nD τ).loc main_v3_7) = out7 m c)
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ (step_ok m) (inv_zero m))
  refine ⟨?_, args_unchanged m h.1 c⟩
  obtain ⟨after, hL, hA⟩ := h.1.exists_exact c
  exact ⟨(hA 6).trans (res0 m c after hL), (hA 7).trans (res1 m c after hL), (hA 8).trans (res2 m c after hL), (hA 9).trans (res3 m c after hL),
    (hA 10).trans (res4 m c after hL), (hA 11).trans (res5 m c after hL), (hA 12).trans (res6 m c after hL), (hA 13).trans (res7 m c after hL)⟩

end Cert.KernelIdeal.Hand
-- ==== Proof.Consts.lean ====
/-
  The constants as real numbers.
-/
module

public import proofs.«01_k».proof.Proof.Spec

@[expose] public section

set_option maxRecDepth 16384

open Idealize.ShloMosaic Idealize.SL.Sem

noncomputable section

namespace Cert.Consts

open Cert.Body

/-- What a positive normal pattern denotes. -/
theorem normal (b : BitVec 32) (ex fr : ℕ) (hs : b.extractLsb' 31 1 = 0#1) (he : (b.extractLsb' 23 8).toNat = ex)
    (hf : (b.extractLsb' 0 23).toNat = fr) (h0 : 0 < ex) (h1 : ex < 255) :
    Ideal.ofBits .f32 b = ((((8388608 + fr : ℕ) : ℝ) * (2 : ℝ) ^ ((ex : ℤ) - 150) : ℝ) : EReal) := by
  unfold Ideal.ofBits Ideal.ieee
  simp only [Nat.reduceAdd, hs, he, hf]
  rw [if_neg (by omega), if_neg (by omega)]
  congr 1
  rw [show ((ex : ℤ) - (2 ^ (8 - 1) - 1) - ((23 : ℕ) : ℤ)) = (ex : ℤ) - 150 by norm_num; ring]
  norm_num

/-- The power of two a pattern without a fraction denotes. -/
theorem pow (n : ℕ) (h0 : 0 < n) (h1 : n < 255) :
    Ideal.ofBits .f32 (IntOp.shli .vector (BitVec.ofNat 32 n) 23#32) = (((2 : ℝ) ^ ((n : ℤ) - 127) : ℝ) : EReal) := by
  have e1 : ∀ n : Fin 255, (IntOp.shli .vector (BitVec.ofNat 32 n.val) 23#32).extractLsb' 31 1 = 0#1
      ∧ ((IntOp.shli .vector (BitVec.ofNat 32 n.val) 23#32).extractLsb' 23 8).toNat = n.val
      ∧ ((IntOp.shli .vector (BitVec.ofNat 32 n.val) 23#32).extractLsb' 0 23).toNat = 0 := by decide +kernel
  refine (normal _ n 0 (e1 ⟨n, h1⟩).1 (e1 ⟨n, h1⟩).2.1 (e1 ⟨n, h1⟩).2.2 h0 h1).trans ?_
  congr 1
  rw [show ((n : ℤ) - 127) = 23 + ((n : ℤ) - 150) by ring, zpow_add₀ (by norm_num)]
  norm_num

/-- The pattern of field 255 is the infinity. -/
theorem pow_top : Ideal.ofBits .f32 (IntOp.shli .vector (BitVec.ofNat 32 255) 23#32) = ⊤ := by
  unfold Ideal.ofBits Ideal.ieee
  have e1 : (IntOp.shli .vector (BitVec.ofNat 32 255) 23#32).extractLsb' 31 1 = 0#1
      ∧ ((IntOp.shli .vector (BitVec.ofNat 32 255) 23#32).extractLsb' 23 8).toNat = 255
      ∧ ((IntOp.shli .vector (BitVec.ofNat 32 255) 23#32).extractLsb' 0 23).toNat = 0 := by decide +kernel
  simp [e1]

theorem cInv_eq : cInv = ((1 / 4096 : ℝ) : EReal) := by
  unfold cInv
  rw [normal _ 115 0 (by decide) (by decide) (by decide) (by decide) (by decide)]
  norm_num [zpow_neg]

theorem cInv448_eq : cInv448 = ((9586981 * (2 : ℝ) ^ (-32 : ℤ) : ℝ) : EReal) := by
  unfold cInv448
  rw [normal _ 118 1198373 (by decide) (by decide) (by decide) (by decide) (by decide)]
  norm_num

theorem cEps_pos : ∃ e : ℝ, 0 < e ∧ cEps = (e : EReal) := by
  unfold cEps
  rw [normal _ 110 2606508 (by decide) (by decide) (by decide) (by decide) (by decide)]
  exact ⟨_, by positivity, rfl⟩

theorem tiny_eq : Ideal.ofBits .f32 8388608#32 = (((2 : ℝ) ^ (-126 : ℤ) : ℝ) : EReal) := by
  rw [normal _ 1 0 (by decide) (by decide) (by decide) (by decide) (by decide)]
  congr 1
  rw [show (-126 : ℤ) = 23 + (((1 : ℕ) : ℤ) - 150) by norm_num, zpow_add₀ (by norm_num)]
  norm_num

theorem max_le : ∃ g : ℝ, g ≤ (2 : ℝ) ^ (128 : ℕ) ∧ Ideal.ofBits .f32 2139095039#32 = (g : EReal) := by
  rw [normal _ 254 8388607 (by decide) (by decide) (by decide) (by decide) (by decide)]
  exact ⟨_, by norm_num, rfl⟩

end Cert.Consts
-- ==== Proof.RefRows.lean ====
/-
  The reference's arrays at an index, in the coordinates of the specification.
-/
module

public import proofs.«01_k».proof.Proof.Consts
public import proofs.«01_k».proof.Proof.Gen.ReferenceIdeal.Frame
public import Idealize.ShloMosaic.Lib.Pipeline.ValueKit
public import Idealize.ShloMosaic.Lib.Claim
public import Idealize.ShloMosaic.Lib.Pointwise

@[expose] public section

set_option maxRecDepth 16384

noncomputable section

namespace Cert.ReferenceIdeal.Hand

open Cert.ReferenceIdeal Cert.ReferenceIdeal.Gen Cert.Body
open Idealize.ShloMosaic Idealize.ShloMosaic.TcCoe Idealize.SL.Sem

/-- Dividing by the number of channels is multiplying by its reciprocal. -/
theorem div_channels (x : EReal) : Ideal.div x (Ideal.ofBits .f32 1166016512#32) = x * cInv := by
  have h1 : Ideal.ofBits .f32 1166016512#32 = ((4096 : ℝ) : EReal) := by
    rw [Consts.normal _ 139 0 (by decide) (by decide) (by decide) (by decide) (by decide)]
    norm_num
  rw [h1, Consts.cInv_eq, Ideal.div_coe (by norm_num)]

/-! ## The payloads, at an index -/

section Payloads

variable (P3 : Vec Ideal S2x1024x4096 .i32) (P1 : Vec Ideal S2x1024x4096 .bf16) (P2 : Vec Ideal S1x1x4096 .f32) (P0 : Vec Ideal S2x1024x4096 .bf16)
  (P4 P5 : Vec Ideal S1x1x4096 .f32)

theorem pay1_ix (b : Fin 2) (r : Fin 1024) (k : Fin 4096) :
    k0_pay1 (F := Ideal) P3 (ix3 b r k) = IntOp.cmpi .uge (P3 (ix3 b r k)) 429496730#32 := by
  pointwise [k0_pay1]

theorem pay2_ix (b : Fin 2) (r : Fin 1024) (k : Fin 4096) :
    k0_pay2 P3 P1 P2 P0 (ix3 b r k)
      = ((P0 (ix3 b r k) : EReal) + Scalar.select (IntOp.cmpi .uge (P3 (ix3 b r k)) 429496730#32) (((P1 (ix3 b r k) : EReal) + P2 (ix3 0 0 k)) * cKS) (0 : EReal) : EReal) := by
  pointwise [k0_pay2, pay1_ix]

theorem pay4_ix (b : Fin 2) (r : Fin 1024) :
    k0_pay4 P3 P1 P2 P0 (ix2 b r) = ((∑ x : Fin 4096, (k0_pay2 P3 P1 P2 P0 (ix3 b r x) : EReal)) * cInv : EReal) := by
  rw [← div_channels]
  unfold k0_pay4 k0_pay3
  generalize k0_pay2 P3 P1 P2 P0 = H
  pointwise

theorem pay5_ix (b : Fin 2) (r : Fin 1024) (k : Fin 4096) :
    k0_pay5 P3 P1 P2 P0 (ix3 b r k) = ((k0_pay2 P3 P1 P2 P0 (ix3 b r k) : EReal) - k0_pay4 P3 P1 P2 P0 (ix2 b r) : EReal) := by
  unfold k0_pay5 k0_pay3
  generalize k0_pay2 P3 P1 P2 P0 = H
  generalize k0_pay4 P3 P1 P2 P0 = M
  pointwise

theorem pay6_ix (b : Fin 2) (r : Fin 1024) :
    k0_pay6 P3 P1 P2 P0 (ix2 b r)
      = Ideal.rsqrt ((∑ x : Fin 4096, (k0_pay5 P3 P1 P2 P0 (ix3 b r x) : EReal) * k0_pay5 P3 P1 P2 P0 (ix3 b r x)) * cInv + cEps) := by
  rw [← div_channels]
  unfold k0_pay6
  generalize k0_pay5 P3 P1 P2 P0 = C
  pointwise

theorem pay7_ix (b : Fin 2) (r : Fin 1024) (k : Fin 4096) :
    k0_pay7 P3 P1 P2 P0 (ix3 b r k) = ((k0_pay5 P3 P1 P2 P0 (ix3 b r k) : EReal) * k0_pay6 P3 P1 P2 P0 (ix2 b r) : EReal) := by
  unfold k0_pay7
  generalize k0_pay5 P3 P1 P2 P0 = C
  generalize k0_pay6 P3 P1 P2 P0 = S
  pointwise

theorem pay9_ix (a1 a2 : FVec Ideal S2x1024x4096 .f32) (b : Fin 2) (r : Fin 1024) (k : Fin 4096) :
    k0_pay9 a1 a2 P5 (ix3 b r k) = ((a1 (ix3 b r k) : EReal) * a2 (ix3 b r k) + P5 (ix3 0 0 k) : EReal) := by
  pointwise [k0_pay9]

theorem pay8_ix (b : Fin 2) (r : Fin 1024) (k : Fin 4096) : k0_pay8 P4 (ix3 b r k) = P4 (ix3 0 0 k) := by
  pointwise [k0_pay8]

/-! ## and in coordinates -/

variable {P3 P1 P2 P0 P4 P5} {R : ℕ → Rows}

/-- The staged blocks are the rows `R`. -/
structure Reads (P3 : Vec Ideal S2x1024x4096 .i32) (P1 : Vec Ideal S2x1024x4096 .bf16) (P2 : Vec Ideal S1x1x4096 .f32)
    (P0 : Vec Ideal S2x1024x4096 .bf16) (P4 P5 : Vec Ideal S1x1x4096 .f32) (R : ℕ → Rows) : Prop where
  x (b : Fin 2) (r : Fin 1024) (k : Fin 4096) : P0 (ix3 b r k) = (R b.val).x r.val k.val
  a (b : Fin 2) (r : Fin 1024) (k : Fin 4096) : P1 (ix3 b r k) = (R b.val).a r.val k.val
  rd (b : Fin 2) (r : Fin 1024) (k : Fin 4096) : P3 (ix3 b r k) = (R b.val).rd r.val k.val
  bi (b : Fin 2) (k : Fin 4096) : P2 (ix3 0 0 k) = (R b.val).bi k.val
  ga (b : Fin 2) (k : Fin 4096) : P4 (ix3 0 0 k) = (R b.val).ga k.val
  be (b : Fin 2) (k : Fin 4096) : P5 (ix3 0 0 k) = (R b.val).be k.val

namespace Reads

variable (H : Reads P3 P1 P2 P0 P4 P5 R)

include H

theorem keep (b : Fin 2) (r : Fin 1024) (k : Fin 4096) : k0_pay1 (F := Ideal) P3 (ix3 b r k) = (R b.val).keep r.val k.val := by
  rw [pay1_ix, H.rd]
  rfl

theorem h (b : Fin 2) (r : Fin 1024) (k : Fin 4096) : k0_pay2 P3 P1 P2 P0 (ix3 b r k) = (R b.val).h r.val k.val := by
  rw [pay2_ix, H.rd, H.x, H.a, H.bi b]
  rfl

theorem mean (b : Fin 2) (r : Fin 1024) : k0_pay4 P3 P1 P2 P0 (ix2 b r) = (R b.val).mean r.val := by
  rw [pay4_ix]
  simp only [H.h]
  unfold Rows.mean
  rw [Finset.sum_range]

theorem cen (b : Fin 2) (r : Fin 1024) (k : Fin 4096) : k0_pay5 P3 P1 P2 P0 (ix3 b r k) = (R b.val).cen r.val k.val := by
  rw [pay5_ix, H.h, H.mean]
  rfl

theorem rstd (b : Fin 2) (r : Fin 1024) : k0_pay6 P3 P1 P2 P0 (ix2 b r) = (R b.val).rstd r.val := by
  rw [pay6_ix]
  simp only [H.cen]
  unfold Rows.rstd
  rw [Finset.sum_range]

theorem y (b : Fin 2) (r : Fin 1024) (k : Fin 4096) :
    k0_pay9 (k0_pay7 P3 P1 P2 P0) (k0_pay8 P4) P5 (ix3 b r k) = (R b.val).y r.val k.val := by
  rw [pay9_ix, pay7_ix, pay8_ix, H.cen, H.rstd, H.ga b, H.be b]
  rfl

end Reads

end Payloads

/-! ## The arguments -/

variable (m : (ℓ : Loc nD τ sig) → Buf (Elt Ideal) ℓ)

/-- The rows of batch `b`. -/
def rowsAt (c : Dev nD) (b : ℕ) : Rows :=
  Rows.ofArgs (m ((c.tc : Thread nD τ).loc main_arg0)) (m ((c.tc : Thread nD τ).loc main_arg1)) (m ((c.tc : Thread nD τ).loc main_arg3))
    (m ((c.tc : Thread nD τ).loc main_arg2)) (m ((c.tc : Thread nD τ).loc main_arg4)) (m ((c.tc : Thread nD τ).loc main_arg5)) b

theorem x_at (c : Dev nD) (i : S2x1024x4096.Idx) : V m c main_arg0 i = (rowsAt m c (i 0).val).x (i 1).val (i 2).val := by
  idx_vars i
  entry_read
  simp [rowsAt, Rows.ofArgs]

theorem a_at (c : Dev nD) (i : S2x1024x4096.Idx) : V m c main_arg1 i = (rowsAt m c (i 0).val).a (i 1).val (i 2).val := by
  idx_vars i
  entry_read
  simp [rowsAt, Rows.ofArgs]

theorem rand_at (c : Dev nD) (i : S2x1024x4096.Idx) : V m c main_arg3 i = (rowsAt m c (i 0).val).rd (i 1).val (i 2).val := by
  idx_vars i
  entry_read
  simp [rowsAt, Rows.ofArgs]

theorem bias_at (c : Dev nD) (b : ℕ) (i : S1x1x4096.Idx) : V m c main_v0 i = (rowsAt m c b).bi (i 2).val := by
  idx_vars i
  entry_read
  pointwise
  simp [rowsAt, Rows.ofArgs]

theorem gamma_at (c : Dev nD) (b : ℕ) (i : S1x1x4096.Idx) : V m c main_v1 i = (rowsAt m c b).ga (i 2).val := by
  idx_vars i
  entry_read
  pointwise
  simp [rowsAt, Rows.ofArgs]

theorem beta_at (c : Dev nD) (b : ℕ) (i : S1x1x4096.Idx) : V m c main_v2 i = (rowsAt m c b).be (i 2).val := by
  idx_vars i
  entry_read
  pointwise
  simp [rowsAt, Rows.ofArgs]

/-- There is one step, at the origin. -/
theorem index_zero : (win0_0.index t0_0 0 = 0 ∧ win0_0.index t0_0 1 = 0 ∧ win0_0.index t0_0 2 = 0) ∧ (win0_1.index t0_0 0 = 0 ∧ win0_1.index t0_0 1 = 0 ∧ win0_1.index t0_0 2 = 0) ∧ (win0_3.index t0_0 0 = 0 ∧ win0_3.index t0_0 1 = 0 ∧ win0_3.index t0_0 2 = 0) ∧ win0_2.index t0_0 2 = 0 ∧ win0_4.index t0_0 2 = 0 ∧ win0_5.index t0_0 2 = 0 := by decide +kernel

theorem reads (c : Dev nD) : Reads (iblk m c 3 t0_0) (iblk m c 1 t0_0) (iblk m c 2 t0_0) (iblk m c 0 t0_0) (iblk m c 4 t0_0) (iblk m c 5 t0_0) (rowsAt m c) where
  x b r k := by
    blk_simp [iblk]
    rw [x_at]
    blk_simp
    simp [index_zero]
  a b r k := by
    blk_simp [iblk]
    rw [a_at]
    blk_simp
    simp [index_zero]
  rd b r k := by
    blk_simp [iblk]
    rw [rand_at]
    blk_simp
    simp [index_zero]
  bi b k := by
    blk_simp [iblk]
    rw [bias_at m c b.val]
    blk_simp
    simp [index_zero]
  ga b k := by
    blk_simp [iblk]
    rw [gamma_at m c b.val]
    blk_simp
    simp [index_zero]
  be b k := by
    blk_simp [iblk]
    rw [beta_at m c b.val]
    blk_simp
    simp [index_zero]

end Cert.ReferenceIdeal.Hand
-- ==== Proof.RefQuant.lean ====
/-
  The reference's quantisation, at an index.
-/
module

public import proofs.«01_k».proof.Proof.RefRows

@[expose] public section

set_option maxRecDepth 16384

noncomputable section

namespace Cert.ReferenceIdeal.Hand

open Cert.ReferenceIdeal Cert.ReferenceIdeal.Gen Cert.Body
open Idealize.ShloMosaic Idealize.ShloMosaic.TcCoe Idealize.SL.Sem

/-- The exponent the reference gives a group with the maximum `a`. -/
def refExp (a : EReal) : EReal :=
  Scalar.select (FloatOps.cmpf (F := Ideal) (φ := .f32) .olt (a * cInv448) (Ideal.ofBits .f32 8388608#32)) (0 : EReal)
    (Ideal.liftRound Int.floor (Ideal.div (Ideal.log (a * cInv448)) ((Real.log 2 : ℝ) : EReal)) + 1)

/-- The code it gives an element of such a group, -/
def refCode (v a : EReal) : EReal := min cTop (max cBot (v * Ideal.exp2 (0 - refExp a)))

/-- and the exponent's byte. -/
def refExpo (a : EReal) : BitVec 8 := BitVec.setWidth 8 (IntOp.addi (FloatOps.fptosi (F := Ideal) (φ := .f32) 32 (refExp a)) 127#32)

/-- A maximum from the least element on is a supremum over the range. -/
theorem fold_max {n : ℕ} (f : ℕ → EReal) :
    (Finset.univ : Finset (Fin n)).fold max (Ideal.ofBits .f32 4286578688#32) (fun x => f x.val) = (Finset.range n).sup f := by
  have hb : Ideal.ofBits .f32 4286578688#32 = ⊥ := by
    unfold Ideal.ofBits Ideal.ieee
    have e1 : (4286578688#32).extractLsb' 31 1 = 1#1 ∧ ((4286578688#32).extractLsb' 23 8).toNat = 255 ∧ ((4286578688#32).extractLsb' 0 23).toNat = 0 := by
      decide
    simp [e1]
  rw [hb]
  refine eq_of_forall_ge_iff fun c => ?_
  rw [Finset.fold_max_le, Finset.sup_le_iff]
  constructor
  · intro h x hx
    exact h.2 ⟨x, Finset.mem_range.mp hx⟩ (Finset.mem_univ _)
  · intro h
    exact ⟨bot_le, fun x _ => h x.val (Finset.mem_range.mpr x.isLt)⟩

theorem zero_bits : Ideal.ofBits .f32 0#32 = 0 := by simp [Ideal.ofBits, Ideal.ieee]

theorem one_bits : Ideal.ofBits .f32 1065353216#32 = 1 := Ideal.ofBits_one_f32

theorem ln2_eq : (Named.named κ "ln2" 1060205080#32 : Ideal .f32) = ((Real.log 2 : ℝ) : EReal) := rfl

/-- The exponent, as the operations spell it. -/
theorem refExp_eq (a : EReal) : Scalar.select (FloatOps.cmpf (F := Ideal) (φ := .f32) .olt (a * Ideal.ofBits .f32 991054117#32) (Ideal.ofBits .f32 8388608#32))
    (Ideal.ofBits .f32 0#32) (Ideal.liftRound Int.floor (Ideal.div (Ideal.log (a * Ideal.ofBits .f32 991054117#32)) (Named.named κ "ln2" 1060205080#32 : Ideal .f32))
      + Ideal.ofBits .f32 1065353216#32) = refExp a := by
  rw [zero_bits, one_bits, ln2_eq]
  rfl

section Rows

variable (v33 v36 : FVec Ideal S2x1024x4096 .f32) (v38 : Vec Ideal S1x1x4096 .f32)

theorem pay10_ix (b : Fin 2) (r : Fin 1024) (g : Fin 128) (x : Fin 32) :
    k0_pay10 v33 v36 v38 (ix4 b r g x) = k0_pay9 v33 v36 v38 (ix3 b r ⟨g.val * 32 + x.val, by omega⟩) := by
  unfold k0_pay10
  generalize k0_pay9 v33 v36 v38 = Y
  pointwise

theorem rowMax_ix (Y : FVec Ideal S2x1024x128x32 .f32) (b : Fin 2) (r : Fin 1024) (g : Fin 128) :
    multiReduction .maximumf [3] S2x1024x128 (absf Y) 0xFF800000#32 reduces_S2x1024x128x32_S2x1024x128 (.inl rfl) rfl (ix3 b r g)
      = ((Finset.univ : Finset (Fin 32)).fold max (Ideal.ofBits .f32 4286578688#32) fun x => FloatOps.absf (F := Ideal) (φ := .f32) (Y (ix4 b r g x)) : EReal) := by
  pointwise

theorem keepdims_ix (M : FVec Ideal S2x1024x128 .f32) (b : Fin 2) (r : Fin 1024) (g : Fin 128) (z : Fin 1) :
    shapeCast S2x1024x128x1 M shapeCasts_S2x1024x128_S2x1024x128x1 (ix4 b r g z) = M (ix3 b r g) := by
  pointwise

/-- The elementwise part of the exponents, over its constants. -/
def expVec {s : Shape} (k t z o q : Ideal .f32) (T : FVec Ideal s .f32) : FVec Ideal s .f32 :=
  select (cmpf .olt (mulf T (broadcast s k)) (broadcast s t)) (broadcast s z)
    (addf (floor (divf (log (mulf T (broadcast s k))) (broadcast s q))) (broadcast s o))

theorem expVec_ix {s : Shape} (k t z o q : Ideal .f32) (T : FVec Ideal s .f32) (i : s.Idx) :
    expVec k t z o q T i = Scalar.select (FloatOps.cmpf (F := Ideal) (φ := .f32) .olt ((T i : EReal) * (k : EReal) : EReal) t) (z : EReal)
      (Ideal.liftRound Int.floor (Ideal.div (Ideal.log ((T i : EReal) * (k : EReal))) q) + (o : EReal)) := rfl

theorem pay11_vec : k0_pay11 v33 v36 v38
    = expVec (FloatOps.ofBits FTy.f32 991054117#32) (FloatOps.ofBits FTy.f32 8388608#32) (FloatOps.ofBits FTy.f32 0#32) (FloatOps.ofBits FTy.f32 1065353216#32)
      (Named.named κ "ln2" 1060205080#32)
      (shapeCast S2x1024x128x1 (multiReduction .maximumf [3] S2x1024x128 (absf (k0_pay10 v33 v36 v38)) 0xFF800000#32
        reduces_S2x1024x128x32_S2x1024x128 (.inl rfl) rfl) shapeCasts_S2x1024x128_S2x1024x128x1) := rfl

theorem pay11_ix (b : Fin 2) (r : Fin 1024) (g : Fin 128) (z : Fin 1) :
    k0_pay11 v33 v36 v38 (ix4 b r g z)
      = refExp ((Finset.univ : Finset (Fin 32)).fold max (Ideal.ofBits .f32 4286578688#32) fun x =>
          FloatOps.absf (F := Ideal) (φ := .f32) (k0_pay10 v33 v36 v38 (ix4 b r g x))) := by
  rw [pay11_vec, expVec_ix, keepdims_ix, rowMax_ix, ← refExp_eq]
  rfl

theorem pay12_ix (b : Fin 2) (r : Fin 1024) (g : Fin 128) :
    k0_pay12 v33 v36 v38 (ix3 b r g)
      = BitVec.setWidth 8 (IntOp.addi (FloatOps.fptosi (F := Ideal) (φ := .f32) 32 (k0_pay11 v33 v36 v38 (ix4 b r g 0))) 127#32) := by
  unfold k0_pay12
  generalize k0_pay11 v33 v36 v38 = E
  pointwise

theorem scaleSpread_ix (S : FVec Ideal S2x1024x128x1 .f32) (b : Fin 2) (r : Fin 1024) (g : Fin 128) (x : Fin 32) :
    broadcastTo S2x1024x128x32 S broadcasts_S2x1024x128x1_S2x1024x128x32 (ix4 b r g x) = S (ix4 b r g 0) := by
  pointwise

theorem ungroup_ix (W : FVec Ideal S2x1024x128x32 .fp8e4m3) (b : Fin 2) (r : Fin 1024) (k : Fin 4096) :
    shapeCast S2x1024x4096 W shapeCasts_S2x1024x128x32_S2x1024x4096 (ix3 b r k) = W (ix4 b r ⟨k.val / 32, by omega⟩ ⟨k.val % 32, by omega⟩) := by
  pointwise

/-- The elementwise part of the scales, over its constant, -/
def scaleVec {s : Shape} (z : Ideal .f32) (E : FVec Ideal s .f32) : FVec Ideal s .f32 := exp2 (subf (broadcast s z) E)

theorem scaleVec_ix {s : Shape} (z : Ideal .f32) (E : FVec Ideal s .f32) (i : s.Idx) : scaleVec z E i = Ideal.exp2 ((z : EReal) - (E i : EReal)) := rfl

/-- and of the codes. -/
def codeVec {s : Shape} (lo hi : Ideal .f32) (Y S : FVec Ideal s .f32) : FVec Ideal s .fp8e4m3 :=
  truncf .fp8e4m3 (minimumf (broadcast s hi) (maximumf (broadcast s lo) (mulf Y S))) bitsLt_fp8e4m3_f32

theorem codeVec_ix {s : Shape} (lo hi : Ideal .f32) (Y S : FVec Ideal s .f32) (i : s.Idx) :
    codeVec lo hi Y S i = (min (hi : EReal) (max (lo : EReal) ((Y i : EReal) * (S i : EReal))) : EReal) := rfl

theorem pay13_vec : k0_pay13 v33 v36 v38
    = shapeCast S2x1024x4096 (codeVec (FloatOps.ofBits FTy.f32 3286237184#32) (FloatOps.ofBits FTy.f32 1138753536#32) (k0_pay10 v33 v36 v38)
        (broadcastTo S2x1024x128x32 (scaleVec (FloatOps.ofBits FTy.f32 0#32) (k0_pay11 v33 v36 v38)) broadcasts_S2x1024x128x1_S2x1024x128x32))
      shapeCasts_S2x1024x128x32_S2x1024x4096 := rfl

theorem pay13_ix (b : Fin 2) (r : Fin 1024) (k : Fin 4096) :
    k0_pay13 v33 v36 v38 (ix3 b r k)
      = (min cTop (max cBot ((k0_pay10 v33 v36 v38 (ix4 b r ⟨k.val / 32, by omega⟩ ⟨k.val % 32, by omega⟩) : EReal)
          * Ideal.exp2 (0 - k0_pay11 v33 v36 v38 (ix4 b r ⟨k.val / 32, by omega⟩ 0)))) : EReal) := by
  rw [pay13_vec, ungroup_ix, codeVec_ix, scaleSpread_ix, scaleVec_ix, ← zero_bits]
  rfl

end Rows

/-! ## The columns -/

section Columns

variable (Y : FVec Ideal S2x1024x4096 .f32)

theorem pay14_ix (b : Fin 2) (q x : Fin 32) (k : Fin 4096) :
    k0_pay14 Y (ix4 b q x k) = Y (ix3 b ⟨q.val * 32 + x.val, by omega⟩ k) := by
  pointwise [k0_pay14]

theorem colMax_ix (Y : FVec Ideal S2x32x32x4096 .f32) (b : Fin 2) (q : Fin 32) (k : Fin 4096) :
    multiReduction .maximumf [2] S2x32x4096 (absf Y) 0xFF800000#32 reduces_S2x32x32x4096_S2x32x4096 (.inl rfl) rfl (ix3 b q k)
      = ((Finset.univ : Finset (Fin 32)).fold max (Ideal.ofBits .f32 4286578688#32) fun x => FloatOps.absf (F := Ideal) (φ := .f32) (Y (ix4 b q x k)) : EReal) := by
  pointwise

theorem colKeep_ix (M : FVec Ideal S2x32x4096 .f32) (b : Fin 2) (q : Fin 32) (z : Fin 1) (k : Fin 4096) :
    shapeCast S2x32x1x4096 M shapeCasts_S2x32x4096_S2x32x1x4096 (ix4 b q z k) = M (ix3 b q k) := by
  pointwise

theorem pay15_vec : k0_pay15 Y
    = expVec (FloatOps.ofBits FTy.f32 991054117#32) (FloatOps.ofBits FTy.f32 8388608#32) (FloatOps.ofBits FTy.f32 0#32) (FloatOps.ofBits FTy.f32 1065353216#32)
      (Named.named κ "ln2" 1060205080#32)
      (shapeCast S2x32x1x4096 (multiReduction .maximumf [2] S2x32x4096 (absf (k0_pay14 Y)) 0xFF800000#32
        reduces_S2x32x32x4096_S2x32x4096 (.inl rfl) rfl) shapeCasts_S2x32x4096_S2x32x1x4096) := rfl

theorem pay15_ix (b : Fin 2) (q : Fin 32) (z : Fin 1) (k : Fin 4096) :
    k0_pay15 Y (ix4 b q z k)
      = refExp ((Finset.univ : Finset (Fin 32)).fold max (Ideal.ofBits .f32 4286578688#32) fun x =>
          FloatOps.absf (F := Ideal) (φ := .f32) (k0_pay14 Y (ix4 b q x k))) := by
  rw [pay15_vec, expVec_ix, colKeep_ix, colMax_ix, ← refExp_eq]
  rfl

theorem pay16_ix (b : Fin 2) (q : Fin 32) (k : Fin 4096) :
    k0_pay16 Y (ix3 b q k)
      = BitVec.setWidth 8 (IntOp.addi (FloatOps.fptosi (F := Ideal) (φ := .f32) 32 (k0_pay15 Y (ix4 b q 0 k))) 127#32) := by
  unfold k0_pay16
  generalize k0_pay15 Y = E
  pointwise

theorem colSpread_ix (S : FVec Ideal S2x32x1x4096 .f32) (b : Fin 2) (q x : Fin 32) (k : Fin 4096) :
    broadcastTo S2x32x32x4096 S broadcasts_S2x32x1x4096_S2x32x32x4096 (ix4 b q x k) = S (ix4 b q 0 k) := by
  pointwise

theorem colUngroup_ix (W : FVec Ideal S2x32x32x4096 .fp8e4m3) (b : Fin 2) (r : Fin 1024) (k : Fin 4096) :
    shapeCast S2x1024x4096 W shapeCasts_S2x32x32x4096_S2x1024x4096 (ix3 b r k) = W (ix4 b ⟨r.val / 32, by omega⟩ ⟨r.val % 32, by omega⟩ k) := by
  pointwise

theorem pay17_vec : k0_pay17 Y
    = shapeCast S2x1024x4096 (codeVec (FloatOps.ofBits FTy.f32 3286237184#32) (FloatOps.ofBits FTy.f32 1138753536#32) (k0_pay14 Y)
        (broadcastTo S2x32x32x4096 (scaleVec (FloatOps.ofBits FTy.f32 0#32) (k0_pay15 Y)) broadcasts_S2x32x1x4096_S2x32x32x4096))
      shapeCasts_S2x32x32x4096_S2x1024x4096 := rfl

theorem pay17_ix (b : Fin 2) (r : Fin 1024) (k : Fin 4096) :
    k0_pay17 Y (ix3 b r k)
      = (min cTop (max cBot ((k0_pay14 Y (ix4 b ⟨r.val / 32, by omega⟩ ⟨r.val % 32, by omega⟩ k) : EReal)
          * Ideal.exp2 (0 - k0_pay15 Y (ix4 b ⟨r.val / 32, by omega⟩ 0 k)))) : EReal) := by
  rw [pay17_vec, colUngroup_ix, codeVec_ix, colSpread_ix, scaleVec_ix, ← zero_bits]
  rfl

end Columns

/-! ## The mask -/

theorem pay18_ix (K : IVec S2x1024x4096 1) (b : Fin 2) (r : Fin 1024) (l : Fin 512) :
    k0_pay18 K (ix3 b r l) = BitVec.setWidth 8 (Finset.fold IntOp.addi (0#32)
      (fun x : Fin 8 => IntOp.shli ArithUnit.vector (BitVec.setWidth 32 (K (ix3 b r ⟨l.val * 8 + x.val, by omega⟩))) (BitVec.ofNat 32 x.val)) Finset.univ) := by
  unfold k0_pay18
  pointwise

end Cert.ReferenceIdeal.Hand
-- ==== Proof.Mask.lean ====
/-
  A byte of the mask: the reference's sum of shifted bits against the kernel's weighted sum.
-/
module

public import proofs.«01_k».proof.Proof.Consts

@[expose] public section

set_option maxRecDepth 16384

open Idealize.ShloMosaic Idealize.SL.Sem

noncomputable section

namespace Cert.Mask

/-- A small natural number, as a word. -/
theorem fptosi_nat (n : ℕ) (h : n < 2 ^ 31) : FloatOps.fptosi (F := Ideal) (φ := .f32) 32 (((n : ℕ) : ℝ) : EReal) = BitVec.ofNat 32 n := by
  change BitVec.ofInt 32 (max _ (min _ (if (0 : ℝ) ≤ (n : ℝ) then ⌊(n : ℝ)⌋ else _))) = _
  rw [if_pos (Nat.cast_nonneg n), Int.floor_natCast, min_eq_right (by norm_num; omega), max_eq_right (by norm_num), BitVec.ofInt_natCast]

/-- What a bit adds. -/
def part (b : BitVec 1) (s : ℕ) : ℕ := if b = 1#1 then 2 ^ s else 0

theorem select_part (b : BitVec 1) (s : ℕ) : Scalar.select b (((2 ^ s : ℕ) : ℝ) : EReal) 0 = (((part b s : ℕ) : ℝ) : EReal) := by
  unfold part
  by_cases h : b = 1#1
  · rw [if_pos h]
    exact if_pos h
  · rw [if_neg h]
    exact (if_neg h).trans (by simp)

theorem sum_cast (f : ℕ → ℕ) (n : ℕ) : (∑ s ∈ Finset.range n, (((f s : ℕ) : ℝ) : EReal)) = (((∑ s ∈ Finset.range n, f s : ℕ) : ℝ) : EReal) := by
  induction n with
  | zero => simp
  | succ n ih => rw [Finset.sum_range_succ, Finset.sum_range_succ, ih]; push_cast; rfl

theorem part_le (b : BitVec 1) (s : ℕ) : part b s ≤ 2 ^ s := by
  unfold part
  split_ifs <;> simp

/-- The two sums give the same byte. -/
theorem byte (k : ℕ → BitVec 1) :
    BitVec.setWidth 8 (Finset.fold IntOp.addi (0#32) (fun x : Fin 8 => IntOp.shli ArithUnit.vector (BitVec.setWidth 32 (k x.val)) (BitVec.ofNat 32 x.val)) Finset.univ)
      = BitVec.setWidth 8 (FloatOps.fptosi (F := Ideal) (φ := .f32) 32
          (∑ s ∈ Finset.range 8, Scalar.select (k s) (((2 ^ s : ℕ) : ℝ) : EReal) 0)) := by
  simp only [select_part]
  rw [sum_cast, fptosi_nat]
  · have h : ∀ a b c d e f g h : BitVec 1,
        IntOp.addi (IntOp.shli ArithUnit.vector (BitVec.setWidth 32 a) 0#32) (IntOp.addi (IntOp.shli ArithUnit.vector (BitVec.setWidth 32 b) 1#32)
          (IntOp.addi (IntOp.shli ArithUnit.vector (BitVec.setWidth 32 c) 2#32) (IntOp.addi (IntOp.shli ArithUnit.vector (BitVec.setWidth 32 d) 3#32)
          (IntOp.addi (IntOp.shli ArithUnit.vector (BitVec.setWidth 32 e) 4#32) (IntOp.addi (IntOp.shli ArithUnit.vector (BitVec.setWidth 32 f) 5#32)
          (IntOp.addi (IntOp.shli ArithUnit.vector (BitVec.setWidth 32 g) 6#32) (IntOp.addi (IntOp.shli ArithUnit.vector (BitVec.setWidth 32 h) 7#32) 0#32)))))))
        = BitVec.ofNat 32 (part a 0 + part b 1 + part c 2 + part d 3 + part e 4 + part f 5 + part g 6 + part h 7) := by decide +kernel
    congr 1
    refine Eq.trans ?_ ((h (k 0) (k 1) (k 2) (k 3) (k 4) (k 5) (k 6) (k 7)).trans ?_)
    · rfl
    · simp [Finset.sum_range_succ]
  · refine lt_of_le_of_lt (Finset.sum_le_sum fun s _ => part_le (k s) s) ?_
    decide

end Cert.Mask
-- ==== Proof.ValueReferenceIdeal.lean ====
/-
  What the reference's run leaves in each result.
-/
module

public import proofs.«01_k».proof.Proof.RefQuant
public import proofs.«01_k».proof.Proof.Mask

@[expose] public section

set_option maxRecDepth 16384

noncomputable section

namespace Cert.ReferenceIdeal.Hand

open Cert.ReferenceIdeal Cert.ReferenceIdeal.Gen Cert.Body
open Idealize.ShloMosaic Idealize.ShloMosaic.TcCoe Idealize.SL.Sem
open Idealize.ShloMosaic.Pipeline (Dat)

/-! ## The quantised payloads, in coordinates -/

namespace Reads

variable {P3 : Vec Ideal S2x1024x4096 .i32} {P1 : Vec Ideal S2x1024x4096 .bf16} {P2 : Vec Ideal S1x1x4096 .f32} {P0 : Vec Ideal S2x1024x4096 .bf16}
  {P4 P5 : Vec Ideal S1x1x4096 .f32} {R : ℕ → Rows} (H : Reads P3 P1 P2 P0 P4 P5 R)

include H

theorem rowGroup (b : Fin 2) (r : Fin 1024) (g : Fin 128) (z : Fin 1) :
    k0_pay11 (k0_pay7 P3 P1 P2 P0) (k0_pay8 P4) P5 (ix4 b r g z) = refExp ((R b.val).rowMax r.val g.val) := by
  rw [pay11_ix]
  simp only [pay10_ix, H.y]
  congr 1
  unfold Rows.rowMax
  rw [← fold_max]
  simp only [mul_comm 32 g.val]
  rfl

theorem rowExpo (b : Fin 2) (r : Fin 1024) (g : Fin 128) :
    k0_pay12 (k0_pay7 P3 P1 P2 P0) (k0_pay8 P4) P5 (ix3 b r g) = refExpo ((R b.val).rowMax r.val g.val) := by
  rw [pay12_ix, H.rowGroup]
  rfl

theorem rowCode (b : Fin 2) (r : Fin 1024) (k : Fin 4096) :
    k0_pay13 (k0_pay7 P3 P1 P2 P0) (k0_pay8 P4) P5 (ix3 b r k) = refCode ((R b.val).y r.val k.val) ((R b.val).rowMax r.val (k.val / 32)) := by
  rw [pay13_ix, H.rowGroup, pay10_ix, H.y]
  simp only [Nat.div_add_mod']
  rfl

theorem colGroup (b : Fin 2) (q : Fin 32) (z : Fin 1) (k : Fin 4096) :
    k0_pay15 (k0_pay9 (k0_pay7 P3 P1 P2 P0) (k0_pay8 P4) P5) (ix4 b q z k) = refExp ((R b.val).colMax q.val k.val) := by
  rw [pay15_ix]
  simp only [pay14_ix, H.y]
  congr 1
  unfold Rows.colMax
  rw [← fold_max]
  simp only [mul_comm 32 q.val]
  rfl

theorem colExpo (b : Fin 2) (q : Fin 32) (k : Fin 4096) :
    k0_pay16 (k0_pay9 (k0_pay7 P3 P1 P2 P0) (k0_pay8 P4) P5) (ix3 b q k) = refExpo ((R b.val).colMax q.val k.val) := by
  rw [pay16_ix, H.colGroup]
  rfl

theorem colCode (b : Fin 2) (r : Fin 1024) (k : Fin 4096) :
    k0_pay17 (k0_pay9 (k0_pay7 P3 P1 P2 P0) (k0_pay8 P4) P5) (ix3 b r k)
      = refCode ((R b.val).y r.val k.val) ((R b.val).colMax (r.val / 32) k.val) := by
  rw [pay17_ix, H.colGroup, pay14_ix, H.y]
  simp only [Nat.div_add_mod']
  rfl

theorem mask (b : Fin 2) (r : Fin 1024) (l : Fin 512) : k0_pay18 (k0_pay1 (F := Ideal) P3) (ix3 b r l) = (R b.val).mask r.val l.val := by
  rw [pay18_ix]
  simp only [H.keep]
  unfold Rows.mask
  rw [← Mask.byte fun s => (R b.val).keep r.val (8 * l.val + s)]
  simp only [mul_comm 8 l.val]

end Reads

/-! ## The results -/

variable (m : (ℓ : Loc nD τ sig) → Buf (Elt Ideal) ℓ)

/-- The row codes, -/
def out0 (c : Dev nD) (i : S2x1024x4096.Idx) : EReal := refCode ((rowsAt m c (i 0).val).y (i 1).val (i 2).val) ((rowsAt m c (i 0).val).rowMax (i 1).val ((i 2).val / 32))
/-- the row exponents, -/
def out1 (c : Dev nD) (i : S2x1024x128.Idx) : BitVec 8 := refExpo ((rowsAt m c (i 0).val).rowMax (i 1).val (i 2).val)
/-- the column codes, -/
def out2 (c : Dev nD) (i : S2x1024x4096.Idx) : EReal := refCode ((rowsAt m c (i 0).val).y (i 1).val (i 2).val) ((rowsAt m c (i 0).val).colMax ((i 1).val / 32) (i 2).val)
/-- the column exponents, -/
def out3 (c : Dev nD) (i : S2x32x4096.Idx) : BitVec 8 := refExpo ((rowsAt m c (i 0).val).colMax (i 1).val (i 2).val)
/-- the mask, -/
def out4 (c : Dev nD) (i : S2x1024x512.Idx) : BitVec 8 := (rowsAt m c (i 0).val).mask (i 1).val (i 2).val
/-- the means, -/
def out5 (c : Dev nD) (i : S2x1024.Idx) : EReal := (rowsAt m c (i 0).val).mean (i 1).val
/-- the reciprocal deviations -/
def out6 (c : Dev nD) (i : S2x1024.Idx) : EReal := (rowsAt m c (i 0).val).rstd (i 1).val
/-- and the residual sums. -/
def out7 (c : Dev nD) (i : S2x1024x4096.Idx) : EReal := (rowsAt m c (i 0).val).h (i 1).val (i 2).val

section Whole

variable (x0 x1 : Vec Ideal S2x1024x4096 .bf16) (x2 : Vec Ideal S1x1x4096 .f32) (x3 : Vec Ideal S2x1024x4096 .i32) (x4 x5 : Vec Ideal S1x1x4096 .f32)

theorem pay19_eq : k0_pay19 x0 x1 x2 x3 x4 x5 = k0_pay7 x3 x1 x2 x0 := by
  unfold k0_pay19
  rw [View.ld_unit_lit _ x3 (by decide), View.ld_unit_lit _ x1 (by decide), View.ld_unit_lit _ x2 (by decide), View.ld_unit_lit _ x0 (by decide)]

theorem pay20_eq : k0_pay20 x0 x1 x2 x3 x4 x5 = k0_pay8 x4 := by
  unfold k0_pay20
  rw [View.ld_unit_lit _ x4 (by decide)]

theorem pay21_eq : k0_pay21 x0 x1 x2 x3 x4 x5 = k0_pay9 (k0_pay7 x3 x1 x2 x0) (k0_pay8 x4) x5 := by
  unfold k0_pay21
  rw [View.ld_unit_lit _ x5 (by decide), pay19_eq, pay20_eq]

end Whole

theorem res0 (c : Dev nD) : (dats m 0 c).arrAt 6 cfg0.N = out0 m c := by
  refine (dats m 0 c).arrAt_eq_of_after_last 6 t0_0 (by decide +kernel) _ fun j => ?_
  blk_simp
  rw [after0_6]
  frame_out
  rw [pay19_eq, pay20_eq]
  idx_vars j
  exact (reads m c).rowCode _ _ _

theorem res1 (c : Dev nD) : (dats m 0 c).arrAt 7 cfg0.N = out1 m c := by
  refine (dats m 0 c).arrAt_eq_of_after_last 7 t0_0 (by decide +kernel) _ fun j => ?_
  blk_simp
  rw [after0_7]
  frame_out
  rw [pay19_eq, pay20_eq]
  idx_vars j
  exact (reads m c).rowExpo _ _ _

theorem res2 (c : Dev nD) : (dats m 0 c).arrAt 8 cfg0.N = out2 m c := by
  refine (dats m 0 c).arrAt_eq_of_after_last 8 t0_0 (by decide +kernel) _ fun j => ?_
  blk_simp
  rw [after0_8]
  frame_out
  rw [pay21_eq]
  idx_vars j
  exact (reads m c).colCode _ _ _

theorem res3 (c : Dev nD) : (dats m 0 c).arrAt 9 cfg0.N = out3 m c := by
  refine (dats m 0 c).arrAt_eq_of_after_last 9 t0_0 (by decide +kernel) _ fun j => ?_
  blk_simp
  rw [after0_9]
  frame_out
  rw [pay21_eq]
  idx_vars j
  exact (reads m c).colExpo _ _ _

theorem res4 (c : Dev nD) : (dats m 0 c).arrAt 10 cfg0.N = out4 m c := by
  refine (dats m 0 c).arrAt_eq_of_after_last 10 t0_0 (by decide +kernel) _ fun j => ?_
  blk_simp
  rw [after0_10]
  frame_out
  idx_vars j
  exact (reads m c).mask _ _ _

theorem res5 (c : Dev nD) : (dats m 0 c).arrAt 11 cfg0.N = out5 m c := by
  refine (dats m 0 c).arrAt_eq_of_after_last 11 t0_0 (by decide +kernel) _ fun j => ?_
  blk_simp
  rw [after0_11]
  frame_out
  idx_vars j
  exact (reads m c).mean _ _

theorem res6 (c : Dev nD) : (dats m 0 c).arrAt 12 cfg0.N = out6 m c := by
  refine (dats m 0 c).arrAt_eq_of_after_last 12 t0_0 (by decide +kernel) _ fun j => ?_
  blk_simp
  rw [after0_12]
  frame_out
  idx_vars j
  exact (reads m c).rstd _ _

theorem res7 (c : Dev nD) : (dats m 0 c).arrAt 13 cfg0.N = out7 m c := by
  refine (dats m 0 c).arrAt_eq_of_after_last 13 t0_0 (by decide +kernel) _ fun j => ?_
  blk_simp
  rw [after0_13]
  frame_out
  idx_vars j
  exact (reads m c).h _ _ _

theorem run_results (ρ : Dev nD → PrngReg) : θ_run defs (onTc (τ := τ) (main (F := Ideal))) ⟨m, fun _ => 0, ρ⟩ (fun r => ∀ c : Dev nD,
    r.2.mem ((c.tc : Thread nD τ).loc main_v3_0) = out0 m c ∧ r.2.mem ((c.tc : Thread nD τ).loc main_v3_1) = out1 m c
      ∧ r.2.mem ((c.tc : Thread nD τ).loc main_v3_2) = out2 m c ∧ r.2.mem ((c.tc : Thread nD τ).loc main_v3_3) = out3 m c
      ∧ r.2.mem ((c.tc : Thread nD τ).loc main_v3_4) = out4 m c ∧ r.2.mem ((c.tc : Thread nD τ).loc main_v3_5) = out5 m c
      ∧ r.2.mem ((c.tc : Thread nD τ).loc main_v3_6) = out6 m c ∧ r.2.mem ((c.tc : Thread nD τ).loc main_v3_7) = out7 m c) :=
  (θ_run defs _ _).mono (fun _ h c => ⟨((h c).1 6).trans (res0 m c), ((h c).1 7).trans (res1 m c), ((h c).1 8).trans (res2 m c), ((h c).1 9).trans (res3 m c), ((h c).1 10).trans (res4 m c), ((h c).1 11).trans (res5 m c), ((h c).1 12).trans (res6 m c), ((h c).1 13).trans (res7 m c)⟩) (run_main m ρ)

/-- The run: every result as above, the arguments as they were. -/
theorem run_values (ρ : Dev nD → PrngReg) : θ_run defs (onTc (τ := τ) (main (F := Ideal))) ⟨m, fun _ => 0, ρ⟩ (fun r => ∀ c : Dev nD,
    (r.2.mem ((c.tc : Thread nD τ).loc main_v3_0) = out0 m c ∧ r.2.mem ((c.tc : Thread nD τ).loc main_v3_1) = out1 m c
      ∧ r.2.mem ((c.tc : Thread nD τ).loc main_v3_2) = out2 m c ∧ r.2.mem ((c.tc : Thread nD τ).loc main_v3_3) = out3 m c
      ∧ r.2.mem ((c.tc : Thread nD τ).loc main_v3_4) = out4 m c ∧ r.2.mem ((c.tc : Thread nD τ).loc main_v3_5) = out5 m c
      ∧ r.2.mem ((c.tc : Thread nD τ).loc main_v3_6) = out6 m c ∧ r.2.mem ((c.tc : Thread nD τ).loc main_v3_7) = out7 m c)
    ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨h.1 c, h.2 c⟩) (θ_run_and (run_results m ρ) (unchanged m ρ))

end Cert.ReferenceIdeal.Hand
-- ==== Proof.Scalars.lean ====
/-
  The exponent of a group: the kernel's search over the powers of two against the reference's logarithm.
-/
module

public import proofs.«01_k».proof.Proof.RefQuant

@[expose] public section

set_option maxRecDepth 16384

open Idealize.ShloMosaic Idealize.SL.Sem

noncomputable section

namespace Cert.Scalars

open Cert.Body Cert.ReferenceIdeal.Hand

/-- Where the search stands: at `n`, with the steps below `w` still to come. -/
structure At (t : ℝ) (n w : ℕ) : Prop where
  lower : n = 0 ∨ (2 : ℝ) ^ ((n : ℤ) - 127) ≤ t
  upper : t < (2 : ℝ) ^ (((n + w : ℕ) : ℤ) - 127)
  room : n + w ≤ 256

theorem two_lt {a b : ℤ} (h : a < b) : (2 : ℝ) ^ a < (2 : ℝ) ^ b := zpow_lt_zpow_right₀ (by norm_num) h
theorem two_le {a b : ℤ} (h : a ≤ b) : (2 : ℝ) ^ a ≤ (2 : ℝ) ^ b := zpow_le_zpow_right₀ (by norm_num) h

theorem cmp_iff (t : ℝ) (ht : t < (2 : ℝ) ^ (126 : ℤ)) (n : ℕ) (h0 : 0 < n) (h1 : n < 256) :
    Ideal.ofBits .f32 (IntOp.shli .vector (BitVec.ofNat 32 n) 23#32) ≤ (t : EReal) ↔ (2 : ℝ) ^ ((n : ℤ) - 127) ≤ t := by
  rcases Nat.lt_or_ge n 255 with h | h
  · rw [Consts.pow n h0 h, EReal.coe_le_coe_iff]
  · obtain rfl : n = 255 := by omega
    rw [Consts.pow_top]
    constructor
    · intro h
      exact absurd (top_le_iff.mp h) (EReal.coe_ne_top t)
    · intro h
      exact absurd (lt_of_le_of_lt h ht) (not_lt.mpr (two_le (by norm_num)))

/-- One step of the search. -/
theorem step (t : ℝ) (ht : t < (2 : ℝ) ^ (126 : ℤ)) (n w : ℕ) (hw : 0 < w) (h : At t n (2 * w)) :
    ∃ n', expStep1 (t : EReal) (BitVec.ofNat 32 n) (BitVec.ofNat 32 w) = BitVec.ofNat 32 n' ∧ At t n' w := by
  have hr := h.room
  have ha : IntOp.addi (BitVec.ofNat 32 n) (BitVec.ofNat 32 w) = BitVec.ofNat 32 (n + w) := (BitVec.ofNat_add n w).symm
  unfold expStep1
  rw [ha]
  by_cases hc : (2 : ℝ) ^ (((n + w : ℕ) : ℤ) - 127) ≤ t
  · refine ⟨n + w, if_pos ((cmp_iff t ht (n + w) (by omega) (by omega)).mpr hc), .inr hc, ?_, by omega⟩
    rw [show n + w + w = n + 2 * w by ring]
    exact h.upper
  · exact ⟨n, if_neg (fun h => hc ((cmp_iff t ht (n + w) (by omega) (by omega)).mp h)), h.lower, not_le.mp hc, by omega⟩

/-- What the search finds. -/
theorem search (t : ℝ) (ht : t < (2 : ℝ) ^ (126 : ℤ)) : ∃ n, search1 (t : EReal) = BitVec.ofNat 32 n ∧ At t n 1 := by
  unfold search1
  have h0 : At t 0 (2 * 128) := ⟨.inl rfl, ht.trans (two_lt (by norm_num)), by norm_num⟩
  obtain ⟨n1, e1, h1⟩ := step t ht 0 128 (by norm_num) h0
  obtain ⟨n2, e2, h2⟩ := step t ht n1 64 (by norm_num) h1
  obtain ⟨n3, e3, h3⟩ := step t ht n2 32 (by norm_num) h2
  obtain ⟨n4, e4, h4⟩ := step t ht n3 16 (by norm_num) h3
  obtain ⟨n5, e5, h5⟩ := step t ht n4 8 (by norm_num) h4
  obtain ⟨n6, e6, h6⟩ := step t ht n5 4 (by norm_num) h5
  obtain ⟨n7, e7, h7⟩ := step t ht n6 2 (by norm_num) h6
  obtain ⟨n8, e8, h8⟩ := step t ht n7 1 (by norm_num) h7
  refine ⟨n8, ?_, h8⟩
  rw [← e8, ← e7, ← e6, ← e5, ← e4, ← e3, ← e2, ← e1]

/-- The floor of the binary logarithm. -/
theorem floor_log (t : ℝ) (k : ℤ) (h0 : (2 : ℝ) ^ k ≤ t) (h1 : t < (2 : ℝ) ^ (k + 1)) : ⌊Real.log t * (1 / Real.log 2)⌋ = k := by
  have hl : 0 < Real.log 2 := Real.log_pos (by norm_num)
  have ht : 0 < t := lt_of_lt_of_le (by positivity) h0
  rw [mul_one_div, Int.floor_eq_iff, le_div_iff₀ hl, div_lt_iff₀ hl]
  constructor
  · rw [← Real.log_zpow]
    exact Real.log_le_log (by positivity) h0
  · have := Real.log_lt_log ht h1
    rw [Real.log_zpow] at this
    push_cast at this
    exact this

/-- The field of a group: the kernel's search and the reference's logarithm give the same. -/
theorem field (a : EReal) (t : ℝ) (hat : a * cInv448 = (t : EReal)) (ht : t < (2 : ℝ) ^ (126 : ℤ)) :
    ∃ f : ℕ, 0 < f ∧ f < 253 ∧ field1 a = BitVec.ofNat 32 f ∧ refExp a = (((f : ℝ) - 126 : ℝ) : EReal) := by
  obtain ⟨n, hn, h⟩ := search t ht
  unfold field1 refExp
  rw [hat, hn, Consts.tiny_eq]
  have hu := h.upper
  rcases Nat.eq_zero_or_pos n with rfl | hp
  · refine ⟨126, by norm_num, by norm_num, rfl, ?_⟩
    have hlt : t < (2 : ℝ) ^ (-126 : ℤ) := by
      have := hu
      norm_num at this ⊢
      exact this
    have hc : FloatOps.cmpf (F := Ideal) (φ := .f32) .olt (t : EReal) (((2 : ℝ) ^ (-126 : ℤ) : ℝ) : EReal) = 1#1 := by
      change BitVec.ofBool (decide ((t : EReal) < _)) = _
      rw [decide_eq_true (EReal.coe_lt_coe_iff.mpr hlt)]
      rfl
    rw [hc]
    change (0 : EReal) = _
    norm_num
  · have hl : (2 : ℝ) ^ ((n : ℤ) - 127) ≤ t := h.lower.resolve_left (by omega)
    have h252 : n < 253 := by
      by_contra hcon
      exact absurd (lt_of_le_of_lt hl ht) (not_lt.mpr (two_le (by omega)))
    have hge : ¬ t < (2 : ℝ) ^ (-126 : ℤ) := not_lt.mpr ((two_le (by omega)).trans hl)
    have ht0 : 0 < t := lt_of_lt_of_le (by positivity) hl
    have hc : FloatOps.cmpf (F := Ideal) (φ := .f32) .olt (t : EReal) (((2 : ℝ) ^ (-126 : ℤ) : ℝ) : EReal) = 0#1 := by
      change BitVec.ofBool (decide ((t : EReal) < _)) = _
      rw [decide_eq_false (fun h => hge (EReal.coe_lt_coe_iff.mp h))]
      rfl
    refine ⟨n, hp, h252, ?_, ?_⟩
    · have hs : ∀ n : Fin 253, 0 < n.val → Scalar.select (IntOp.ori (IntOp.cmpi .eq (BitVec.ofNat 32 n.val) 0#32) (IntOp.cmpi .eq (BitVec.ofNat 32 n.val) 255#32))
          126#32 (BitVec.ofNat 32 n.val) = BitVec.ofNat 32 n.val := by decide +kernel
      exact hs ⟨n, h252⟩ hp
    · rw [hc]
      change Ideal.liftRound Int.floor (Ideal.div (if t ≤ 0 then ⊥ else (Real.log t : EReal)) _) + 1 = _
      rw [if_neg (not_le.mpr ht0), Ideal.div_coe (Real.log_pos (by norm_num)).ne', ← EReal.coe_mul, Ideal.liftRound_coe,
        floor_log t ((n : ℤ) - 127) hl (by
          have := hu
          push_cast at this
          rw [show ((n : ℤ) - 127 + 1) = (n : ℤ) + 1 - 127 by ring]
          exact this)]
      rw [← EReal.coe_one, ← EReal.coe_add]
      congr 1
      push_cast
      ring

/-- The scales agree, -/
theorem scale (f : ℕ) (h0 : 0 < f) (h1 : f < 253) : scale1 (BitVec.ofNat 32 f) = Ideal.exp2 (0 - (((f : ℝ) - 126 : ℝ) : EReal)) := by
  have hs : ∀ f : Fin 253, IntOp.subi 253#32 (BitVec.ofNat 32 f.val) = BitVec.ofNat 32 (253 - f.val) := by decide +kernel
  unfold scale1
  rw [hs ⟨f, h1⟩, Consts.pow _ (by simp only; omega) (by simp only; omega), zero_sub, ← EReal.coe_neg]
  change _ = ((Real.rpow 2 (-((f : ℝ) - 126)) : ℝ) : EReal)
  congr 1
  rw [show (-((f : ℝ) - 126)) = ((((253 - f : ℕ) : ℤ) - 127 : ℤ) : ℝ) by
    rw [Nat.cast_sub (by omega)]
    push_cast
    ring]
  exact (Real.rpow_intCast 2 _).symm

/-- and the bytes. -/
theorem byte (f : ℕ) (h1 : f < 253) :
    BitVec.setWidth 8 (IntOp.addi (BitVec.ofNat 32 f) 1#32)
      = BitVec.setWidth 8 (IntOp.addi (FloatOps.fptosi (F := Ideal) (φ := .f32) 32 (((f : ℝ) - 126 : ℝ) : EReal)) 127#32) := by
  have hi : FloatOps.fptosi (F := Ideal) (φ := .f32) 32 (((f : ℝ) - 126 : ℝ) : EReal) = BitVec.ofInt 32 ((f : ℤ) - 126) := by
    change BitVec.ofInt 32 (max _ (min _ (if (0 : ℝ) ≤ (f : ℝ) - 126 then ⌊(f : ℝ) - 126⌋ else ⌈(f : ℝ) - 126⌉))) = _
    rw [show ((f : ℝ) - 126) = (((f : ℤ) - 126 : ℤ) : ℝ) by push_cast; ring, Int.floor_intCast, Int.ceil_intCast, ite_self,
      min_eq_right (by norm_num; omega), max_eq_right (by norm_num; omega)]
  rw [hi]
  have hs : ∀ f : Fin 253, BitVec.setWidth 8 (IntOp.addi (BitVec.ofNat 32 f.val) 1#32)
      = BitVec.setWidth 8 (IntOp.addi (BitVec.ofInt 32 ((f.val : ℤ) - 126)) 127#32) := by decide +kernel
  exact hs ⟨f, h1⟩

/-- A group whose maximum is bounded has the same codes and exponent in the kernel and in the reference. -/
theorem agree (a : EReal) (h0 : 0 ≤ a) (h1 : a ≤ ((65 * (2 : ℝ) ^ (128 : ℕ) : ℝ) : EReal)) :
    (∀ v, Rows.code v a = refCode v a) ∧ Rows.expo a = refExpo a := by
  lift a to ℝ using ⟨ne_top_of_le_ne_top (EReal.coe_ne_top _) h1, ne_bot_of_le_ne_bot EReal.zero_ne_bot h0⟩
  have h1' : a ≤ 65 * (2 : ℝ) ^ (128 : ℕ) := EReal.coe_le_coe_iff.mp h1
  obtain ⟨f, f0, f1, hf, he⟩ := field (a : EReal) (a * (9586981 * (2 : ℝ) ^ (-32 : ℤ))) (by rw [Consts.cInv448_eq, ← EReal.coe_mul])
    (lt_of_le_of_lt (mul_le_mul_of_nonneg_right h1' (by positivity)) (by norm_num [zpow_neg]))
  constructor
  · intro v
    unfold Rows.code refCode
    rw [hf, he, scale f f0 f1]
  · unfold Rows.expo refExpo
    rw [hf, he, byte f f1]

end Cert.Scalars
-- ==== Proof.Bound.lean ====
/-
  A normalised element is at most 64, so a bounded gain and shift bound the result.
-/
module

public import proofs.«01_k».proof.Proof.Consts

@[expose] public section

set_option maxRecDepth 16384

open Idealize.ShloMosaic Idealize.SL.Sem

noncomputable section

namespace Cert.Bound

open Cert.Body

theorem square_nonneg (x : EReal) : 0 ≤ x * x := by
  induction x with
  | bot => simp
  | top => simp
  | coe r => exact_mod_cast mul_self_nonneg r

/-- A sum of real numbers is real. -/
theorem sum_coe (f : ℕ → ℝ) (n : ℕ) : (∑ c ∈ Finset.range n, ((f c : ℝ) : EReal)) = ((∑ c ∈ Finset.range n, f c : ℝ) : EReal) := by
  induction n with
  | zero => simp
  | succ n ih => rw [Finset.sum_range_succ, Finset.sum_range_succ, ih, EReal.coe_add]

/-- A row's element over the row's deviation is a real number of at most 64. -/
theorem normalised (d : ℕ → EReal) (k : ℕ) (hk : k < 4096) :
    ∃ u : ℝ, |u| ≤ 64 ∧ d k * Ideal.rsqrt ((∑ c ∈ Finset.range 4096, d c * d c) * cInv + cEps) = (u : EReal) := by
  obtain ⟨e, he, hE⟩ := Consts.cEps_pos
  by_cases hfin : ∀ c < 4096, d c ≠ ⊥ ∧ d c ≠ ⊤
  · set g : ℕ → ℝ := fun c => (d c).toReal with hg
    have hd : ∀ c < 4096, d c = ((g c : ℝ) : EReal) := fun c hc => (EReal.coe_toReal (hfin c hc).2 (hfin c hc).1).symm
    have hs : (∑ c ∈ Finset.range 4096, d c * d c) = ((∑ c ∈ Finset.range 4096, g c * g c : ℝ) : EReal) := by
      rw [← sum_coe]
      refine Finset.sum_congr rfl fun c hc => ?_
      rw [hd c (Finset.mem_range.mp hc), EReal.coe_mul]
    set S : ℝ := ∑ c ∈ Finset.range 4096, g c * g c with hS
    have hS0 : 0 ≤ S := Finset.sum_nonneg fun c _ => mul_self_nonneg _
    have hle : g k * g k ≤ S := Finset.single_le_sum (f := fun c => g c * g c) (fun c _ => mul_self_nonneg _) (Finset.mem_range.mpr hk)
    have hv : 0 < S * (1 / 4096) + e := by positivity
    rw [hs, Consts.cInv_eq, hE, ← EReal.coe_mul, ← EReal.coe_add, hd k hk, Ideal.rsqrt_coe, if_neg (not_lt.mpr hv.le), if_neg hv.ne', ← EReal.coe_mul]
    refine ⟨_, ?_, rfl⟩
    have hq : 0 < Real.sqrt (S * (1 / 4096) + e) := Real.sqrt_pos.mpr hv
    rw [← div_eq_mul_inv, abs_div, abs_of_pos hq, div_le_iff₀ hq]
    refine abs_le_of_sq_le_sq ?_ (by positivity)
    rw [mul_pow, Real.sq_sqrt hv.le]
    nlinarith
  · push Not at hfin
    obtain ⟨c, hc, hcd⟩ := hfin
    have hsq : d c * d c = ⊤ := by
      by_cases hb : d c = ⊥
      · rw [hb]; simp
      · rw [hcd hb]; simp
    have hs : (∑ c ∈ Finset.range 4096, d c * d c) = ⊤ :=
      top_le_iff.mp (hsq ▸ Finset.single_le_sum (f := fun c => d c * d c) (fun c _ => square_nonneg _) (Finset.mem_range.mpr hc))
    rw [hs, Consts.cInv_eq, hE, EReal.top_mul_coe_of_pos (by norm_num), EReal.top_add_coe, Ideal.rsqrt_top, mul_zero]
    exact ⟨0, by norm_num, rfl⟩

/-- The gain and the shift are within the finite numbers. -/
structure Affine (R : Rows) : Prop where
  ga (c : ℕ) : ∃ g : ℝ, |g| ≤ (2 : ℝ) ^ (128 : ℕ) ∧ R.ga c = (g : EReal)
  be (c : ℕ) : ∃ g : ℝ, |g| ≤ (2 : ℝ) ^ (128 : ℕ) ∧ R.be c = (g : EReal)

variable {R : Rows} (H : Affine R)

include H

theorem ay_le (r c : ℕ) (hc : c < 4096) : R.ay r c ≤ ((65 * (2 : ℝ) ^ (128 : ℕ) : ℝ) : EReal) := by
  obtain ⟨u, hu, eu⟩ := normalised (R.cen r) c hc
  obtain ⟨g, hg, eg⟩ := H.ga c
  obtain ⟨b, hb, eb⟩ := H.be c
  have hy : R.y r c = ((u * g + b : ℝ) : EReal) := by
    unfold Rows.y Rows.rstd
    rw [eu, eg, eb, ← EReal.coe_mul, ← EReal.coe_add]
  have hab : |u * g + b| ≤ 65 * (2 : ℝ) ^ (128 : ℕ) := by
    refine (abs_add_le _ _).trans ?_
    rw [abs_mul]
    have := mul_le_mul hu hg (abs_nonneg g) (by norm_num)
    linarith
  unfold Rows.ay
  rw [hy]
  change max ((u * g + b : ℝ) : EReal) (-((u * g + b : ℝ) : EReal)) ≤ _
  rw [← EReal.coe_neg]
  exact max_le (EReal.coe_le_coe_iff.mpr ((le_abs_self _).trans hab)) (EReal.coe_le_coe_iff.mpr ((neg_le_abs _).trans hab))

omit H in
theorem ay_nonneg (r c : ℕ) : 0 ≤ R.ay r c := by
  unfold Rows.ay
  change 0 ≤ max (R.y r c) (-(R.y r c))
  rcases le_total 0 (R.y r c) with h | h
  · exact le_max_of_le_left h
  · exact le_max_of_le_right (EReal.neg_nonneg.mpr h)

theorem rowMax_le (r g : ℕ) (hg : g < 128) : 0 ≤ R.rowMax r g ∧ R.rowMax r g ≤ ((65 * (2 : ℝ) ^ (128 : ℕ) : ℝ) : EReal) := by
  unfold Rows.rowMax
  refine ⟨(ay_nonneg r (32 * g + 0)).trans (Finset.le_sup (f := fun x => R.ay r (32 * g + x)) (Finset.mem_range.mpr (by norm_num))), Finset.sup_le fun x hx => ay_le H _ _ ?_⟩
  have := Finset.mem_range.mp hx
  omega

theorem colMax_le (q c : ℕ) (hc : c < 4096) : 0 ≤ R.colMax q c ∧ R.colMax q c ≤ ((65 * (2 : ℝ) ^ (128 : ℕ) : ℝ) : EReal) := by
  unfold Rows.colMax
  exact ⟨(ay_nonneg (32 * q + 0) c).trans (Finset.le_sup (f := fun x => R.ay (32 * q + x) c) (Finset.mem_range.mpr (by norm_num))), Finset.sup_le fun x _ => ay_le H _ _ hc⟩

end Cert.Bound
-- ==== Proof.Agree.lean ====
/-
  Equal arguments give the kernel and the reference equal results.
-/
module

public import proofs.«01_k».proof.Defs
public import proofs.«01_k».proof.Proof.ValueKernelIdeal
public import proofs.«01_k».proof.Proof.ValueReferenceIdeal
public import proofs.«01_k».proof.Proof.Scalars
public import proofs.«01_k».proof.Proof.Bound

@[expose] public section

set_option maxRecDepth 16384

noncomputable section

namespace Cert.Proof

open Idealize.ShloMosaic Idealize.ShloMosaic.TcCoe Idealize.SL.Sem

/-- A number whose absolute value is at most the largest finite one is real, and bounded. -/
theorem finite_of (x : EReal) (h : FloatOps.cmpf (F := Ideal) (φ := .f32) .ole (max x (-x) : EReal) (Ideal.ofBits .f32 2139095039#32) = 1#1) :
    ∃ g : ℝ, |g| ≤ (2 : ℝ) ^ (128 : ℕ) ∧ x = (g : EReal) := by
  obtain ⟨b, hb, eb⟩ := Consts.max_le
  rw [eb] at h
  have hle : max x (-x) ≤ (b : EReal) := by
    by_contra hn
    have hz : FloatOps.cmpf (F := Ideal) (φ := .f32) .ole (max x (-x) : EReal) (b : EReal) = 0#1 := by
      change BitVec.ofBool (decide (_ ≤ _)) = _
      rw [decide_eq_false hn]
      rfl
    rw [hz] at h
    exact absurd h (by decide)
  induction x with
  | bot => exact absurd (top_le_iff.mp ((le_max_right (⊥ : EReal) (-⊥)).trans hle)) (EReal.coe_ne_top b)
  | top => exact absurd (top_le_iff.mp ((le_max_left (⊤ : EReal) (-⊤)).trans hle)) (EReal.coe_ne_top b)
  | coe g =>
    refine ⟨g, abs_le.mpr ⟨?_, ?_⟩, rfl⟩
    · have := (le_max_right _ _).trans hle
      rw [← EReal.coe_neg, EReal.coe_le_coe_iff] at this
      linarith
    · exact (EReal.coe_le_coe_iff.mp ((le_max_left _ _).trans hle)).trans hb

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem affine [Cert.Pre_finite_affine.Facts] (c : Dev Cert.KernelIdeal.nD) (b : ℕ) (h : Pre_KernelIdeal_finite_affine m) : Bound.Affine (Cert.KernelIdeal.Hand.rowsAt m c b) where
  ga k := finite_of _ (congrFun (h c).1 (ix1 (Fin.ofNat 4096 k)))
  be k := finite_of _ (congrFun (h c).2 (ix1 (Fin.ofNat 4096 k)))

/-- The arguments are the same. -/
abbrev Same : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable {m m'}

theorem rows_eq (hs : Same m m') (c : Dev Cert.KernelIdeal.nD) (b : ℕ) : Cert.ReferenceIdeal.Hand.rowsAt m' c b = Cert.KernelIdeal.Hand.rowsAt m c b := by
  obtain ⟨h0, h1, h2, h3, h4, h5⟩ := hs c
  unfold Cert.ReferenceIdeal.Hand.rowsAt Cert.KernelIdeal.Hand.rowsAt
  rw [h0, h1, h2, h3, h4, h5]

section

variable (hs : Same m m') (c : Dev Cert.KernelIdeal.nD)

include hs

theorem eq4 : Cert.ReferenceIdeal.Hand.out4 m' c = Cert.KernelIdeal.Hand.out4 m c :=
  funext fun i => congrArg (fun R : Rows => R.mask (i 1).val (i 2).val) (rows_eq hs c (i 0).val)

theorem eq5 : Cert.ReferenceIdeal.Hand.out5 m' c = Cert.KernelIdeal.Hand.out5 m c :=
  funext fun i => congrArg (fun R : Rows => R.mean (i 1).val) (rows_eq hs c (i 0).val)

theorem eq6 : Cert.ReferenceIdeal.Hand.out6 m' c = Cert.KernelIdeal.Hand.out6 m c :=
  funext fun i => congrArg (fun R : Rows => R.rstd (i 1).val) (rows_eq hs c (i 0).val)

theorem eq7 : Cert.ReferenceIdeal.Hand.out7 m' c = Cert.KernelIdeal.Hand.out7 m c :=
  funext fun i => congrArg (fun R : Rows => R.h (i 1).val (i 2).val) (rows_eq hs c (i 0).val)

variable [Cert.Pre_finite_affine.Facts] (hp : Pre_KernelIdeal_finite_affine m)

include hp

theorem eq0 : Cert.ReferenceIdeal.Hand.out0 m' c = Cert.KernelIdeal.Hand.out0 m c := by
  funext i
  have i2 : (i 2).val < 4096 := (i 2).isLt
  obtain ⟨l, u⟩ := Bound.rowMax_le (affine m c (i 0).val hp) (i 1).val ((i 2).val / 32) (by omega)
  unfold Cert.ReferenceIdeal.Hand.out0 Cert.KernelIdeal.Hand.out0
  rw [rows_eq hs]
  exact ((Scalars.agree _ l u).1 _).symm

theorem eq1 : Cert.ReferenceIdeal.Hand.out1 m' c = Cert.KernelIdeal.Hand.out1 m c := by
  funext i
  obtain ⟨l, u⟩ := Bound.rowMax_le (affine m c (i 0).val hp) (i 1).val (i 2).val (i 2).isLt
  unfold Cert.ReferenceIdeal.Hand.out1 Cert.KernelIdeal.Hand.out1
  rw [rows_eq hs]
  exact (Scalars.agree _ l u).2.symm

theorem eq2 : Cert.ReferenceIdeal.Hand.out2 m' c = Cert.KernelIdeal.Hand.out2 m c := by
  funext i
  obtain ⟨l, u⟩ := Bound.colMax_le (affine m c (i 0).val hp) ((i 1).val / 32) (i 2).val (i 2).isLt
  unfold Cert.ReferenceIdeal.Hand.out2 Cert.KernelIdeal.Hand.out2
  rw [rows_eq hs]
  exact ((Scalars.agree _ l u).1 _).symm

theorem eq3 : Cert.ReferenceIdeal.Hand.out3 m' c = Cert.KernelIdeal.Hand.out3 m c := by
  funext i
  obtain ⟨l, u⟩ := Bound.colMax_le (affine m c (i 0).val hp) (i 1).val (i 2).val (i 2).isLt
  unfold Cert.ReferenceIdeal.Hand.out3 Cert.KernelIdeal.Hand.out3
  rw [rows_eq hs]
  exact (Scalars.agree _ l u).2.symm

end

theorem algebraic [hPre_finite_affine : Cert.Pre_finite_affine.Facts] : algebraic_KernelIdeal_ReferenceIdeal_pre_finite_affine := by
  intro m g m' g' hp hs
  refine ⟨Cert.KernelIdeal.Hand.out0 m, Cert.KernelIdeal.Hand.out1 m, Cert.KernelIdeal.Hand.out2 m, Cert.KernelIdeal.Hand.out3 m,
    Cert.KernelIdeal.Hand.out4 m, Cert.KernelIdeal.Hand.out5 m, Cert.KernelIdeal.Hand.out6 m, Cert.KernelIdeal.Hand.out7 m, ?_, ?_⟩
  · refine (θ_run _ _ _).mono (fun r h c => ?_) (Cert.KernelIdeal.Hand.run_values m g)
    obtain ⟨⟨h0, h1, h2, h3, h4, h5, h6, h7⟩, ha⟩ := h c
    exact ⟨h0, h1, h2, h3, h4, h5, h6, h7, ha⟩
  · refine (θ_run _ _ _).mono (fun r h c => ?_) (Cert.ReferenceIdeal.Hand.run_values m' g')
    obtain ⟨⟨h0, h1, h2, h3, h4, h5, h6, h7⟩, ha⟩ := h c
    exact ⟨h0.trans (eq0 hs c hp), h1.trans (eq1 hs c hp), h2.trans (eq2 hs c hp), h3.trans (eq3 hs c hp),
      h4.trans (eq4 hs c), h5.trans (eq5 hs c), h6.trans (eq6 hs c), h7.trans (eq7 hs c), ha⟩

end Cert.Proof
-- ==== Proof.lean ====
module

public import proofs.«01_k».proof.Defs
public import proofs.«01_k».proof.Proof.RunKernel
public import proofs.«01_k».proof.Proof.RunKernelIdeal
public import proofs.«01_k».proof.Proof.Gen.ReferenceIdeal.Frame
public import proofs.«01_k».proof.Proof.Agree
public import Idealize.ShloMosaic.Adequacy
public import Idealize.ShloMosaic.Init

@[expose] public section

noncomputable section

namespace Cert.Proof

open Idealize.ShloMosaic Idealize.SL.Sem

/-- The precondition's one side condition: a number spreads over a vector. -/
theorem preFacts : Cert.Pre_finite_affine.Facts := ⟨by decide⟩

theorem claim : Cert.Claim :=
  ⟨inferInstance, inferInstance, inferInstance, preFacts,
    fun m g _ => Cert.Kernel.Hand.frame m g, fun m g _ => Cert.KernelIdeal.Hand.frame m g, fun m g _ => Cert.KernelIdeal.Hand.frame m g,
    fun m g _ => Cert.ReferenceIdeal.Gen.frame m g, fun m g _ => Cert.ReferenceIdeal.Gen.frame m g, trivial, algebraic (hPre_finite_affine := preFacts)⟩

end Cert.Proof

end
